-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S4096x256 : Shape := ⟨2, ![4096, 256]⟩
abbrev S16 : Shape := ⟨1, ![16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v16 : IVec S_ 1) (main_v17 : FVec F S4096x1024 .f32) : IVec S_ 1 :=
  let main_cst_4 : FVec F S_ .f32 := constant S_ .f32 0x7F800000#32
  let main_v18 : FVec F S4096x1024 .f32 := broadcastInDim S4096x1024 ![] bcast_S_S4096x1024 main_cst_4
  let main_v19 : IVec S4096x1024 1 := cmpf .olt main_v17 main_v18
  let main_c_5 : IVec S_ 1 := constantI S_ 1 1#1
  let main_v20 : IVec S_ 1 := (fun x v => Host.reduce IntOp.andi x v reducesTo_S4096x1024_S_d0_1 h_S_) main_v19 main_c_5
  let main_v21 : IVec S_ 1 := andi main_v16 main_v20
  main_v21

def fn {F : FTy → Type} [FloatOps F] (main_arg0 : FVec F S4096x1024 .bf16) (main_arg1 : FVec F S4096x256 .bf16) (main_arg2 : FVec F S16 .f32) (main_arg3 : FVec F S4096x1024 .bf16) : IVec S_ 1 :=
  let main_v0 : FVec F S4096x1024 .f32 := (extf .f32 · bitsLt_bf16_f32) main_arg0
  let main_v1 : FVec F S4096x256 .f32 := (extf .f32 · bitsLt_bf16_f32) main_arg1
  let main_v2 : FVec F S4096x1024 .f32 := (extf .f32 · bitsLt_bf16_f32) main_arg3
  let main_v3 : FVec F S4096x1024 .f32 := Host.absf main_v0
  let main_cst : FVec F S_ .f32 := constant S_ .f32 0x7F800000#32
  let main_v4 : FVec F S4096x1024 .f32 := broadcastInDim S4096x1024 ![] bcast_S_S4096x1024 main_cst
  let main_v5 : IVec S4096x1024 1 := cmpf .olt main_v3 main_v4
  let main_c : IVec S_ 1 := constantI S_ 1 1#1
  let main_v6 : IVec S_ 1 := (fun x v => Host.reduce IntOp.andi x v reducesTo_S4096x1024_S_d0_1 h_S_) main_v5 main_c
  let main_v7 : FVec F S4096x256 .f32 := Host.absf main_v1
  let main_cst_0 : FVec F S_ .f32 := constant S_ .f32 0x7F800000#32
  let main_v8 : FVec F S4096x256 .f32 := broadcastInDim S4096x256 ![] bcast_S_S4096x256 main_cst_0
  let main_v9 : IVec S4096x256 1 := cmpf .olt main_v7 main_v8
  let main_c_1 : IVec S_ 1 := constantI S_ 1 1#1
  let main_v10 : IVec S_ 1 := (fun x v => Host.reduce IntOp.andi x v reducesTo_S4096x256_S_d0_1 h_S_) main_v9 main_c_1
  let main_v11 : IVec S_ 1 := andi main_v6 main_v10
  let main_v12 : FVec F S16 .f32 := Host.absf main_arg2
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_c_3 : IVec S_ 1 := constantI S_ 1 1#1
  let main_v15 : IVec S_ 1 := (fun x v => Host.reduce IntOp.andi x v reducesTo_S16_S_d0 h_S_) main_v14 main_c_3
  let main_v16 : IVec S_ 1 := andi main_v11 main_v15
  let main_v17 : FVec F S4096x1024 .f32 := Host.absf main_v2
  fn_part1 (F := F) main_v16 main_v17
-- ==== Kernel.lean ====
abbrev S4096x1024 : Shape := ⟨2, ![4096, 1024]⟩
abbrev S4096x256 : Shape := ⟨2, ![4096, 256]⟩
abbrev S16 : Shape := ⟨1, ![16]⟩
abbrev S1x128 : Shape := ⟨2, ![1, 128]⟩
abbrev S128x1024 : Shape := ⟨2, ![128, 1024]⟩
abbrev S128x256 : Shape := ⟨2, ![128, 256]⟩
abbrev S128x128 : Shape := ⟨2, ![128, 128]⟩
abbrev S1024x1 : Shape := ⟨2, ![1024, 1]⟩
abbrev S1 : Shape := ⟨1, ![1]⟩
abbrev S1024x128 : Shape := ⟨2, ![1024, 128]⟩
abbrev S1024 : Shape := ⟨1, ![1024]⟩
abbrev S128x1 : Shape := ⟨2, ![128, 1]⟩
abbrev S1x1 : Shape := ⟨2, ![1, 1]⟩

abbrev nBuf : Space → Nat
  | .hbm => 7
  | .vmem => 14
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S16, .f32⟩
  | .hbm, ⟨3, _⟩ => ⟨S4096x1024, .bf16⟩
  | .hbm, ⟨4, _⟩ => ⟨S4096x1024, .bf16⟩
  | .hbm, ⟨5, _⟩ => ⟨S4096x256, .bf16⟩
  | .hbm, ⟨6, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .bf16⟩
  | .local _ .vmem, ⟨11, _⟩ => ⟨S128x256, .bf16⟩
  | .local _ .vmem, ⟨12, _⟩ => ⟨S1x128, .f32⟩
  | .local _ .vmem, ⟨13, _⟩ => ⟨S128x256, .f32⟩
  | .local _ .smem, ⟨0, _⟩ => ⟨S16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c32_i32_2 : BitVec 32 := 32#32
  let v6 : BitVec 1 := Scalar.cmpi .slt arg0 c32_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c32_i32 : BitVec 32 := 32#32
  let v3 : BitVec 1 := Scalar.cmpi .eq arg0 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x256 : Shape := ⟨2, ![4096, 256]⟩
abbrev S16 : Shape := ⟨1, ![16]⟩
abbrev S32x128x2x8x64 : Shape := ⟨5, ![32, 128, 2, 8, 64]⟩
abbrev S4096x128 : Shape := ⟨2, ![4096, 128]⟩
abbrev S32x128x2x64 : Shape := ⟨4, ![32, 128, 2, 64]⟩
abbrev S_ : Shape := ⟨0, ![]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S32x2x256x128x8 : Shape := ⟨5, ![32, 2, 256, 128, 8]⟩
abbrev S32x2x8x128x256 : Shape := ⟨5, ![32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x2x8x128x256 : Shape := ⟨5, ![1, 2, 8, 128, 256]⟩
abbrev S32x1x1x128x256 : Shape := ⟨5, ![32, 1, 1, 128, 256]⟩
abbrev S1x2x8x1x1 : Shape := ⟨5, ![1, 2, 8, 1, 1]⟩
abbrev S32x2x8x128 : Shape := ⟨4, ![32, 2, 8, 128]⟩
abbrev S32x2x8x128x1 : Shape := ⟨5, ![32, 2, 8, 128, 1]⟩
abbrev S32x2x64x8x128 : Shape := ⟨5, ![32, 2, 64, 8, 128]⟩
abbrev S32x2x64x256 : Shape := ⟨4, ![32, 2, 64, 256]⟩
abbrev S2x8x1 : Shape := ⟨3, ![2, 8, 1]⟩
abbrev S32x2x128x8x64 : Shape := ⟨5, ![32, 2, 128, 8, 64]⟩
abbrev S32x2x256x64 : Shape := ⟨4, ![32, 2, 256, 64]⟩
abbrev S1x16 : Shape := ⟨2, ![1, 16]⟩
abbrev S1x128 : Shape := ⟨2, ![1, 128]⟩

abbrev nBuf : Space → Nat
  | .hbm => 255
  | .vmem => 0
  | .smem => 0
  | _ => 0

abbrev hbmTy0_0 (i : Nat) : BufTy := match i % 128 with
  | 0 => ⟨S4096x1024, .bf16⟩
  | 1 => ⟨S4096x256, .bf16⟩
  | 2 => ⟨S16, .f32⟩
  | 3 => ⟨S4096x1024, .bf16⟩
  | 4 => ⟨S4096x1024, .f32⟩
  | 5 => ⟨S4096x256, .f32⟩
  | 6 => ⟨S4096x1024, .f32⟩
  | 7 => ⟨S32x128x2x8x64, .f32⟩
  | 8 => ⟨S4096x128, .f32⟩
  | 9 => ⟨S4096x128, .f32⟩
  | 10 => ⟨S32x128x2x64, .f32⟩
  | 11 => ⟨S_, .f32⟩
  | 12 => ⟨S1x128x2x64, .f32⟩
  | 13 => ⟨S31x128x2x64, .f32⟩
  | 14 => ⟨S32x128x2x64, .f32⟩
  | 15 => ⟨S_, .f32⟩
  | 16 => ⟨S1x128x2x64, .f32⟩
  | 17 => ⟨S32x256x2x64, .f32⟩
  | 18 => ⟨S32x128x2x64, .f32⟩
  | 19 => ⟨S_, .f32⟩
  | 20 => ⟨S1x128x2x64, .f32⟩
  | 21 => ⟨S31x128x2x64, .f32⟩
  | 22 => ⟨S32x128x2x64, .f32⟩
  | 23 => ⟨S_, .f32⟩
  | 24 => ⟨S1x128x2x64, .f32⟩
  | 25 => ⟨S32x256x2x64, .f32⟩
  | 26 => ⟨S32x2x256x128x8, .f32⟩
  | 27 => ⟨S32x2x8x128x256, .f32⟩
  | 28 => ⟨S_, .f32⟩
  | 29 => ⟨S32x2x8x128x256, .f32⟩
  | 30 => ⟨S32x2x8x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S32, .i32⟩
  | 42 => ⟨S_, .i32⟩
  | 43 => ⟨S32, .i32⟩
  | 44 => ⟨S32, .i32⟩
  | 45 => ⟨S32x1, .i32⟩
  | 46 => ⟨S256, .i32⟩
  | 47 => ⟨S1x256, .i32⟩
  | 48 => ⟨S32x256, .i32⟩
  | 49 => ⟨S32x256, .i32⟩
  | 50 => ⟨S32x256, .i32⟩
  | 51 => ⟨S_, .i32⟩
  | 52 => ⟨S32x256, .i32⟩
  | 53 => ⟨S32x256, .i32⟩
  | 54 => ⟨S_, .i32⟩
  | 55 => ⟨S128x256, .i32⟩
  | 56 => ⟨S128x256, .i1⟩
  | 57 => ⟨S_, .i32⟩
  | 58 => ⟨S128x256, .i32⟩
  | 59 => ⟨S128x256, .i1⟩
  | 60 => ⟨S128x256, .i1⟩
  | 61 => ⟨S1x128x256, .i1⟩
  | 62 => ⟨S_, .i32⟩
  | 63 => ⟨S32x256, .i32⟩
  | 64 => ⟨S32x256, .i1⟩
  | 65 => ⟨S32x1x256, .i1⟩
  | 66 => ⟨S32x128x256, .i1⟩
  | 67 => ⟨S32x128x256, .i1⟩
  | 68 => ⟨S32x128x256, .i1⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S1, .f32⟩
  | 98 => ⟨S1, .f32⟩
  | 99 => ⟨S1, .f32⟩
  | 100 => ⟨S1, .f32⟩
  | 101 => ⟨S16, .f32⟩
  | 102 => ⟨S2x8, .f32⟩
  | 103 => ⟨S2x8x1x1, .f32⟩
  | 104 => ⟨S128x256, .f32⟩
  | 105 => ⟨S1x1x128x256, .f32⟩
  | 106 => ⟨S2x8x128x256, .f32⟩
  | 107 => ⟨S2x8x128x256, .f32⟩
  | 108 => ⟨S2x8x128x256, .f32⟩
  | 109 => ⟨S1x2x8x128x256, .f32⟩
  | 110 => ⟨S32x2x8x128x256, .f32⟩
  | 111 => ⟨S32x2x8x128x256, .f32⟩
  | 112 => ⟨S32x1x1x128x256, .i1⟩
  | 113 => ⟨S_, .f32⟩
  | 114 => ⟨S_, .f32⟩
  | 115 => ⟨S32x2x8x128x256, .i1⟩
  | 116 => ⟨S32x2x8x128x256, .f32⟩
  | 117 => ⟨S32x2x8x128x256, .f32⟩
  | 118 => ⟨S_, .f32⟩
  | 119 => ⟨S32x2x8x128x256, .f32⟩
  | 120 => ⟨S2x8, .f32⟩
  | 121 => ⟨S1x2x8x1x1, .f32⟩
  | 122 => ⟨S_, .f32⟩
  | 123 => ⟨S32x2x8x128, .f32⟩
  | 124 => ⟨S32x2x8x128x1, .f32⟩
  | 125 => ⟨S32x2x8x128x256, .f32⟩
  | 126 => ⟨S32x2x8x128x256, .i1⟩
  | 127 => ⟨S32x2x8x128x256, .f32⟩
  | _ => ⟨S4096x1024, .bf16⟩

abbrev hbmTy0_1 (i : Nat) : BufTy := match i % 128 with
  | 0 => ⟨S_, .f32⟩
  | 1 => ⟨S32x2x8x128, .f32⟩
  | 2 => ⟨S32x2x8x128x1, .f32⟩
  | 3 => ⟨S32x2x8x128x1, .f32⟩
  | 4 => ⟨S32x2x8x128x1, .f32⟩
  | 5 => ⟨S32x2x8x128x1, .f32⟩
  | 6 => ⟨S32x2x8x128x1, .i1⟩
  | 7 => ⟨S32x2x8x128x1, .f32⟩
  | 8 => ⟨S32x2x8x128x1, .i1⟩
  | 9 => ⟨S_, .f32⟩
  | 10 => ⟨S32x2x8x128x1, .f32⟩
  | 11 => ⟨S_, .f32⟩
  | 12 => ⟨S32x2x8x128x1, .f32⟩
  | 13 => ⟨S_, .f32⟩
  | 14 => ⟨S32x2x8x128x1, .f32⟩
  | 15 => ⟨S32x2x8x128x1, .f32⟩
  | 16 => ⟨S32x2x8x128x1, .f32⟩
  | 17 => ⟨S32x2x8x128x1, .f32⟩
  | 18 => ⟨S32x2x8x128x1, .i1⟩
  | 19 => ⟨S32x2x8x128x1, .f32⟩
  | 20 => ⟨S32x2x8x128x1, .i1⟩
  | 21 => ⟨S_, .f32⟩
  | 22 => ⟨S32x2x8x128x1, .f32⟩
  | 23 => ⟨S_, .f32⟩
  | 24 => ⟨S32x2x8x128x1, .f32⟩
  | 25 => ⟨S_, .f32⟩
  | 26 => ⟨S32x2x8x128x1, .f32⟩
  | 27 => ⟨S32x2x8x128x1, .f32⟩
  | 28 => ⟨S32x2x8x128x1, .f32⟩
  | 29 => ⟨S32x2x8x128x256, .f32⟩
  | 30 => ⟨S32x2x8x128x256, .f32⟩
  | 31 => ⟨S32x2x8x128x256, .f32⟩
  | 32 => ⟨S_, .f32⟩
  | 33 => ⟨S32x2x8x128, .f32⟩
  | 34 => ⟨S32x2x8x128x1, .f32⟩
  | 35 => ⟨S32x2x8x128x1, .f32⟩
  | 36 => ⟨S32x2x8x128x1, .f32⟩
  | 37 => ⟨S32x2x8x128x1, .f32⟩
  | 38 => ⟨S32x2x8x128x1, .f32⟩
  | 39 => ⟨S32x2x8x128x256, .f32⟩
  | 40 => ⟨S32x2x8x128x256, .f32⟩
  | 41 => ⟨S32x2x8x128x1, .f32⟩
  | 42 => ⟨S_, .f32⟩
  | 43 => ⟨S32x2x8x128x1, .f32⟩
  | 44 => ⟨S32x2x8x128x1, .f32⟩
  | 45 => ⟨S32x2x64x8x128, .f32⟩
  | 46 => ⟨S32x128x2x8x64, .f32⟩
  | 47 => ⟨S4096x1024, .f32⟩
  | 48 => ⟨S32x128x2x8x64, .f32⟩
  | 49 => ⟨S32x2x64x8x128, .f32⟩
  | 50 => ⟨S32x2x8x128x256, .f32⟩
  | 51 => ⟨S32x2x64x256, .f32⟩
  | 52 => ⟨S32x256x2x64, .f32⟩
  | 53 => ⟨S32x2x8x128x256, .f32⟩
  | 54 => ⟨S32x2x8x128x256, .f32⟩
  | 55 => ⟨S32x2x8x128x256, .f32⟩
  | 56 => ⟨S_, .f32⟩
  | 57 => ⟨S32x2x8x128, .f32⟩
  | 58 => ⟨S32x2x8x128x1, .f32⟩
  | 59 => ⟨S32x2x8x128x1, .f32⟩
  | 60 => ⟨S32x2x8x128x256, .f32⟩
  | 61 => ⟨S32x2x8x128x256, .f32⟩
  | 62 => ⟨S32x2x8x128x1, .f32⟩
  | 63 => ⟨S_, .f32⟩
  | 64 => ⟨S2x8x1, .f32⟩
  | 65 => ⟨S1x2x8x1x1, .f32⟩
  | 66 => ⟨S32x2x8x128x1, .f32⟩
  | 67 => ⟨S_, .f32⟩
  | 68 => ⟨S32x2x8x128, .f32⟩
  | 69 => ⟨S32x2x8x128x256, .f32⟩
  | 70 => ⟨S32x2x8x128x256, .f32⟩
  | 71 => ⟨S32x2x8x128x256, .f32⟩
  | 72 => ⟨S32x2x8x128x256, .f32⟩
  | 73 => ⟨S_, .f32⟩
  | 74 => ⟨S32x2x8x128, .f32⟩
  | 75 => ⟨S32x2x8x128x1, .f32⟩
  | 76 => ⟨S32x2x8x128x1, .f32⟩
  | 77 => ⟨S32x2x8x128x1, .f32⟩
  | 78 => ⟨S_, .f32⟩
  | 79 => ⟨S2x8x1, .f32⟩
  | 80 => ⟨S1x2x8x1x1, .f32⟩
  | 81 => ⟨S1x2x8x1x1, .f32⟩
  | 82 => ⟨S32x2x8x128x1, .f32⟩
  | 83 => ⟨S_, .f32⟩
  | 84 => ⟨S32x2x8x128, .f32⟩
  | 85 => ⟨S32x2x8x128, .f32⟩
  | 86 => ⟨S32x2x8x128x256, .f32⟩
  | 87 => ⟨S32x2x8x128x256, .f32⟩
  | 88 => ⟨S32x2x8x128x256, .f32⟩
  | 89 => ⟨S_, .f32⟩
  | 90 => ⟨S2x8, .f32⟩
  | 91 => ⟨S16, .f32⟩
  | 92 => ⟨S_, .f32⟩
  | 93 => ⟨S32x2x8x128x256, .f32⟩
  | 94 => ⟨S32x2x8x128x256, .f32⟩
  | 95 => ⟨S_, .f32⟩
  | 96 => ⟨S32x2x8x128x256, .f32⟩
  | 97 => ⟨S32x2x8x128x256, .f32⟩
  | 98 => ⟨S32x2x256x128x8, .f32⟩
  | 99 => ⟨S32x2x128x8x64, .f32⟩
  | 100 => ⟨S32x128x2x8x64, .f32⟩
  | 101 => ⟨S32x2x256x64, .f32⟩
  | 102 => ⟨S32x256x2x64, .f32⟩
  | 103 => ⟨S32x128x2x64, .f32⟩
  | 104 => ⟨S32x128x2x64, .f32⟩
  | 105 => ⟨S1x128x2x64, .f32⟩
  | 106 => ⟨S31x128x2x64, .f32⟩
  | 107 => ⟨S_, .f32⟩
  | 108 => ⟨S32x128x2x64, .f32⟩
  | 109 => ⟨S32x128x2x64, .f32⟩
  | 110 => ⟨S4096x128, .f32⟩
  | 111 => ⟨S32x128x2x64, .f32⟩
  | 112 => ⟨S32x128x2x64, .f32⟩
  | 113 => ⟨S1x128x2x64, .f32⟩
  | 114 => ⟨S31x128x2x64, .f32⟩
  | 115 => ⟨S_, .f32⟩
  | 116 => ⟨S32x128x2x64, .f32⟩
  | 117 => ⟨S32x128x2x64, .f32⟩
  | 118 => ⟨S4096x128, .f32⟩
  | 119 => ⟨S4096x256, .f32⟩
  | 120 => ⟨S4096x1024, .f32⟩
  | 121 => ⟨S1x16, .f32⟩
  | 122 => ⟨S_, .i32⟩
  | 123 => ⟨S_, .f32⟩
  | 124 => ⟨S1x128, .f32⟩
  | 125 => ⟨S4096x1024, .bf16⟩
  | 126 => ⟨S4096x256, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_c_6 : Ref sig .tc := ⟨.hbm, 54, rfl⟩
abbrev main_v42 : Ref sig .tc := ⟨.hbm, 55, rfl⟩
abbrev main_v43 : Ref sig .tc := ⟨.hbm, 56, rfl⟩
abbrev main_c_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_cst_10 : Ref sig .tc := ⟨.hbm, 70, rfl⟩
abbrev main_cst_11 : Ref sig .tc := ⟨.hbm, 71, rfl⟩
abbrev main_cst_12 : Ref sig .tc := ⟨.hbm, 72, rfl⟩
abbrev main_cst_13 : Ref sig .tc := ⟨.hbm, 73, rfl⟩
abbrev main_cst_14 : Ref sig .tc := ⟨.hbm, 74, rfl⟩
abbrev main_cst_15 : Ref sig .tc := ⟨.hbm, 75, rfl⟩
abbrev main_cst_16 : Ref sig .tc := ⟨.hbm, 76, rfl⟩
abbrev main_cst_17 : Ref sig .tc := ⟨.hbm, 77, rfl⟩
abbrev main_cst_18 : Ref sig .tc := ⟨.hbm, 78, rfl⟩
abbrev main_cst_19 : Ref sig .tc := ⟨.hbm, 79, rfl⟩
abbrev main_cst_20 : Ref sig .tc := ⟨.hbm, 80, rfl⟩
abbrev main_cst_21 : Ref sig .tc := ⟨.hbm, 81, rfl⟩
abbrev main_cst_22 : Ref sig .tc := ⟨.hbm, 82, rfl⟩
abbrev main_cst_23 : Ref sig .tc := ⟨.hbm, 83, rfl⟩
abbrev main_cst_24 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_25 : Ref sig .tc := ⟨.hbm, 113, rfl⟩
abbrev main_call0_v0 : Ref sig .tc := ⟨.hbm, 114, rfl⟩
abbrev main_v82_1 : Ref sig .tc := ⟨.hbm, 115, rfl⟩
abbrev main_call0_v2 : Ref sig .tc := ⟨.hbm, 116, rfl⟩
abbrev main_v82_0 : Ref sig .tc := ⟨.hbm, 117, rfl⟩
abbrev main_call0_cst : Ref sig .tc := ⟨.hbm, 118, rfl⟩
abbrev main_v82_2 : Ref sig .tc := ⟨.hbm, 119, rfl⟩
abbrev main_v83 : Ref sig .tc := ⟨.hbm, 120, rfl⟩
abbrev main_v84 : Ref sig .tc := ⟨.hbm, 121, rfl⟩
abbrev main_cst_26 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_27 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_28 : Ref sig .tc := ⟨.hbm, 137, rfl⟩
abbrev main_v98 : Ref sig .tc := ⟨.hbm, 138, rfl⟩
abbrev main_cst_29 : Ref sig .tc := ⟨.hbm, 139, rfl⟩
abbrev main_v99 : Ref sig .tc := ⟨.hbm, 140, rfl⟩
abbrev main_cst_30 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_31 : Ref sig .tc := ⟨.hbm, 149, rfl⟩
abbrev main_v107 : Ref sig .tc := ⟨.hbm, 150, rfl⟩
abbrev main_cst_32 : Ref sig .tc := ⟨.hbm, 151, rfl⟩
abbrev main_v108 : Ref sig .tc := ⟨.hbm, 152, rfl⟩
abbrev main_cst_33 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_34 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_35 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_cst_36 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_37 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_38 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_39 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_40 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_41 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_42 : Ref sig .tc := ⟨.hbm, 217, rfl⟩
abbrev main_v164 : Ref sig .tc := ⟨.hbm, 218, rfl⟩
abbrev main_v165 : Ref sig .tc := ⟨.hbm, 219, rfl⟩
abbrev main_call1_cst : Ref sig .tc := ⟨.hbm, 220, rfl⟩
abbrev main_call1_v0 : Ref sig .tc := ⟨.hbm, 221, rfl⟩
abbrev main_v166 : Ref sig .tc := ⟨.hbm, 222, rfl⟩
abbrev main_cst_43 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_44 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_45 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_c_46 : Ref sig .tc := ⟨.hbm, 250, rfl⟩
abbrev main_call2_v0 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩

abbrev nD : Nat := 1
abbrev τ : Topo := Topo.v7x

variable {F : FTy → Type} [FloatOps F]
-- ==== Kernel2.lean ====
abbrev S4x4096x1408 : Shape := ⟨3, ![4, 4096, 1408]⟩
abbrev S4x1024x1408 : Shape := ⟨3, ![4, 1024, 1408]⟩
abbrev S4096x1024 : Shape := ⟨2, ![4096, 1024]⟩
abbrev S1x1024 : Shape := ⟨2, ![1, 1024]⟩
abbrev S1x1024x1408 : Shape := ⟨3, ![1, 1024, 1408]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x4096x1408, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4x4096x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32_10 : BitVec 32 := 0#32
  let v13 : BitVec 1 := Scalar.cmpi .eq arg0 c0_i32_10
  let arg2 : BitVec 32 := BitVec.ofNat 32 (i 2).val
  let c0_i32_11 : BitVec 32 := 0#32
  let v14 : BitVec 1 := Scalar.cmpi .eq arg2 c0_i32_11
  let v15 : BitVec 1 := Scalar.andi v13 v14
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference2Ideal.lean ====
abbrev S4x4096x1408 : Shape := ⟨3, ![4, 4096, 1408]⟩
abbrev S4x1024x1408 : Shape := ⟨3, ![4, 1024, 1408]⟩
abbrev S4096x1024 : Shape := ⟨2, ![4096, 1024]⟩
abbrev S1x1024 : Shape := ⟨2, ![1, 1024]⟩
abbrev S1024x4x1408 : Shape := ⟨3, ![1024, 4, 1408]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x4x1408 : Shape := ⟨3, ![4096, 4, 1408]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1408, .bf16⟩
  | .hbm, ⟨1, _⟩ => ⟨S4x1024x1408, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4x4096x1408, .f32⟩
  | .hbm, ⟨29, _⟩ => ⟨S4096x4x1408, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4x4096x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel3.lean ====
abbrev S4096x1024 : Shape := ⟨2, ![4096, 1024]⟩
abbrev S4x4096x1408 : Shape := ⟨3, ![4, 4096, 1408]⟩
abbrev S1x1024 : Shape := ⟨2, ![1, 1024]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩
abbrev S4x1024x1024 : Shape := ⟨3, ![4, 1024, 1024]⟩
abbrev S1024 : Shape := ⟨1, ![1024]⟩
abbrev S1024x1 : Shape := ⟨2, ![1024, 1]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4x4096x1408, .bf16⟩
  | .hbm, ⟨2, _⟩ => ⟨S1x1024, .f32⟩
  | .hbm, ⟨3, _⟩ => ⟨S4x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024, .f32⟩
  | .local _ .vmem, ⟨5, _⟩ => ⟨S1x1024x1408, .f32⟩
  | .local _ .vmem, ⟨6, _⟩ => ⟨S1x1024x1408, .f32⟩
  | .local _ .vmem, ⟨7, _⟩ => ⟨S1024x1408, .f32⟩
  | .local _ .vmem, ⟨8, _⟩ => ⟨S4x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v35 : Index := Scalar.indexCast arg2
  let c0_19 : Index := 0#32
  let c0_20 : Index := 0#32
  ![v35.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![v1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x1024 : Shape := ⟨2, ![4096, 1024]⟩
abbrev S4x4096x1408 : Shape := ⟨3, ![4, 4096, 1408]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x4x1408 : Shape := ⟨3, ![4096, 4, 1408]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x1408, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x5632, .f32⟩
  | .hbm, ⟨20, _⟩ => ⟨S4096x5632, .f32⟩
  | .hbm, ⟨21, _⟩ => ⟨S4x4096x1408, .f32⟩
  | .hbm, ⟨22, _⟩ => ⟨S4096x4x1408, .f32⟩
  | .hbm, ⟨23, _⟩ => ⟨S4096x5632, .f32⟩
  | .hbm, ⟨24, _⟩ => ⟨S5632x1024, .f32⟩
  | .hbm, ⟨25, _⟩ => ⟨S1024x5632, .f32⟩
  | .hbm, ⟨26, _⟩ => ⟨S1024x4x1408, .f32⟩
  | .hbm, ⟨27, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S1x2816x1024 : Shape := ⟨3, ![1, 2816, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S1x2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S1x2816x1024 : Shape := ⟨3, ![1, 2816, 1024]⟩
abbrev S4096x2816 : Shape := ⟨2, ![4096, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1x2816x1024 : Shape := ⟨3, ![1, 2816, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x2816x1024, .bf16⟩
  | .hbm, ⟨2, _⟩ => ⟨S2816x1024, .bf16⟩
  | .hbm, ⟨3, _⟩ => ⟨S2816x1024, .f32⟩
  | .hbm, ⟨4, _⟩ => ⟨S_, .f32⟩
  | .hbm, ⟨5, _⟩ => ⟨S4096x2816, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S4x1024x1408 : Shape := ⟨3, ![4, 1024, 1408]⟩
abbrev S1x1024 : Shape := ⟨2, ![1, 1024]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4x1024x1408, .bf16⟩
  | .hbm, ⟨2, _⟩ => ⟨S1x1024, .f32⟩
  | .hbm, ⟨3, _⟩ => ⟨S4096x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4096x1024 : Shape := ⟨2, ![4096, 1024]⟩
abbrev S4x1024x1408 : Shape := ⟨3, ![4, 1024, 1408]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1408 : Shape := ⟨3, ![1024, 4, 1408]⟩
abbrev S1024x5632 : Shape := ⟨2, ![1024, 5632]⟩
abbrev S4096x5632 : Shape := ⟨2, ![4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x1408, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4x1024x1408, .f32⟩
  | .hbm, ⟨19, _⟩ => ⟨S1024x4x1408, .f32⟩
  | .hbm, ⟨20, _⟩ => ⟨S1024x5632, .f32⟩
  | .hbm, ⟨21, _⟩ => ⟨S4096x5632, .f32⟩
  | .hbm, ⟨22, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel7.lean ====
abbrev S4096x2816 : Shape := ⟨2, ![4096, 2816]⟩
abbrev S1x2816x1024 : Shape := ⟨3, ![1, 2816, 1024]⟩
abbrev S4096x1024 : Shape := ⟨2, ![4096, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x1024 : Shape := ⟨2, ![4096, 1024]⟩
abbrev S4x1024x1024 : Shape := ⟨3, ![4, 1024, 1024]⟩
abbrev S1x1024 : Shape := ⟨2, ![1, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .bf16⟩
  | .hbm, ⟨2, _⟩ => ⟨S1x1024, .f32⟩
  | .hbm, ⟨3, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4096x1024 : Shape := ⟨2, ![4096, 1024]⟩
abbrev S4x1024x1024 : Shape := ⟨3, ![4, 1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S1024x4096 : Shape := ⟨2, ![1024, 4096]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x1024x1024, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4x1024x1024, .f32⟩
  | .hbm, ⟨19, _⟩ => ⟨S1024x4x1024, .f32⟩
  | .hbm, ⟨20, _⟩ => ⟨S1024x4096, .f32⟩
  | .hbm, ⟨21, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S4x4096x1024 : Shape := ⟨3, ![4, 4096, 1024]⟩
abbrev S4x1024x1024 : Shape := ⟨3, ![4, 1024, 1024]⟩
abbrev S4096x1024 : Shape := ⟨2, ![4096, 1024]⟩
abbrev S1x1024 : Shape := ⟨2, ![1, 1024]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S4x4096x1024, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32_10 : BitVec 32 := 0#32
  let v13 : BitVec 1 := Scalar.cmpi .eq arg0 c0_i32_10
  let arg2 : BitVec 32 := BitVec.ofNat 32 (i 2).val
  let c0_i32_11 : BitVec 32 := 0#32
  let v14 : BitVec 1 := Scalar.cmpi .eq arg2 c0_i32_11
  let v15 : BitVec 1 := Scalar.andi v13 v14
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference9Ideal.lean ====
abbrev S4x4096x1024 : Shape := ⟨3, ![4, 4096, 1024]⟩
abbrev S4x1024x1024 : Shape := ⟨3, ![4, 1024, 1024]⟩
abbrev S4096x1024 : Shape := ⟨2, ![4096, 1024]⟩
abbrev S1x1024 : Shape := ⟨2, ![1, 1024]⟩
abbrev S1024x4x1024 : Shape := ⟨3, ![1024, 4, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S4096x4x1024 : Shape := ⟨3, ![4096, 4, 1024]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x1024x1024, .f32⟩
  | .hbm, ⟨6, _⟩ => ⟨S1024x4x1024, .f32⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4x4096x1024, .f32⟩
  | .hbm, ⟨29, _⟩ => ⟨S4096x4x1024, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel10.lean ====
abbrev S4096x1024 : Shape := ⟨2, ![4096, 1024]⟩
abbrev S4x4096x1024 : Shape := ⟨3, ![4, 4096, 1024]⟩
abbrev S1x1024 : Shape := ⟨2, ![1, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .bf16⟩
  | .hbm, ⟨2, _⟩ => ⟨S1x1024, .f32⟩
  | .hbm, ⟨3, _⟩ => ⟨S4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1024x1024, .f32⟩
  | .local _ .vmem, ⟨8, _⟩ => ⟨S4x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v35 : Index := Scalar.indexCast arg2
  let c0_19 : Index := 0#32
  let c0_20 : Index := 0#32
  ![v35.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![v1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x1024 : Shape := ⟨2, ![4096, 1024]⟩
abbrev S4x4096x1024 : Shape := ⟨3, ![4, 4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S4096x4x1024 : Shape := ⟨3, ![4096, 4, 1024]⟩
abbrev S1024x4x1024 : Shape := ⟨3, ![1024, 4, 1024]⟩
abbrev S4x1024x1024 : Shape := ⟨3, ![4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4x4096x1024, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S1024x4096, .f32⟩
  | .hbm, ⟨20, _⟩ => ⟨S4096x4096, .f32⟩
  | .hbm, ⟨21, _⟩ => ⟨S4x4096x1024, .f32⟩
  | .hbm, ⟨22, _⟩ => ⟨S4096x4x1024, .f32⟩
  | .hbm, ⟨23, _⟩ => ⟨S4096x4096, .f32⟩
  | .hbm, ⟨24, _⟩ => ⟨S4096x1024, .f32⟩
  | .hbm, ⟨25, _⟩ => ⟨S1024x4096, .f32⟩
  | .hbm, ⟨26, _⟩ => ⟨S1024x4x1024, .f32⟩
  | .hbm, ⟨27, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.AttnBase.lean ====
module

public import proofs.«01_k».proof.Proof.Gen.KernelIdeal.Skeleton
public import proofs.«01_k».proof.Proof.Gen.KernelIdeal.Frame
public import Idealize.ShloMosaic.Lib.Pipeline.TableIdle
public import Idealize.ShloMosaic.Lib.Ring

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 33 = 0 :=
  (fun t => by
    have ht : t.val < 33 := Nat.lt_of_lt_of_eq t.isLt N_0
    have e0 : (grid0.coords t 0).val = t.val / 1 % 33 := Pipeline.Grid.coords_val t 0 (by decide) rfl
    simp only [cond0_0, k0_cond1, e0]
    word_cmp
   : ∀ t : Fin grid0.N, cond0_0 (grid0.coords t) ↔ t.val % 33 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_1, k0_cond2, e0]
    word_cmp
   : ∀ t : Fin grid0.N, cond0_1 (grid0.coords t) ↔ t.val % 33 = 32)

/-- The condition of the body's `scf.if` 2 (`k0_h3`), from the grid coordinates (the skeleton's scalar
    chain substituted). -/
abbrev cond0_2 (i : grid0.Coords) : Prop := k0_cond3 i = 1#1
/-- It holds at the points before point 32 — decided over the grid. -/
theorem hcond0_2 : ∀ t : Fin cfg0.N, cond0_2 (grid0.coords t) ↔ t.val < 32 :=
  (by decide +kernel : ∀ t : Fin grid0.N, cond0_2 (grid0.coords t) ↔ t.val < 32)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 live: the case stores into it. -/
theorem liveAt0_5_A : ∀ t : Fin cfg0.N, cond0_0 (grid0.coords t) → ¬cond0_1 (grid0.coords t) → cond0_2 (grid0.coords t) → cfg0.idle 5 (grid0.coords t) = false := by decide +kernel
/-- At the points of case B the printed configuration (`Cfg.idle`) calls output 5 live: the case stores into it. -/
theorem liveAt0_5_B : ∀ t : Fin cfg0.N, ¬cond0_0 (grid0.coords t) → ¬cond0_1 (grid0.coords t) → cond0_2 (grid0.coords t) → cfg0.idle 5 (grid0.coords t) = false := by decide +kernel
/-- At the last point output 5 is idle: the body stores nothing into it there. -/
theorem idleAt0_5_C : ∀ t : Fin cfg0.N, ¬cond0_0 (grid0.coords t) → cond0_1 (grid0.coords t) → ¬cond0_2 (grid0.coords t) → cfg0.idle 5 (grid0.coords t) = true := by decide +kernel
/-- At the points of case A the printed configuration (`Cfg.idle`) calls output 6 live: the case stores into it. -/
theorem liveAt0_6_A : ∀ t : Fin cfg0.N, cond0_0 (grid0.coords t) → ¬cond0_1 (grid0.coords t) → cond0_2 (grid0.coords t) → cfg0.idle 6 (grid0.coords t) = false := by decide +kernel
/-- At the points of case B the printed configuration (`Cfg.idle`) calls output 6 live: the case stores into it. -/
theorem liveAt0_6_B : ∀ t : Fin cfg0.N, ¬cond0_0 (grid0.coords t) → ¬cond0_1 (grid0.coords t) → cond0_2 (grid0.coords t) → cfg0.idle 6 (grid0.coords t) = false := by decide +kernel
/-- At the points of case C the printed configuration (`Cfg.idle`) calls output 6 live: the case stores into it. -/
theorem liveAt0_6_C : ∀ t : Fin cfg0.N, ¬cond0_0 (grid0.coords t) → cond0_1 (grid0.coords t) → ¬cond0_2 (grid0.coords t) → cfg0.idle 6 (grid0.coords t) = false := by decide +kernel
/-- Whether output 5's buffer is FRESH at each position `1 ‥ N` — holds nothing the body stored since the region's entry or the
    last write-back (written back at the point before, or idle there and fresh before it) —, as a bitmask the classifier
    computed, bit `n` for position `n + 1`; position 0 is fresh. `freshTab0_5_step` checks it against the configuration's own
    step point by point and Lib/Pipeline/TableIdle.lean `Cfg.fresh_tab` makes it `Cfg.fresh` (`fresh0_5_eq`). -/
def freshTab0_5 : ℕ → Bool
  | 0 => true
  | n + 1 => (0x17fffffff : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- At the last point output 5's buffer is not fresh: the point before stored into it. -/
theorem notFresh0_5_C : ∀ t : Fin cfg0.N, ¬cond0_0 (grid0.coords t) → cond0_1 (grid0.coords t) → ¬cond0_2 (grid0.coords t) → cfg0.fresh 5 t.val = false := by
  intro t; rw [fresh0_5_eq t]; revert t; decide +kernel
/-- Whether output 7's buffer is FRESH at each position `1 ‥ N` — holds nothing the body stored since the region's entry or the
    last write-back (written back at the point before, or idle there and fresh before it) —, as a bitmask the classifier
    computed, bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x100000000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cond0_2 (grid0.coords t) → cfg0.idle 7 (grid0.coords t) = false := by decide +kernel
/-- At the points of case B the printed configuration (`Cfg.idle`) calls output 7 live: the case stores into it. -/
theorem liveAt0_7_B : ∀ t : Fin cfg0.N, ¬cond0_0 (grid0.coords t) → ¬cond0_1 (grid0.coords t) → cond0_2 (grid0.coords t) → cfg0.idle 7 (grid0.coords t) = false := by decide +kernel
/-- At the points of case B, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_B : ∀ t : Fin cfg0.N, ¬cond0_0 (grid0.coords t) → ¬cond0_1 (grid0.coords t) → cond0_2 (grid0.coords t) → cfg0.fresh 7 t.val = false := by
  intro t; rw [fresh0_7_eq t]; revert t; decide +kernel
/-- At the last point output 7 is idle: the body stores nothing into it there. -/
theorem idleAt0_7_C : ∀ t : Fin cfg0.N, ¬cond0_0 (grid0.coords t) → cond0_1 (grid0.coords t) → ¬cond0_2 (grid0.coords t) → cfg0.idle 7 (grid0.coords t) = true := by decide +kernel
/-- At the points of case C, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_C : ∀ t : Fin cfg0.N, ¬cond0_0 (grid0.coords t) → cond0_1 (grid0.coords t) → ¬cond0_2 (grid0.coords t) → cfg0.fresh 7 t.val = false := by
  intro t; rw [fresh0_7_eq t]; revert t; decide +kernel

/-! ## The kernel body on any staging memrefs: a subtype the run finds -/

/-- One staging buffer of output window 5, through which its contents are stated (`View.read_writes_of_cover`: the
    choice does not matter). -/
abbrev VO0_5 : View sig .tc .vmem S128x1024 .bf16 := (Memref.whole cc0_stg5_0 : Memref sig .tc .vmem S128x1024 .bf16).view
/-- One staging buffer of output window 6, through which its contents are stated (`View.read_writes_of_cover`: the
    choice does not matter). -/
abbrev VO0_6 : View sig .tc .vmem S128x256 .bf16 := (Memref.whole cc0_stg6_0 : Memref sig .tc .vmem S128x256 .bf16).view
/-- One staging buffer of output window 7, through which its contents are stated (`View.read_writes_of_cover`: the
    choice does not matter). -/
abbrev VO0_7 : View sig .tc .vmem S1x128 .f32 := (Memref.whole cc0_stg7_0 : Memref sig .tc .vmem S1x128 .f32).view
/-- Each window's current staging memref at point `t`, spelled as the pipeline passes it (`bodyAt0`), and its wholeness. -/
abbrev ms0_0 (t : Fin cfg0.N) : Memref sig .tc .smem S16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S128x256 .f32 := Memref.whole cc0_scratch0
/-- The scratch `arg9` the kernel carries between points, as a view: what it holds is stated through it. -/
abbrev VS0_0 : View sig .tc .vmem S128x256 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Attn

end
-- ==== Proof.AttnRunA.lean ====
module

public import proofs.«01_k».proof.Proof.AttnBase

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in each output's staging memref, as pieces (last first) IN CASE A (`scf.if` 0 taken, `scf.if` 1 not taken, `scf.if` 2 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : cond0_0 i) (hc1 : ¬cond0_1 i) (hc2 : cond0_2 i)
    (x0 : Vec F S16 .f32) (x1 : Vec F S128x1024 .bf16) (x2 : Vec F S128x256 .bf16) (x3 : Vec F S128x256 .bf16) (x4 : Vec F S128x1024 .bf16) :
    Σ' (L5 : List (View.Piece (Elt F) S128x1024 .bf16)), Σ' (L6 : List (View.Piece (Elt F) S128x256 .bf16)), Σ' (L7 : List (View.Piece (Elt F) S1x128 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.KernelIdeal.Attn

end
-- ==== Proof.AttnRunB.lean ====
module

public import proofs.«01_k».proof.Proof.AttnBase

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in each output's staging memref, as pieces (last first) IN CASE B (`scf.if` 0 not taken, `scf.if` 1 not taken, `scf.if` 2 taken: points 1, 2, … 31: 31 of 33), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : ¬cond0_0 i) (hc1 : ¬cond0_1 i) (hc2 : cond0_2 i)
    (x0 : Vec F S16 .f32) (x1 : Vec F S128x1024 .bf16) (x2 : Vec F S128x256 .bf16) (x3 : Vec F S128x256 .bf16) (x4 : Vec F S128x1024 .bf16) (xo7 : Vec F S1x128 .f32) (xs0 : Vec F S128x256 .f32) :
    Σ' (L5 : List (View.Piece (Elt F) S128x1024 .bf16)), Σ' (L6 : List (View.Piece (Elt F) S128x256 .bf16)), Σ' (L7 : List (View.Piece (Elt F) S1x128 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xo7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hf7; obtain rfl := harg9.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

end Cert.KernelIdeal.Attn

end
-- ==== Proof.AttnRunC.lean ====
module

public import proofs.«01_k».proof.Proof.AttnBase

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at the last point (case C: only the second `scf.if` is taken): it loads the carried scratch, stores it into
    output 6's buffer and touches nothing else; the pieces it stores are the witness the run finds. -/
noncomputable def kernelRun0_C (c : Dev nD) (i : grid0.Coords) (arg1 : Memref sig .tc .smem S16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole) (hc0 : ¬cond0_0 i) (hc1 : cond0_1 i) (hc2 : ¬cond0_2 i)
    (xs0 : Vec F S128x256 .f32) :
    { L6 : List (View.Piece (Elt F) S128x256 .bf16) //
      ∀ (E : Set ℕ) (K : PUnit → sProp 𝕄),
        iprop((∃ d, owns (c : Thread nD τ) arg7 fullShare d) ∗ owns (c : Thread nD τ) arg9 fullShare xs0
            ∗ (iprop((∃ f, arg7.view.loc (c : Thread nD τ) ↦[arg7.view.set]{fullShare} arg7.view.writes (Elt F) f L6) ∗ owns (c : Thread nD τ) arg9 fullShare xs0) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K } := by
  refine ⟨?_, fun E K => ?run⟩
  case run =>
    simp only [cc0_attn_bwd_eq_skeleton]; unfold cc0_attn_bwd_skel
    unfold owns
    iintro ⟨⟨%d6, %f6, -, H6⟩, ⟨%fs0, %hfs0, HS0⟩, Hk⟩
    obtain rfl := harg9.eq_unread hfs0
    sl_exec (disch := first | sl_exact hc0 | sl_exact hc1 | sl_exact hc2)
    sl_step
    iapply Hk
    isplitl [H6]; · iexists _; iexact H6
    iexists _; isplitr; · ipureintro; exact harg9.read_unread _
    iexact HS0

end Cert.KernelIdeal.Attn

end
-- ==== Proof.AttnOps.lean ====
module

public import proofs.«01_k».proof.Proof.AttnBase
public import Idealize.ShloMosaic.Lib.WholeRead

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The arithmetic of one grid point, in the operations the body is made of

One point handles one block of 128 queries; per key/value head the eight query heads that share it are stacked below one
another (1024 rows). Both key/value heads run the same operations, stated here once. -/

/-- Lanes below 64: the even head of a lane tile. -/
abbrev lo : IVec S128x128 1 := k0_pay10
/-- Lanes from 64: the odd head of a lane tile. -/
abbrev hi : IVec S128x128 1 := xori lo (constantI S128x128 1 1#1)
/-- The zero tile of the half-precision operands. -/
abbrev zb : FVec F S128x128 .bf16 := broadcast S128x128 (Scalar.ofBits .bf16 0x0000#16)
/-- The zero tile of the accumulators. -/
abbrev zf : FVec F S128x128 .f32 := broadcast S128x128 (Scalar.ofBits .f32 0x00000000#32)
/-- A tile turned by 64 lanes. -/
abbrev rot64 {φ : FTy} (t : FVec F S128x128 φ) : FVec F S128x128 φ := dynamicRotate 1 64#32 none t rotates_S128x128_d1

/-- One head's queries, scaled by an eighth, the other head's lanes zeroed. -/
def qHead (s : IVec S128x128 1) (t : FVec F S128x128 .bf16) : FVec F S128x128 .bf16 :=
  select s (mulf t (broadcast S128x128 (Scalar.ofBits .bf16 0x3E00#16))) zb
/-- One head's output gradients, the other head's lanes zeroed. -/
def dHead (s : IVec S128x128 1) (t : FVec F S128x128 .bf16) : FVec F S128x128 .bf16 := select s t zb
/-- Eight tiles below one another. -/
def stack8 {φ : FTy} (a0 a1 a2 a3 a4 a5 a6 a7 : FVec F S128x128 φ) : FVec F S1024x128 φ :=
  concatenate S1024x128 0 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S1024x128_d0
/-- The stacked queries of four lane tiles. -/
def qStack (t0 t1 t2 t3 : FVec F S128x128 .bf16) : FVec F S1024x128 .bf16 :=
  stack8 (qHead lo t0) (qHead hi t0) (qHead lo t1) (qHead hi t1) (qHead lo t2) (qHead hi t2) (qHead lo t3) (qHead hi t3)
/-- The stacked output gradients of four lane tiles. -/
def dStack (t0 t1 t2 t3 : FVec F S128x128 .bf16) : FVec F S1024x128 .bf16 :=
  stack8 (dHead lo t0) (dHead hi t0) (dHead lo t1) (dHead hi t1) (dHead lo t2) (dHead hi t2) (dHead lo t3) (dHead hi t3)
/-- The stacked biases: the distances `b` scaled by the eight heads' slopes. -/
def bStack (s0 s1 s2 s3 s4 s5 s6 s7 : F .f32) (b : FVec F S128x128 .f32) : FVec F S1024x128 .f32 :=
  stack8 (mulf (broadcast S128x128 s0) b) (mulf (broadcast S128x128 s1) b) (mulf (broadcast S128x128 s2) b) (mulf (broadcast S128x128 s3) b) (mulf (broadcast S128x128 s4) b) (mulf (broadcast S128x128 s5) b) (mulf (broadcast S128x128 s6) b) (mulf (broadcast S128x128 s7) b)
/-- The row numbers of the stack. -/
abbrev rows8 : IVec S1024x1 32 := iota .tc S1024x1 32 [0] iota_S1024x1_d0_w32
/-- The stacked sinks: row `128 i + r` holds head `i`'s sink. -/
def sStack (s0 s1 s2 s3 s4 s5 s6 s7 : F .f32) : FVec F S1024x1 .f32 :=
  select (cmpi .slt rows8 (broadcast S1024x1 896#32)) (select (cmpi .slt rows8 (broadcast S1024x1 768#32)) (select (cmpi .slt rows8 (broadcast S1024x1 640#32)) (select (cmpi .slt rows8 (broadcast S1024x1 512#32)) (select (cmpi .slt rows8 (broadcast S1024x1 384#32)) (select (cmpi .slt rows8 (broadcast S1024x1 256#32)) (select (cmpi .slt rows8 (broadcast S1024x1 128#32)) (broadcast S1024x1 s0) (broadcast S1024x1 s1)) (broadcast S1024x1 s2)) (broadcast S1024x1 s3)) (broadcast S1024x1 s4)) (broadcast S1024x1 s5)) (broadcast S1024x1 s6)) (broadcast S1024x1 s7)
/-- What one key/value head's eight query heads are computed from: keys and values of the previous and the current block
    (doubled across the lanes), the keys masked to the low and the high lanes, and the stacks. -/
structure HIn (F : FTy → Type) where
  k2p : FVec F S128x128 .bf16
  k2c : FVec F S128x128 .bf16
  v2p : FVec F S128x128 .bf16
  v2c : FVec F S128x128 .bf16
  klp : FVec F S128x128 .bf16
  klc : FVec F S128x128 .bf16
  khp : FVec F S128x128 .bf16
  khc : FVec F S128x128 .bf16
  q : FVec F S1024x128 .bf16
  d : FVec F S1024x128 .bf16
  bp : FVec F S1024x128 .f32
  bc : FVec F S1024x128 .f32
  s : FVec F S1024x1 .f32

/-- Rows of a stack times a tile, transposed (over the lanes). -/
abbrev mmNT (a : FVec F S1024x128 .bf16) (b : FVec F S128x128 .bf16) : FVec F S1024x128 .f32 :=
  matmul dot_S1024x128_S128x128_S1024x128_1_1_0_0_n_n none a b (constant S1024x128 .f32 0x00000000#32)
/-- A tile times a tile. -/
abbrev mmNN (a b : FVec F S128x128 .bf16) : FVec F S128x128 .f32 :=
  matmul dot_S128x128_S128x128_S128x128_1_0_0_1_n_n none a b (constant S128x128 .f32 0x00000000#32)
/-- A stack, transposed, times a stack (over the rows). -/
abbrev mmTN (a b : FVec F S1024x128 .bf16) : FVec F S128x128 .f32 :=
  matmul dot_S1024x128_S1024x128_S128x128_0_0_1_1_n_n none a b (constant S128x128 .f32 0x00000000#32)
/-- Row sums of a stack, as a column. -/
abbrev rowSum (a : FVec F S1024x128 .f32) : FVec F S1024x1 .f32 :=
  shapeCast S1024x1 (multiReduction .add [1] S1024 a 0x00000000#32 reduces_S1024x128_S1024 (.inl rfl) rfl) shapeCasts_S1024_S1024x1
/-- Row maxima of a stack, as a column. -/
abbrev rowMax (a : FVec F S1024x128 .f32) : FVec F S1024x1 .f32 :=
  shapeCast S1024x1 (multiReduction .maximumf [1] S1024 a 0xFF800000#32 reduces_S1024x128_S1024 (.inl rfl) rfl) shapeCasts_S1024_S1024x1
/-- A column across the lanes. -/
abbrev wide (a : FVec F S1024x1 .f32) : FVec F S1024x128 .f32 := broadcastTo S1024x128 a broadcasts_S1024x1_S1024x128

namespace HIn
variable (h : HIn F)
/-- Scores against the previous block. -/
def sp : FVec F S1024x128 .f32 := addf (mmNT h.q h.k2p) h.bp
/-- Scores against the current block. -/
def sc : FVec F S1024x128 .f32 := addf (mmNT h.q h.k2c) h.bc
/-- The largest score of a row, the sink among them. -/
def mx : FVec F S1024x1 .f32 := maximumf (maximumf (rowMax h.sp) (rowMax h.sc)) h.s
/-- Shifted exponentials, previous block. -/
def ep : FVec F S1024x128 .f32 := exp (subf h.sp (wide h.mx))
/-- Shifted exponentials, current block. -/
def ec : FVec F S1024x128 .f32 := exp (subf h.sc (wide h.mx))
/-- The sink's shifted exponential. -/
def es : FVec F S1024x1 .f32 := exp (subf h.s h.mx)
/-- One over the sum of a row's exponentials. -/
def inv : FVec F S1024x1 .f32 :=
  divf (broadcast S1024x1 (Scalar.ofBits .f32 0x3F800000#32)) (addf (addf (rowSum h.ep) (rowSum h.ec)) h.es)
/-- Probabilities, previous block. -/
def pp : FVec F S1024x128 .f32 := mulf h.ep (wide h.inv)
/-- Probabilities, current block. -/
def pc : FVec F S1024x128 .f32 := mulf h.ec (wide h.inv)
/-- The sink's probability. -/
def ps : FVec F S1024x1 .f32 := mulf h.es h.inv
/-- Gradients of the probabilities, previous block. -/
def dpp : FVec F S1024x128 .f32 := mmNT h.d h.v2p
/-- Gradients of the probabilities, current block. -/
def dpc : FVec F S1024x128 .f32 := mmNT h.d h.v2c
/-- A row's probabilities times their gradients, summed. -/
def delta : FVec F S1024x1 .f32 := addf (rowSum (mulf h.pp h.dpp)) (rowSum (mulf h.pc h.dpc))
/-- Gradients of the scores, previous block. -/
def dsp : FVec F S1024x128 .bf16 := truncf .bf16 (mulf h.pp (subf h.dpp (wide h.delta))) bitsLt_bf16_f32
/-- Gradients of the scores, current block. -/
def dsc : FVec F S1024x128 .bf16 := truncf .bf16 (mulf h.pc (subf h.dpc (wide h.delta))) bitsLt_bf16_f32
/-- The sink's part of a row, to be negated. -/
def st : FVec F S1024x1 .f32 := mulf h.ps h.delta
/-- The query gradients of one lane tile: the even head's rows `a…`, the odd head's rows `b…`. -/
def dq (a b : ℕ) (ha : S1024x128.Slices ![a, 0] S128x128) (hb : S1024x128.Slices ![b, 0] S128x128) : FVec F S128x128 .bf16 :=
  truncf .bf16 (mulf (addf (addf (addf
      (mmNN (extractStridedSlice S128x128 ![a, 0] h.dsp ha) h.klp) (mmNN (extractStridedSlice S128x128 ![a, 0] h.dsc ha) h.klc))
      (mmNN (extractStridedSlice S128x128 ![b, 0] h.dsp hb) h.khp)) (mmNN (extractStridedSlice S128x128 ![b, 0] h.dsc hb) h.khc))
    (broadcast S128x128 (Scalar.ofBits .f32 0x3E000000#32))) bitsLt_bf16_f32
/-- An accumulated product with its halves folded together. -/
def fold (x : FVec F S128x128 .f32) : FVec F S128x128 .f32 := addf x (rot64 x)
/-- Gradients of the previous block's keys. -/
def dkp : FVec F S128x128 .f32 := fold (addf zf (mmTN h.dsp h.q))
/-- Gradients of the current block's keys. -/
def dkc : FVec F S128x128 .f32 := fold (addf zf (mmTN h.dsc h.q))
/-- Gradients of the previous block's values. -/
def dvp : FVec F S128x128 .f32 := fold (addf zf (mmTN (truncf .bf16 h.pp bitsLt_bf16_f32) h.d))
/-- Gradients of the current block's values. -/
def dvc : FVec F S128x128 .f32 := fold (addf zf (mmTN (truncf .bf16 h.pc bitsLt_bf16_f32) h.d))
end HIn

/-- Lane numbers of the sink gradients. -/
abbrev lane1 : IVec S1x128 32 := iota .tc S1x128 32 [1] iota_S1x128_d1_w32
/-- One head's sink gradient added to lane `k`: minus the sum of the column `st`'s rows `a…`. -/
def dsAdd (k : BitVec 32) (a : ℕ) (ha : S1024x1.Slices ![a, 0] S128x1) (st : FVec F S1024x1 .f32) (acc : FVec F S1x128 .f32) : FVec F S1x128 .f32 :=
  addf acc (select (cmpi .eq lane1 (broadcast S1x128 k))
    (broadcastTo S1x128 (shapeCast S1x1 (subf (broadcast S1x1 (Scalar.ofBits .f32 0x00000000#32))
      (shapeCast S1x1 (multiReduction .add [0] S1 (extractStridedSlice S128x1 ![a, 0] st ha) 0x00000000#32 reduces_S128x1_S1 (.inl rfl) rfl) shapeCasts_S1_S1x1)) shapeCasts_S1x1_S1x1) broadcasts_S1x1_S1x128)
    (broadcast S1x128 (Scalar.ofBits .f32 0x00000000#32)))
/-- The eight heads' sink gradients of key/value head 0, lanes 0 to 7. -/
def dsAdd8a (st : FVec F S1024x1 .f32) (acc : FVec F S1x128 .f32) : FVec F S1x128 .f32 :=
  dsAdd 7#32 896 slices_S1024x1_o896_0_S128x1 st (dsAdd 6#32 768 slices_S1024x1_o768_0_S128x1 st (dsAdd 5#32 640 slices_S1024x1_o640_0_S128x1 st (dsAdd 4#32 512 slices_S1024x1_o512_0_S128x1 st (dsAdd 3#32 384 slices_S1024x1_o384_0_S128x1 st (dsAdd 2#32 256 slices_S1024x1_o256_0_S128x1 st (dsAdd 1#32 128 slices_S1024x1_o128_0_S128x1 st (dsAdd 0#32 0 slices_S1024x1_o0_0_S128x1 st acc)))))))
/-- The eight heads' sink gradients of key/value head 1, lanes 8 to 15. -/
def dsAdd8b (st : FVec F S1024x1 .f32) (acc : FVec F S1x128 .f32) : FVec F S1x128 .f32 :=
  dsAdd 15#32 896 slices_S1024x1_o896_0_S128x1 st (dsAdd 14#32 768 slices_S1024x1_o768_0_S128x1 st (dsAdd 13#32 640 slices_S1024x1_o640_0_S128x1 st (dsAdd 12#32 512 slices_S1024x1_o512_0_S128x1 st (dsAdd 11#32 384 slices_S1024x1_o384_0_S128x1 st (dsAdd 10#32 256 slices_S1024x1_o256_0_S128x1 st (dsAdd 9#32 128 slices_S1024x1_o128_0_S128x1 st (dsAdd 8#32 0 slices_S1024x1_o0_0_S128x1 st acc)))))))

/-- What one grid point reads: the grid point's number, the sixteen sinks, the lane tiles of the block's queries and output
    gradients, and the previous and the current block's keys and values. -/
structure PIn (F : FTy → Type) where
  n : BitVec 32
  s : Fin 16 → F .f32
  q : Fin 8 → FVec F S128x128 .bf16
  d : Fin 8 → FVec F S128x128 .bf16
  kp : FVec F S128x128 .bf16
  kc : FVec F S128x128 .bf16
  vp : FVec F S128x128 .bf16
  vc : FVec F S128x128 .bf16

namespace PIn
variable (x : PIn F)
/-- The first key/value head's operands. -/
def h0 : HIn F where
  k2p := select lo x.kp (rot64 x.kp)
  k2c := select lo x.kc (rot64 x.kc)
  v2p := select lo x.vp (rot64 x.vp)
  v2c := select lo x.vc (rot64 x.vc)
  klp := select lo x.kp zb
  klc := select lo x.kc zb
  khp := select lo zb (rot64 x.kp)
  khc := select lo zb (rot64 x.kc)
  q := qStack (x.q 0) (x.q 1) (x.q 2) (x.q 3)
  d := dStack (x.d 0) (x.d 1) (x.d 2) (x.d 3)
  bp := bStack (Scalar.ofBits .f32 0x3F3504F3#32) (Scalar.ofBits .f32 0x3F000000#32) (Scalar.ofBits .f32 0x3EB504F3#32) (Scalar.ofBits .f32 0x3E800000#32) (Scalar.ofBits .f32 0x3E3504F3#32) (Scalar.ofBits .f32 0x3E000000#32) (Scalar.ofBits .f32 0x3DB504F3#32) (Scalar.ofBits .f32 0x3D800000#32) (k0_pay8 x.n)
  bc := bStack (Scalar.ofBits .f32 0x3F3504F3#32) (Scalar.ofBits .f32 0x3F000000#32) (Scalar.ofBits .f32 0x3EB504F3#32) (Scalar.ofBits .f32 0x3E800000#32) (Scalar.ofBits .f32 0x3E3504F3#32) (Scalar.ofBits .f32 0x3E000000#32) (Scalar.ofBits .f32 0x3DB504F3#32) (Scalar.ofBits .f32 0x3D800000#32) k0_pay9
  s := sStack (x.s 0) (x.s 1) (x.s 2) (x.s 3) (x.s 4) (x.s 5) (x.s 6) (x.s 7)
/-- The second key/value head's operands. -/
def h1 : HIn F where
  k2p := select lo (rot64 x.kp) x.kp
  k2c := select lo (rot64 x.kc) x.kc
  v2p := select lo (rot64 x.vp) x.vp
  v2c := select lo (rot64 x.vc) x.vc
  klp := select lo (rot64 x.kp) zb
  klc := select lo (rot64 x.kc) zb
  khp := select lo zb x.kp
  khc := select lo zb x.kc
  q := qStack (x.q 4) (x.q 5) (x.q 6) (x.q 7)
  d := dStack (x.d 4) (x.d 5) (x.d 6) (x.d 7)
  bp := bStack (Scalar.ofBits .f32 0x3D3504F3#32) (Scalar.ofBits .f32 0x3D000000#32) (Scalar.ofBits .f32 0x3CB504F3#32) (Scalar.ofBits .f32 0x3C800000#32) (Scalar.ofBits .f32 0x3C3504F3#32) (Scalar.ofBits .f32 0x3C000000#32) (Scalar.ofBits .f32 0x3BB504F3#32) (Scalar.ofBits .f32 0x3B800000#32) (k0_pay8 x.n)
  bc := bStack (Scalar.ofBits .f32 0x3D3504F3#32) (Scalar.ofBits .f32 0x3D000000#32) (Scalar.ofBits .f32 0x3CB504F3#32) (Scalar.ofBits .f32 0x3C800000#32) (Scalar.ofBits .f32 0x3C3504F3#32) (Scalar.ofBits .f32 0x3C000000#32) (Scalar.ofBits .f32 0x3BB504F3#32) (Scalar.ofBits .f32 0x3B800000#32) k0_pay9
  s := sStack (x.s 8) (x.s 9) (x.s 10) (x.s 11) (x.s 12) (x.s 13) (x.s 14) (x.s 15)
/-- What the point adds to the previous block's key and value gradients. -/
def prev : FVec F S128x256 .f32 :=
  concatenate S128x256 1 [⟨S128x128, select lo x.h0.dkp x.h1.dkp⟩, ⟨S128x128, select lo x.h0.dvp x.h1.dvp⟩] concatenates_S128x128_S128x128_S128x256_d1
/-- What the point leaves for the current block's key and value gradients. -/
def cur : FVec F S128x256 .f32 :=
  concatenate S128x256 1 [⟨S128x128, select lo x.h0.dkc x.h1.dkc⟩, ⟨S128x128, select lo x.h0.dvc x.h1.dvc⟩] concatenates_S128x128_S128x128_S128x256_d1
/-- What the point adds to the sink gradients. -/
def dsk : FVec F S1x128 .f32 :=
  dsAdd8b x.h1.st (dsAdd8a x.h0.st (broadcast S1x128 (Scalar.ofBits .f32 0x00000000#32)))
/-- The point's query gradients, lane tile by lane tile. -/
def dqT : Fin 8 → FVec F S128x128 .bf16
  | 0 => x.h0.dq 0 128 slices_S1024x128_o0_0_S128x128 slices_S1024x128_o128_0_S128x128
  | 1 => x.h0.dq 256 384 slices_S1024x128_o256_0_S128x128 slices_S1024x128_o384_0_S128x128
  | 2 => x.h0.dq 512 640 slices_S1024x128_o512_0_S128x128 slices_S1024x128_o640_0_S128x128
  | 3 => x.h0.dq 768 896 slices_S1024x128_o768_0_S128x128 slices_S1024x128_o896_0_S128x128
  | 4 => x.h1.dq 0 128 slices_S1024x128_o0_0_S128x128 slices_S1024x128_o128_0_S128x128
  | 5 => x.h1.dq 256 384 slices_S1024x128_o256_0_S128x128 slices_S1024x128_o384_0_S128x128
  | 6 => x.h1.dq 512 640 slices_S1024x128_o512_0_S128x128 slices_S1024x128_o640_0_S128x128
  | 7 => x.h1.dq 768 896 slices_S1024x128_o768_0_S128x128 slices_S1024x128_o896_0_S128x128
end PIn

end Cert.KernelIdeal.Attn

end
-- ==== Proof.AttnPieces.lean ====
module

public import proofs.«01_k».proof.Proof.AttnRunA
public import proofs.«01_k».proof.Proof.AttnRunB
public import proofs.«01_k».proof.Proof.AttnRunC
public import proofs.«01_k».proof.Proof.AttnOps

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Lane tile `j` of a block of eight. -/
theorem inbT (j : Fin 8) : ∀ a, (![0, 128 * j.val] : Fin 2 → ℕ) a + S128x128.size a ≤ S128x1024.size a := by
  intro a; have := j.isLt; fin_cases a
  · show 0 + 128 ≤ 128; omega
  · show 128 * j.val + 128 ≤ 1024; omega
/-- Sink `k` of sixteen. -/
theorem inbS (k : Fin 16) : ∀ a, (![k.val] : Fin 1 → ℕ) a + S1.size a ≤ S16.size a := by
  intro a; have := k.isLt; fin_cases a
  show k.val + 1 ≤ 16; omega

section Run
variable (c : Dev nD) (i : grid0.Coords) (arg1 : Memref sig .tc .smem S16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole)
  (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole)
  (x0 : Vec F S16 .f32) (x1 : Vec F S128x1024 .bf16) (x2 : Vec F S128x256 .bf16) (x3 : Vec F S128x256 .bf16) (x4 : Vec F S128x1024 .bf16)

/-- What a point reads, as the body's loads spell it. -/
def ptL : PIn F where
  n := BitVec.ofNat 32 (i 0).val
  s := fun k => View.readAt (Elt F) arg1.view (Rect.unit (s := S16) ![k.val] S1.size (inbS k)).toLoadRect (harg1.unread x0) (Shape.Idx.first (numel1_S1 ▸ Nat.one_pos))
  q := fun j => View.readAt (Elt F) arg2.view (Rect.unit (s := S128x1024) ![0, 128 * j.val] S128x128.size (inbT j)).toLoadRect (harg2.unread x1)
  d := fun j => View.readAt (Elt F) arg5.view (Rect.unit (s := S128x1024) ![0, 128 * j.val] S128x128.size (inbT j)).toLoadRect (harg5.unread x4)
  kp := View.readAt (Elt F) arg3.view (Rect.unit (s := S128x256) ![0, 0] S128x128.size inb_S128x256_S128x128_0_0).toLoadRect (harg3.unread x2)
  kc := View.readAt (Elt F) arg4.view (Rect.unit (s := S128x256) ![0, 0] S128x128.size inb_S128x256_S128x128_0_0).toLoadRect (harg4.unread x3)
  vp := View.readAt (Elt F) arg3.view (Rect.unit (s := S128x256) ![0, 128] S128x128.size inb_S128x256_S128x128_0_128).toLoadRect (harg3.unread x2)
  vc := View.readAt (Elt F) arg4.view (Rect.unit (s := S128x256) ![0, 128] S128x128.size inb_S128x256_S128x128_0_128).toLoadRect (harg4.unread x3)

/-- The pieces case A stores: the eight lane tiles of the query gradients. -/
theorem piecesA5 (hc0 : cond0_0 i) (hc1 : ¬cond0_1 i) (hc2 : cond0_2 i)  :
    (kernelRun0_A c i arg1 harg1 arg2 harg2 arg3 harg3 arg4 harg4 arg5 harg5 arg6 harg6 arg7 harg7 arg8 harg8 arg9 harg9 hc0 hc1 hc2 x0 x1 x2 x3 x4).1 = [⟨Rect.unit (s := S128x1024) ![0, 896] S128x128.size inb_S128x1024_S128x128_0_896, (ptL i arg1 harg1 arg2 harg2 arg3 harg3 arg4 harg4 arg5 harg5 x0 x1 x2 x3 x4).dqT 7⟩, ⟨Rect.unit (s := S128x1024) ![0, 768] S128x128.size inb_S128x1024_S128x128_0_768, (ptL i arg1 harg1 arg2 harg2 arg3 harg3 arg4 harg4 arg5 harg5 x0 x1 x2 x3 x4).dqT 6⟩, ⟨Rect.unit (s := S128x1024) ![0, 640] S128x128.size inb_S128x1024_S128x128_0_640, (ptL i arg1 harg1 arg2 harg2 arg3 harg3 arg4 harg4 arg5 harg5 x0 x1 x2 x3 x4).dqT 5⟩, ⟨Rect.unit (s := S128x1024) ![0, 512] S128x128.size inb_S128x1024_S128x128_0_512, (ptL i arg1 harg1 arg2 harg2 arg3 harg3 arg4 harg4 arg5 harg5 x0 x1 x2 x3 x4).dqT 4⟩, ⟨Rect.unit (s := S128x1024) ![0, 384] S128x128.size inb_S128x1024_S128x128_0_384, (ptL i arg1 harg1 arg2 harg2 arg3 harg3 arg4 harg4 arg5 harg5 x0 x1 x2 x3 x4).dqT 3⟩, ⟨Rect.unit (s := S128x1024) ![0, 256] S128x128.size inb_S128x1024_S128x128_0_256, (ptL i arg1 harg1 arg2 harg2 arg3 harg3 arg4 harg4 arg5 harg5 x0 x1 x2 x3 x4).dqT 2⟩, ⟨Rect.unit (s := S128x1024) ![0, 128] S128x128.size inb_S128x1024_S128x128_0_128, (ptL i arg1 harg1 arg2 harg2 arg3 harg3 arg4 harg4 arg5 harg5 x0 x1 x2 x3 x4).dqT 1⟩, ⟨Rect.unit (s := S128x1024) ![0, 0] S128x128.size inb_S128x1024_S128x128_0_0, (ptL i arg1 harg1 arg2 harg2 arg3 harg3 arg4 harg4 arg5 harg5 x0 x1 x2 x3 x4).dqT 0⟩] := by sl_kernel_rfl
/-- The pieces case A stores: the previous block's key and value gradients. -/
theorem piecesA6 (hc0 : cond0_0 i) (hc1 : ¬cond0_1 i) (hc2 : cond0_2 i)  :
    (kernelRun0_A c i arg1 harg1 arg2 harg2 arg3 harg3 arg4 harg4 arg5 harg5 arg6 harg6 arg7 harg7 arg8 harg8 arg9 harg9 hc0 hc1 hc2 x0 x1 x2 x3 x4).2.1 = [⟨(Rect.unit (s := S128x256) ![0, 0] S128x256.size inb_S128x256_S128x256_0_0), k0_pay4 (ptL i arg1 harg1 arg2 harg2 arg3 harg3 arg4 harg4 arg5 harg5 x0 x1 x2 x3 x4).prev (arg9.view.readCov [⟨(Rect.unit (s := S128x256) ![0, 0] S128x256.size inb_S128x256_S128x256_0_0), (k0_pay1 : FVec F S128x256 .f32)⟩] (Rect.unit (s := S128x256) ![0, 0] S128x256.size inb_S128x256_S128x256_0_0).toLoadRect)⟩] := by sl_kernel_rfl
/-- The pieces case A stores: the sink gradients, zeroed first. -/
theorem piecesA7 (hc0 : cond0_0 i) (hc1 : ¬cond0_1 i) (hc2 : cond0_2 i)  :
    (kernelRun0_A c i arg1 harg1 arg2 harg2 arg3 harg3 arg4 harg4 arg5 harg5 arg6 harg6 arg7 harg7 arg8 harg8 arg9 harg9 hc0 hc1 hc2 x0 x1 x2 x3 x4).2.2.1 = [⟨(Rect.unit (s := S1x128) ![0, 0] S1x128.size inb_S1x128_S1x128_0_0), k0_pay6 (ptL i arg1 harg1 arg2 harg2 arg3 harg3 arg4 harg4 arg5 harg5 x0 x1 x2 x3 x4).dsk (arg8.view.readCov [⟨(Rect.unit (s := S1x128) ![0, 0] S1x128.size inb_S1x128_S1x128_0_0), (k0_pay2 : FVec F S1x128 .f32)⟩] (Rect.unit (s := S1x128) ![0, 0] S1x128.size inb_S1x128_S1x128_0_0).toLoadRect)⟩, ⟨(Rect.unit (s := S1x128) ![0, 0] S1x128.size inb_S1x128_S1x128_0_0), k0_pay2⟩] := by sl_kernel_rfl
/-- The pieces case A stores: the carried scratch, zeroed first. -/
theorem piecesAS (hc0 : cond0_0 i) (hc1 : ¬cond0_1 i) (hc2 : cond0_2 i)  :
    (kernelRun0_A c i arg1 harg1 arg2 harg2 arg3 harg3 arg4 harg4 arg5 harg5 arg6 harg6 arg7 harg7 arg8 harg8 arg9 harg9 hc0 hc1 hc2 x0 x1 x2 x3 x4).2.2.2.1 = [⟨(Rect.unit (s := S128x256) ![0, 0] S128x256.size inb_S128x256_S128x256_0_0), k0_pay5 (ptL i arg1 harg1 arg2 harg2 arg3 harg3 arg4 harg4 arg5 harg5 x0 x1 x2 x3 x4).cur⟩, ⟨(Rect.unit (s := S128x256) ![0, 0] S128x256.size inb_S128x256_S128x256_0_0), k0_pay1⟩] := by sl_kernel_rfl
/-- The pieces case B stores: the eight lane tiles of the query gradients. -/
theorem piecesB5 (hc0 : ¬cond0_0 i) (hc1 : ¬cond0_1 i) (hc2 : cond0_2 i) (xo7 : Vec F S1x128 .f32) (xs0 : Vec F S128x256 .f32) :
    (kernelRun0_B c i arg1 harg1 arg2 harg2 arg3 harg3 arg4 harg4 arg5 harg5 arg6 harg6 arg7 harg7 arg8 harg8 arg9 harg9 hc0 hc1 hc2 x0 x1 x2 x3 x4 xo7 xs0).1 = [⟨Rect.unit (s := S128x1024) ![0, 896] S128x128.size inb_S128x1024_S128x128_0_896, (ptL i arg1 harg1 arg2 harg2 arg3 harg3 arg4 harg4 arg5 harg5 x0 x1 x2 x3 x4).dqT 7⟩, ⟨Rect.unit (s := S128x1024) ![0, 768] S128x128.size inb_S128x1024_S128x128_0_768, (ptL i arg1 harg1 arg2 harg2 arg3 harg3 arg4 harg4 arg5 harg5 x0 x1 x2 x3 x4).dqT 6⟩, ⟨Rect.unit (s := S128x1024) ![0, 640] S128x128.size inb_S128x1024_S128x128_0_640, (ptL i arg1 harg1 arg2 harg2 arg3 harg3 arg4 harg4 arg5 harg5 x0 x1 x2 x3 x4).dqT 5⟩, ⟨Rect.unit (s := S128x1024) ![0, 512] S128x128.size inb_S128x1024_S128x128_0_512, (ptL i arg1 harg1 arg2 harg2 arg3 harg3 arg4 harg4 arg5 harg5 x0 x1 x2 x3 x4).dqT 4⟩, ⟨Rect.unit (s := S128x1024) ![0, 384] S128x128.size inb_S128x1024_S128x128_0_384, (ptL i arg1 harg1 arg2 harg2 arg3 harg3 arg4 harg4 arg5 harg5 x0 x1 x2 x3 x4).dqT 3⟩, ⟨Rect.unit (s := S128x1024) ![0, 256] S128x128.size inb_S128x1024_S128x128_0_256, (ptL i arg1 harg1 arg2 harg2 arg3 harg3 arg4 harg4 arg5 harg5 x0 x1 x2 x3 x4).dqT 2⟩, ⟨Rect.unit (s := S128x1024) ![0, 128] S128x128.size inb_S128x1024_S128x128_0_128, (ptL i arg1 harg1 arg2 harg2 arg3 harg3 arg4 harg4 arg5 harg5 x0 x1 x2 x3 x4).dqT 1⟩, ⟨Rect.unit (s := S128x1024) ![0, 0] S128x128.size inb_S128x1024_S128x128_0_0, (ptL i arg1 harg1 arg2 harg2 arg3 harg3 arg4 harg4 arg5 harg5 x0 x1 x2 x3 x4).dqT 0⟩] := by sl_kernel_rfl
/-- The pieces case B stores: the previous block's key and value gradients. -/
theorem piecesB6 (hc0 : ¬cond0_0 i) (hc1 : ¬cond0_1 i) (hc2 : cond0_2 i) (xo7 : Vec F S1x128 .f32) (xs0 : Vec F S128x256 .f32) :
    (kernelRun0_B c i arg1 harg1 arg2 harg2 arg3 harg3 arg4 harg4 arg5 harg5 arg6 harg6 arg7 harg7 arg8 harg8 arg9 harg9 hc0 hc1 hc2 x0 x1 x2 x3 x4 xo7 xs0).2.1 = [⟨(Rect.unit (s := S128x256) ![0, 0] S128x256.size inb_S128x256_S128x256_0_0), k0_pay4 (ptL i arg1 harg1 arg2 harg2 arg3 harg3 arg4 harg4 arg5 harg5 x0 x1 x2 x3 x4).prev (View.readAt (Elt F) arg9.view (Rect.unit (s := S128x256) ![0, 0] S128x256.size inb_S128x256_S128x256_0_0).toLoadRect (harg9.unread xs0))⟩] := by sl_kernel_rfl
/-- The pieces case B stores: the sink gradients. -/
theorem piecesB7 (hc0 : ¬cond0_0 i) (hc1 : ¬cond0_1 i) (hc2 : cond0_2 i) (xo7 : Vec F S1x128 .f32) (xs0 : Vec F S128x256 .f32) :
    (kernelRun0_B c i arg1 harg1 arg2 harg2 arg3 harg3 arg4 harg4 arg5 harg5 arg6 harg6 arg7 harg7 arg8 harg8 arg9 harg9 hc0 hc1 hc2 x0 x1 x2 x3 x4 xo7 xs0).2.2.1 = [⟨(Rect.unit (s := S1x128) ![0, 0] S1x128.size inb_S1x128_S1x128_0_0), k0_pay6 (ptL i arg1 harg1 arg2 harg2 arg3 harg3 arg4 harg4 arg5 harg5 x0 x1 x2 x3 x4).dsk (View.readAt (Elt F) arg8.view (Rect.unit (s := S1x128) ![0, 0] S1x128.size inb_S1x128_S1x128_0_0).toLoadRect (harg8.unread xo7))⟩] := by sl_kernel_rfl
/-- The pieces case B stores: the carried scratch. -/
theorem piecesBS (hc0 : ¬cond0_0 i) (hc1 : ¬cond0_1 i) (hc2 : cond0_2 i) (xo7 : Vec F S1x128 .f32) (xs0 : Vec F S128x256 .f32) :
    (kernelRun0_B c i arg1 harg1 arg2 harg2 arg3 harg3 arg4 harg4 arg5 harg5 arg6 harg6 arg7 harg7 arg8 harg8 arg9 harg9 hc0 hc1 hc2 x0 x1 x2 x3 x4 xo7 xs0).2.2.2.1 = [⟨(Rect.unit (s := S128x256) ![0, 0] S128x256.size inb_S128x256_S128x256_0_0), k0_pay5 (ptL i arg1 harg1 arg2 harg2 arg3 harg3 arg4 harg4 arg5 harg5 x0 x1 x2 x3 x4).cur⟩] := by sl_kernel_rfl
/-- The pieces case C stores: the last block's key and value gradients. -/
theorem piecesC6 (hc0 : ¬cond0_0 i) (hc1 : cond0_1 i) (hc2 : ¬cond0_2 i) (xs0 : Vec F S128x256 .f32) :
    (kernelRun0_C c i arg1 harg1 arg2 harg2 arg3 harg3 arg4 harg4 arg5 harg5 arg6 harg6 arg7 harg7 arg8 harg8 arg9 harg9 hc0 hc1 hc2 xs0).1 = [⟨(Rect.unit (s := S128x256) ![0, 0] S128x256.size inb_S128x256_S128x256_0_0), k0_pay3 (View.readAt (Elt F) arg9.view (Rect.unit (s := S128x256) ![0, 0] S128x256.size inb_S128x256_S128x256_0_0).toLoadRect (harg9.unread xs0))⟩] := by sl_kernel_rfl
end Run

end Cert.KernelIdeal.Attn

end
-- ==== Proof.AttnFrame.lean ====
module

public import proofs.«01_k».proof.Proof.AttnPieces
public import Idealize.ShloMosaic.Lib.Claim
public import Idealize.ShloMosaic.Lib.Pipeline.Value
public import Idealize.ShloMosaic.Lib.VecWindow
public import Idealize.ShloMosaic.Lib.WholeRead
public import Idealize.ShloMosaic.Lib.ValueIdxCore

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

/-- What a grid point reads, from its number and its five blocks. -/
def ptOf (n : BitVec 32) (x0 : Vec F S16 .f32) (x1 : Vec F S128x1024 .bf16) (x2 : Vec F S128x256 .bf16) (x3 : Vec F S128x256 .bf16) (x4 : Vec F S128x1024 .bf16) : PIn F where
  n := n
  s := fun k => x0 ((Rect.unit (s := S16) ![k.val] S1.size (inbS k)).toLoadRect.idx (Shape.Idx.first (numel1_S1 ▸ Nat.one_pos)))
  q := fun j y => x1 ((Rect.unit (s := S128x1024) ![0, 128 * j.val] S128x128.size (inbT j)).toLoadRect.idx y)
  d := fun j y => x4 ((Rect.unit (s := S128x1024) ![0, 128 * j.val] S128x128.size (inbT j)).toLoadRect.idx y)
  kp := fun y => x2 ((Rect.unit (s := S128x256) ![0, 0] S128x128.size inb_S128x256_S128x128_0_0).toLoadRect.idx y)
  kc := fun y => x3 ((Rect.unit (s := S128x256) ![0, 0] S128x128.size inb_S128x256_S128x128_0_0).toLoadRect.idx y)
  vp := fun y => x2 ((Rect.unit (s := S128x256) ![0, 128] S128x128.size inb_S128x256_S128x128_0_128).toLoadRect.idx y)
  vc := fun y => x3 ((Rect.unit (s := S128x256) ![0, 128] S128x128.size inb_S128x256_S128x128_0_128).toLoadRect.idx y)

/-- The query gradients of a point as one block: lane tile by lane tile. -/
def dqOf (p : PIn F) : Vec F S128x1024 .bf16 :=
  fun y => p.dqT ⟨(y 1).val / 128, by have : (y 1).val < 1024 := (y 1).isLt; omega⟩ (ix2 (y 0) ⟨(y 1).val % 128, Nat.mod_lt _ (by decide)⟩)

section Run
variable (c : Dev nD) (i : grid0.Coords) (arg1 : Memref sig .tc .smem S16 .f32) (harg1 : arg1.IsWhole) (arg2 : Memref sig .tc .vmem S128x1024 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x1024 .bf16) (harg5 : arg5.IsWhole)
  (arg6 : Memref sig .tc .vmem S128x1024 .bf16) (harg6 : arg6.IsWhole) (arg7 : Memref sig .tc .vmem S128x256 .bf16) (harg7 : arg7.IsWhole) (arg8 : Memref sig .tc .vmem S1x128 .f32) (harg8 : arg8.IsWhole) (arg9 : Memref sig .tc .vmem S128x256 .f32) (harg9 : arg9.IsWhole)
  (x0 : Vec F S16 .f32) (x1 : Vec F S128x1024 .bf16) (x2 : Vec F S128x256 .bf16) (x3 : Vec F S128x256 .bf16) (x4 : Vec F S128x1024 .bf16)

/-- The body's loads read the blocks' entries. -/
theorem ptL_eq : (ptL i arg1 harg1 arg2 harg2 arg3 harg3 arg4 harg4 arg5 harg5 x0 x1 x2 x3 x4) = (ptOf (BitVec.ofNat 32 (i 0).val) x0 x1 x2 x3 x4) := by
  unfold ptL ptOf
  congr 1
  · funext k; exact Memref.IsWhole.readAt_unread harg1 x0 _ _
  · funext j y; exact Memref.IsWhole.readAt_unread harg2 x1 _ y
  · funext j y; exact Memref.IsWhole.readAt_unread harg5 x4 _ y
  · funext y; exact Memref.IsWhole.readAt_unread harg3 x2 _ y
  · funext y; exact Memref.IsWhole.readAt_unread harg4 x3 _ y
  · funext y; exact Memref.IsWhole.readAt_unread harg3 x2 _ y
  · funext y; exact Memref.IsWhole.readAt_unread harg4 x3 _ y

/-- A point's lane tile is the block's entries in that tile. -/
theorem dqT_eq (p : PIn F) (j : Fin 8) (x : S128x128.Idx) (o : ℕ) (ho : o = 128 * j.val) (h : ∀ a, (![0, o] : Fin 2 → ℕ) a + S128x128.size a ≤ S128x1024.size a) :
    p.dqT j x = dqOf p ((Rect.unit (s := S128x1024) ![0, o] S128x128.size h).emb x) := by
  subst ho
  have h1 : (x 1).val < 128 := (x 1).isLt
  unfold dqOf
  have e : ∀ k : Fin 8, ∀ z : S128x128.Idx, k = j → z = x → p.dqT j x = p.dqT k z := by rintro k z rfl rfl; rfl
  refine e _ _ (Fin.ext ?_) (funext fun a => ?_)
  · show (128 * j.val + 1 * (x 1).val) / 128 = j.val; omega
  · match a with
    | ⟨0, _⟩ => exact Fin.ext (show 0 + 1 * (x 0).val = (x 0).val by omega)
    | ⟨1, _⟩ => exact Fin.ext (show (128 * j.val + 1 * (x 1).val) % 128 = (x 1).val by omega)

/-- A whole load of a whole buffer reads its contents. -/
theorem readAt_all {s : Shape} {e : EltTy} {sp : Space} (arg : Memref sig .tc sp s e) (h : arg.IsWhole) (x : Vec F s e) {off : Fin s.rank → ℕ} (inb : ∀ a, off a + s.size a ≤ s.size a) :
    View.readAt (Elt F) arg.view (Rect.unit off s.size inb).toLoadRect (h.unread x) = x := by
  rw [View.readAt_full]; exact h.read_unread x

/-- Case A leaves the point's query gradients in output 5's buffer. -/
theorem readA5 (hc0 : cond0_0 i) (hc1 : ¬cond0_1 i) (hc2 : cond0_2 i)  (f) :
    arg6.view.read (Elt F) (arg6.view.writes (Elt F) f (kernelRun0_A c i arg1 harg1 arg2 harg2 arg3 harg3 arg4 harg4 arg5 harg5 arg6 harg6 arg7 harg7 arg8 harg8 arg9 harg9 hc0 hc1 hc2 x0 x1 x2 x3 x4).1) = dqOf (ptOf (BitVec.ofNat 32 (i 0).val) x0 x1 x2 x3 x4) := by
  funext y
  refine View.read_writes_apply_of_pieces _ _ _ (kernelRun0_A c i arg1 harg1 arg2 harg2 arg3 harg3 arg4 harg4 arg5 harg5 arg6 harg6 arg7 harg7 arg8 harg8 arg9 harg9 hc0 hc1 hc2 x0 x1 x2 x3 x4).1 ?_ y (View.cover_of_tiledL (kernelRun0_A c i arg1 harg1 arg2 harg2 arg3 harg3 arg4 harg4 arg5 harg5 arg6 harg6 arg7 harg7 arg8 harg8 arg9 harg9 hc0 hc1 hc2 x0 x1 x2 x3 x4).1 S128x128.size (by sl_kernel_rfl) y)
  rw [piecesA5, ptL_eq]
  intro p hp x
  simp only [List.mem_cons, List.not_mem_nil, or_false] at hp
  rcases hp with rfl | rfl | rfl | rfl | rfl | rfl | rfl | rfl
  · exact dqT_eq _ 7 x 896 rfl inb_S128x1024_S128x128_0_896
  · exact dqT_eq _ 6 x 768 rfl inb_S128x1024_S128x128_0_768
  · exact dqT_eq _ 5 x 640 rfl inb_S128x1024_S128x128_0_640
  · exact dqT_eq _ 4 x 512 rfl inb_S128x1024_S128x128_0_512
  · exact dqT_eq _ 3 x 384 rfl inb_S128x1024_S128x128_0_384
  · exact dqT_eq _ 2 x 256 rfl inb_S128x1024_S128x128_0_256
  · exact dqT_eq _ 1 x 128 rfl inb_S128x1024_S128x128_0_128
  · exact dqT_eq _ 0 x 0 rfl inb_S128x1024_S128x128_0_0
/-- Case A leaves the previous block's gradients in output 6's buffer. -/
theorem readA6 (hc0 : cond0_0 i) (hc1 : ¬cond0_1 i) (hc2 : cond0_2 i)  (f) :
    arg7.view.read (Elt F) (arg7.view.writes (Elt F) f (kernelRun0_A c i arg1 harg1 arg2 harg2 arg3 harg3 arg4 harg4 arg5 harg5 arg6 harg6 arg7 harg7 arg8 harg8 arg9 harg9 hc0 hc1 hc2 x0 x1 x2 x3 x4).2.1) = k0_pay4 (ptOf (BitVec.ofNat 32 (i 0).val) x0 x1 x2 x3 x4).prev k0_pay1 := by
  rw [piecesA6, ptL_eq, View.read_writes_full, View.readCov_full]
/-- Case A adds the point's sink gradients in output 7's buffer. -/
theorem readA7 (hc0 : cond0_0 i) (hc1 : ¬cond0_1 i) (hc2 : cond0_2 i)  (f) :
    arg8.view.read (Elt F) (arg8.view.writes (Elt F) f (kernelRun0_A c i arg1 harg1 arg2 harg2 arg3 harg3 arg4 harg4 arg5 harg5 arg6 harg6 arg7 harg7 arg8 harg8 arg9 harg9 hc0 hc1 hc2 x0 x1 x2 x3 x4).2.2.1) = k0_pay6 (ptOf (BitVec.ofNat 32 (i 0).val) x0 x1 x2 x3 x4).dsk k0_pay2 := by
  rw [piecesA7, ptL_eq, View.read_writes_full, View.readCov_full]
/-- Case A leaves the current block's gradients in the carried scratch. -/
theorem readAS (hc0 : cond0_0 i) (hc1 : ¬cond0_1 i) (hc2 : cond0_2 i)  (f) :
    arg9.view.read (Elt F) (arg9.view.writes (Elt F) f (kernelRun0_A c i arg1 harg1 arg2 harg2 arg3 harg3 arg4 harg4 arg5 harg5 arg6 harg6 arg7 harg7 arg8 harg8 arg9 harg9 hc0 hc1 hc2 x0 x1 x2 x3 x4).2.2.2.1) = k0_pay5 (ptOf (BitVec.ofNat 32 (i 0).val) x0 x1 x2 x3 x4).cur := by
  rw [piecesAS, ptL_eq, View.read_writes_full]
/-- Case B leaves the point's query gradients in output 5's buffer. -/
theorem readB5 (hc0 : ¬cond0_0 i) (hc1 : ¬cond0_1 i) (hc2 : cond0_2 i) (xo7 : Vec F S1x128 .f32) (xs0 : Vec F S128x256 .f32) (f) :
    arg6.view.read (Elt F) (arg6.view.writes (Elt F) f (kernelRun0_B c i arg1 harg1 arg2 harg2 arg3 harg3 arg4 harg4 arg5 harg5 arg6 harg6 arg7 harg7 arg8 harg8 arg9 harg9 hc0 hc1 hc2 x0 x1 x2 x3 x4 xo7 xs0).1) = dqOf (ptOf (BitVec.ofNat 32 (i 0).val) x0 x1 x2 x3 x4) := by
  funext y
  refine View.read_writes_apply_of_pieces _ _ _ (kernelRun0_B c i arg1 harg1 arg2 harg2 arg3 harg3 arg4 harg4 arg5 harg5 arg6 harg6 arg7 harg7 arg8 harg8 arg9 harg9 hc0 hc1 hc2 x0 x1 x2 x3 x4 xo7 xs0).1 ?_ y (View.cover_of_tiledL (kernelRun0_B c i arg1 harg1 arg2 harg2 arg3 harg3 arg4 harg4 arg5 harg5 arg6 harg6 arg7 harg7 arg8 harg8 arg9 harg9 hc0 hc1 hc2 x0 x1 x2 x3 x4 xo7 xs0).1 S128x128.size (by sl_kernel_rfl) y)
  rw [piecesB5, ptL_eq]
  intro p hp x
  simp only [List.mem_cons, List.not_mem_nil, or_false] at hp
  rcases hp with rfl | rfl | rfl | rfl | rfl | rfl | rfl | rfl
  · exact dqT_eq _ 7 x 896 rfl inb_S128x1024_S128x128_0_896
  · exact dqT_eq _ 6 x 768 rfl inb_S128x1024_S128x128_0_768
  · exact dqT_eq _ 5 x 640 rfl inb_S128x1024_S128x128_0_640
  · exact dqT_eq _ 4 x 512 rfl inb_S128x1024_S128x128_0_512
  · exact dqT_eq _ 3 x 384 rfl inb_S128x1024_S128x128_0_384
  · exact dqT_eq _ 2 x 256 rfl inb_S128x1024_S128x128_0_256
  · exact dqT_eq _ 1 x 128 rfl inb_S128x1024_S128x128_0_128
  · exact dqT_eq _ 0 x 0 rfl inb_S128x1024_S128x128_0_0
/-- Case B leaves the previous block's gradients in output 6's buffer. -/
theorem readB6 (hc0 : ¬cond0_0 i) (hc1 : ¬cond0_1 i) (hc2 : cond0_2 i) (xo7 : Vec F S1x128 .f32) (xs0 : Vec F S128x256 .f32) (f) :
    arg7.view.read (Elt F) (arg7.view.writes (Elt F) f (kernelRun0_B c i arg1 harg1 arg2 harg2 arg3 harg3 arg4 harg4 arg5 harg5 arg6 harg6 arg7 harg7 arg8 harg8 arg9 harg9 hc0 hc1 hc2 x0 x1 x2 x3 x4 xo7 xs0).2.1) = k0_pay4 (ptOf (BitVec.ofNat 32 (i 0).val) x0 x1 x2 x3 x4).prev xs0 := by
  rw [piecesB6, ptL_eq, View.read_writes_full, readAt_all]
/-- Case B adds the point's sink gradients in output 7's buffer. -/
theorem readB7 (hc0 : ¬cond0_0 i) (hc1 : ¬cond0_1 i) (hc2 : cond0_2 i) (xo7 : Vec F S1x128 .f32) (xs0 : Vec F S128x256 .f32) (f) :
    arg8.view.read (Elt F) (arg8.view.writes (Elt F) f (kernelRun0_B c i arg1 harg1 arg2 harg2 arg3 harg3 arg4 harg4 arg5 harg5 arg6 harg6 arg7 harg7 arg8 harg8 arg9 harg9 hc0 hc1 hc2 x0 x1 x2 x3 x4 xo7 xs0).2.2.1) = k0_pay6 (ptOf (BitVec.ofNat 32 (i 0).val) x0 x1 x2 x3 x4).dsk xo7 := by
  rw [piecesB7, ptL_eq, View.read_writes_full, readAt_all]
/-- Case B leaves the current block's gradients in the carried scratch. -/
theorem readBS (hc0 : ¬cond0_0 i) (hc1 : ¬cond0_1 i) (hc2 : cond0_2 i) (xo7 : Vec F S1x128 .f32) (xs0 : Vec F S128x256 .f32) (f) :
    arg9.view.read (Elt F) (arg9.view.writes (Elt F) f (kernelRun0_B c i arg1 harg1 arg2 harg2 arg3 harg3 arg4 harg4 arg5 harg5 arg6 harg6 arg7 harg7 arg8 harg8 arg9 harg9 hc0 hc1 hc2 x0 x1 x2 x3 x4 xo7 xs0).2.2.2.1) = k0_pay5 (ptOf (BitVec.ofNat 32 (i 0).val) x0 x1 x2 x3 x4).cur := by
  rw [piecesBS, ptL_eq, View.read_writes_full]
/-- Case C writes the carried scratch into output 6's buffer. -/
theorem readC6 (hc0 : ¬cond0_0 i) (hc1 : cond0_1 i) (hc2 : ¬cond0_2 i) (xs0 : Vec F S128x256 .f32) (f) :
    arg7.view.read (Elt F) (arg7.view.writes (Elt F) f (kernelRun0_C c i arg1 harg1 arg2 harg2 arg3 harg3 arg4 harg4 arg5 harg5 arg6 harg6 arg7 harg7 arg8 harg8 arg9 harg9 hc0 hc1 hc2 xs0).1) = k0_pay3 xs0 := by
  rw [piecesC6, View.read_writes_full, readAt_all]
end Run

variable (m : (ℓ : Loc nD τ sig) → Buf (Elt F) ℓ) (ρ : Dev nD → PrngReg)

/-- What grid point `t` reads. -/
def pt (c : Dev nD) (t : Fin cfg0.N) : PIn F :=
  ptOf (BitVec.ofNat 32 (grid0.coords t 0).val) (iblk m c 0 t) (iblk m c 1 t) (iblk m c 2 t) (iblk m c 3 t) (iblk m c 4 t)

/-- What the three outputs' buffers and the carried scratch hold after each point: before the last point the query gradients,
    the previous block's key and value gradients over what the point before carried, the sink gradients added up, and the
    current block's key and value gradients carried on; at the last point only output 6 changes, to what was carried. -/
def outsAt0 (c : Dev nD) : (n : ℕ) → n < cfg0.N → Vec F S128x1024 .bf16 × Vec F S128x256 .bf16 × Vec F S1x128 .f32 × Vec F S128x256 .f32
  | 0, hn => (dqOf (pt m c ⟨0, hn⟩), k0_pay4 (pt m c ⟨0, hn⟩).prev k0_pay1, k0_pay6 (pt m c ⟨0, hn⟩).dsk k0_pay2, k0_pay5 (pt m c ⟨0, hn⟩).cur)
  | n + 1, hn =>
    if n + 1 < 32 then
      (dqOf (pt m c ⟨n + 1, hn⟩), k0_pay4 (pt m c ⟨n + 1, hn⟩).prev (outsAt0 c n (Nat.lt_of_succ_lt hn)).2.2.2, k0_pay6 (pt m c ⟨n + 1, hn⟩).dsk (outsAt0 c n (Nat.lt_of_succ_lt hn)).2.2.1, k0_pay5 (pt m c ⟨n + 1, hn⟩).cur)
    else
      ((outsAt0 c n (Nat.lt_of_succ_lt hn)).1, k0_pay3 (outsAt0 c n (Nat.lt_of_succ_lt hn)).2.2.2, (outsAt0 c n (Nat.lt_of_succ_lt hn)).2.2.1, (outsAt0 c n (Nat.lt_of_succ_lt hn)).2.2.2)

/-- `outsAt0` at the first point. -/
theorem outsAt0_A (c : Dev nD) (t : Fin cfg0.N) (h0 : t.val = 0) :
    outsAt0 m c t.val t.isLt = (dqOf (pt m c t), k0_pay4 (pt m c t).prev k0_pay1, k0_pay6 (pt m c t).dsk k0_pay2, k0_pay5 (pt m c t).cur) := by
  obtain ⟨n, hn⟩ := t
  cases n with
  | zero => exact rfl
  | succ n => exact absurd h0 (Nat.succ_ne_zero n)

/-- `outsAt0` at a middle point. -/
theorem outsAt0_B (c : Dev nD) (t : Fin cfg0.N) (h0 : t.val ≠ 0) (h2 : t.val < 32) :
    outsAt0 m c t.val t.isLt = (dqOf (pt m c t), k0_pay4 (pt m c t).prev (outsAt0 m c (t.val - 1) (Nat.lt_of_le_of_lt (Nat.sub_le _ _) t.isLt)).2.2.2, k0_pay6 (pt m c t).dsk (outsAt0 m c (t.val - 1) (Nat.lt_of_le_of_lt (Nat.sub_le _ _) t.isLt)).2.2.1, k0_pay5 (pt m c t).cur) := by
  obtain ⟨n, hn⟩ := t
  cases n with
  | zero => exact absurd rfl h0
  | succ n => exact if_pos h2

/-- `outsAt0` at the last point. -/
theorem outsAt0_C (c : Dev nD) (t : Fin cfg0.N) (h0 : t.val ≠ 0) (h2 : ¬t.val < 32) :
    outsAt0 m c t.val t.isLt = ((outsAt0 m c (t.val - 1) (Nat.lt_of_le_of_lt (Nat.sub_le _ _) t.isLt)).1, k0_pay3 (outsAt0 m c (t.val - 1) (Nat.lt_of_le_of_lt (Nat.sub_le _ _) t.isLt)).2.2.2, (outsAt0 m c (t.val - 1) (Nat.lt_of_le_of_lt (Nat.sub_le _ _) t.isLt)).2.2.1, (outsAt0 m c (t.val - 1) (Nat.lt_of_le_of_lt (Nat.sub_le _ _) t.isLt)).2.2.2) := by
  obtain ⟨n, hn⟩ := t
  cases n with
  | zero => exact absurd rfl h0
  | succ n => exact if_neg h2

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Outputs 5 and 7 are left alone at the last point alone, and what they hold there is what the point before left. -/
theorem idle5 : ∀ t : Fin cfg0.N, cfg0.idle 5 (grid0.coords t) = true → t.val ≠ 0 ∧ ¬t.val < 32 := by decide +kernel
theorem idle7 : ∀ t : Fin cfg0.N, cfg0.idle 7 (grid0.coords t) = true → t.val ≠ 0 ∧ ¬t.val < 32 := by decide +kernel
theorem flush5_C : ∀ t : Fin cfg0.N, ¬t.val < 32 → (cfg0.win 5).flush t = true := by decide +kernel
theorem flush7_C : ∀ t : Fin cfg0.N, ¬t.val < 32 → (cfg0.win 7).flush t = true := by decide +kernel

theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  obtain ⟨h0, h2⟩ := idle5 t hi
  rw [after0_5, after0_5, outsAt0_C m c t h0 h2]
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  obtain ⟨h0, h2⟩ := idle7 t hi
  rw [after0_7, after0_7, outsAt0_C m c t h0 h2]

/-- At the last point output 5's buffer holds what the point before left. -/
theorem before0_5_C (c : Dev nD) (t : Fin cfg0.N) (h0 : ¬t.val % 33 = 0) (h1 : t.val % 33 = 32) (h2 : ¬t.val < 32) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_C t (fun h => h0 ((hcond0_0 t).mp h)) ((hcond0_1 t).mpr h1) (fun h => h2 ((hcond0_2 t).mp h))]; exact Bool.false_ne_true)]
  dsimp only [dats]
/-- At a point of case B output 7's current staging buffer holds what the point before left: the buffer is not fresh
    there (`notFresh0_7_B`: stored into since the region's entry or the last write-back, carried through the points that
    leave it idle by `hcarry0_7`; Lib/Pipeline/TableIdle.lean `Dat.before_out_traj`). -/
theorem before0_7_B (c : Dev nD) (t : Fin cfg0.N) (h0 : ¬t.val % 33 = 0) (h1 : ¬t.val % 33 = 32) (h2 : t.val < 32) (d) :
    (dats m 0 c).before 7 t d = (outsAt0 m c (t.val - 1) (Nat.lt_of_le_of_lt (Nat.sub_le _ _) t.isLt)).2.2.1 := by
  rw [Dat.before_out_traj _ 7 rfl (fun _ _ => rfl) (hcarry0_7 m c) t.val t rfl d,
    if_neg (by rw [notFresh0_7_B t (fun h => h0 ((hcond0_0 t).mp h)) (fun h => h1 ((hcond0_1 t).mp h)) ((hcond0_2 t).mpr h2)]; exact Bool.false_ne_true)]
  dsimp only [dats]
/-- At a point of case C output 7's current staging buffer holds what the point before left: the buffer is not fresh
    there (`notFresh0_7_C`: stored into since the region's entry or the last write-back, carried through the points that
    leave it idle by `hcarry0_7`; Lib/Pipeline/TableIdle.lean `Dat.before_out_traj`). -/
theorem before0_7_C (c : Dev nD) (t : Fin cfg0.N) (h0 : ¬t.val % 33 = 0) (h1 : t.val % 33 = 32) (h2 : ¬t.val < 32) (d) :
    (dats m 0 c).before 7 t d = (outsAt0 m c (t.val - 1) (Nat.lt_of_le_of_lt (Nat.sub_le _ _) t.isLt)).2.2.1 := by
  rw [Dat.before_out_traj _ 7 rfl (fun _ _ => rfl) (hcarry0_7 m c) t.val t rfl d,
    if_neg (by rw [notFresh0_7_C t (fun h => h0 ((hcond0_0 t).mp h)) ((hcond0_1 t).mpr h1) (fun h => h2 ((hcond0_2 t).mp h))]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks; the case's run applies, and what its stores leave is what
    `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases hz : t.val = 0
  · have h0 : t.val % 33 = 0 := by omega
    have h1 : ¬t.val % 33 = 32 := by omega
    have h2 : t.val < 32 := by omega
    rw [show (dats m 0 c).leavesExact 0 t = owns (c : Thread nD τ) (ms0_0 t) fullShare ((dats m 0 c).after 0 t) from by
          unfold Dat.leavesExact; rw [liveAt0_0 t], after0_0]
    rw [show (dats m 0 c).leavesExact 1 t = owns (c : Thread nD τ) (ms0_1 t) fullShare ((dats m 0 c).after 1 t) from by
          unfold Dat.leavesExact; rw [liveAt0_1 t], after0_1]
    rw [show (dats m 0 c).leavesExact 2 t = owns (c : Thread nD τ) (ms0_2 t) fullShare ((dats m 0 c).after 2 t) from by
          unfold Dat.leavesExact; rw [liveAt0_2 t], after0_2]
    rw [show (dats m 0 c).leavesExact 3 t = owns (c : Thread nD τ) (ms0_3 t) fullShare ((dats m 0 c).after 3 t) from by
          unfold Dat.leavesExact; rw [liveAt0_3 t], after0_3]
    rw [show (dats m 0 c).leavesExact 4 t = owns (c : Thread nD τ) (ms0_4 t) fullShare ((dats m 0 c).after 4 t) from by
          unfold Dat.leavesExact; rw [liveAt0_4 t], after0_4]
    rw [show (dats m 0 c).leavesExact 5 t = owns (c : Thread nD τ) (ms0_5 t) fullShare ((dats m 0 c).after 5 t) from by
          unfold Dat.leavesExact; rw [liveAt0_5_A t ((hcond0_0 t).mpr h0) (fun h => h1 ((hcond0_1 t).mp h)) ((hcond0_2 t).mpr h2)], after0_5]
    rw [show (dats m 0 c).leavesExact 6 t = owns (c : Thread nD τ) (ms0_6 t) fullShare ((dats m 0 c).after 6 t) from by
          unfold Dat.leavesExact; rw [liveAt0_6_A t ((hcond0_0 t).mpr h0) (fun h => h1 ((hcond0_1 t).mp h)) ((hcond0_2 t).mpr h2)], after0_6]
    rw [show (dats m 0 c).leavesExact 7 t = owns (c : Thread nD τ) (ms0_7 t) fullShare ((dats m 0 c).after 7 t) from by
          unfold Dat.leavesExact; rw [liveAt0_7_A t ((hcond0_0 t).mpr h0) (fun h => h1 ((hcond0_1 t).mp h)) ((hcond0_2 t).mpr h2)], after0_7]
    rw [PhiS_castSucc m c t, PhiS_zero m c _ _ hz, PhiA0_eq]
    rw [outsAt0_A m c t hz]
    try dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact readAS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) _
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact readA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) _
    isplitl [H6]
    · unfold owns; iexists _; isplitr
      swap; · iexact H6
      ipureintro; exact readA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) _
    unfold owns; iexists _; isplitr
    swap; · iexact H7
    ipureintro; exact readA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) ((hcond0_0 t).mpr h0) (fun h => h1 ((hcond0_1 t).mp h)) ((hcond0_2 t).mpr h2) _

  have h0 : ¬t.val % 33 = 0 := by omega
  by_cases h2 : t.val < 32
  · have h1 : ¬t.val % 33 = 32 := by omega
    rw [show (dats m 0 c).leavesExact 0 t = owns (c : Thread nD τ) (ms0_0 t) fullShare ((dats m 0 c).after 0 t) from by
          unfold Dat.leavesExact; rw [liveAt0_0 t], after0_0]
    rw [show (dats m 0 c).leavesExact 1 t = owns (c : Thread nD τ) (ms0_1 t) fullShare ((dats m 0 c).after 1 t) from by
          unfold Dat.leavesExact; rw [liveAt0_1 t], after0_1]
    rw [show (dats m 0 c).leavesExact 2 t = owns (c : Thread nD τ) (ms0_2 t) fullShare ((dats m 0 c).after 2 t) from by
          unfold Dat.leavesExact; rw [liveAt0_2 t], after0_2]
    rw [show (dats m 0 c).leavesExact 3 t = owns (c : Thread nD τ) (ms0_3 t) fullShare ((dats m 0 c).after 3 t) from by
          unfold Dat.leavesExact; rw [liveAt0_3 t], after0_3]
    rw [show (dats m 0 c).leavesExact 4 t = owns (c : Thread nD τ) (ms0_4 t) fullShare ((dats m 0 c).after 4 t) from by
          unfold Dat.leavesExact; rw [liveAt0_4 t], after0_4]
    rw [show (dats m 0 c).leavesExact 5 t = owns (c : Thread nD τ) (ms0_5 t) fullShare ((dats m 0 c).after 5 t) from by
          unfold Dat.leavesExact; rw [liveAt0_5_B t (fun h => h0 ((hcond0_0 t).mp h)) (fun h => h1 ((hcond0_1 t).mp h)) ((hcond0_2 t).mpr h2)], after0_5]
    rw [show (dats m 0 c).leavesExact 6 t = owns (c : Thread nD τ) (ms0_6 t) fullShare ((dats m 0 c).after 6 t) from by
          unfold Dat.leavesExact; rw [liveAt0_6_B t (fun h => h0 ((hcond0_0 t).mp h)) (fun h => h1 ((hcond0_1 t).mp h)) ((hcond0_2 t).mpr h2)], after0_6]
    rw [show (dats m 0 c).leavesExact 7 t = owns (c : Thread nD τ) (ms0_7 t) fullShare ((dats m 0 c).after 7 t) from by
          unfold Dat.leavesExact; rw [liveAt0_7_B t (fun h => h0 ((hcond0_0 t).mp h)) (fun h => h1 ((hcond0_1 t).mp h)) ((hcond0_2 t).mpr h2)], after0_7]
    rw [PhiS_castSucc m c t, PhiS_pos m c _ _ hz]
    rw [outsAt0_B m c t hz h2]
    simp only [before0_7_B m c t h0 h1 h2]
    try dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexact H7
    isplitl [HS0]; · iexact HS0
    iintro ⟨H0, H1, H2, H3, H4, ⟨%e5, H5⟩, ⟨%e6, H6⟩, ⟨%e7, H7⟩, ⟨%es0, HS0⟩⟩
    isplitl [HS0 Hg]
    · isplitl [HS0]
      · unfold owns; iexists _; isplitr
        swap; · iexact HS0
        ipureintro; exact readBS c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (fun h => h1 ((hcond0_1 t).mp h)) ((hcond0_2 t).mpr h2) _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact readB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (fun h => h1 ((hcond0_1 t).mp h)) ((hcond0_2 t).mpr h2) _ _ _
    isplitl [H6]
    · unfold owns; iexists _; isplitr
      swap; · iexact H6
      ipureintro; exact readB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (fun h => h1 ((hcond0_1 t).mp h)) ((hcond0_2 t).mpr h2) _ _ _
    unfold owns; iexists _; isplitr
    swap; · iexact H7
    ipureintro; exact readB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk m c 0 t) (iblk m c 1 t) (iblk m c 2 t) (iblk m c 3 t) (iblk m c 4 t) (fun h => h0 ((hcond0_0 t).mp h)) (fun h => h1 ((hcond0_1 t).mp h)) ((hcond0_2 t).mpr h2) _ _ _

  · have h1 : t.val % 33 = 32 := by omega
    rw [show (dats m 0 c).leavesExact 0 t = owns (c : Thread nD τ) (ms0_0 t) fullShare ((dats m 0 c).after 0 t) from by
          unfold Dat.leavesExact; rw [liveAt0_0 t], after0_0]
    rw [show (dats m 0 c).leavesExact 1 t = owns (c : Thread nD τ) (ms0_1 t) fullShare ((dats m 0 c).after 1 t) from by
          unfold Dat.leavesExact; rw [liveAt0_1 t], after0_1]
    rw [show (dats m 0 c).leavesExact 2 t = owns (c : Thread nD τ) (ms0_2 t) fullShare ((dats m 0 c).after 2 t) from by
          unfold Dat.leavesExact; rw [liveAt0_2 t], after0_2]
    rw [show (dats m 0 c).leavesExact 3 t = owns (c : Thread nD τ) (ms0_3 t) fullShare ((dats m 0 c).after 3 t) from by
          unfold Dat.leavesExact; rw [liveAt0_3 t], after0_3]
    rw [show (dats m 0 c).leavesExact 4 t = owns (c : Thread nD τ) (ms0_4 t) fullShare ((dats m 0 c).after 4 t) from by
          unfold Dat.leavesExact; rw [liveAt0_4 t], after0_4]
    rw [show (dats m 0 c).leavesExact 5 t = owns (c : Thread nD τ) (ms0_5 t) fullShare ((dats m 0 c).after 5 t) from by
          unfold Dat.leavesExact; rw [idleAt0_5_C t (fun h => h0 ((hcond0_0 t).mp h)) ((hcond0_1 t).mpr h1) (fun h => h2 ((hcond0_2 t).mp h)), flush5_C t h2], after0_5]
    rw [show (dats m 0 c).leavesExact 6 t = owns (c : Thread nD τ) (ms0_6 t) fullShare ((dats m 0 c).after 6 t) from by
          unfold Dat.leavesExact; rw [liveAt0_6_C t (fun h => h0 ((hcond0_0 t).mp h)) ((hcond0_1 t).mpr h1) (fun h => h2 ((hcond0_2 t).mp h))], after0_6]
    rw [show (dats m 0 c).leavesExact 7 t = owns (c : Thread nD τ) (ms0_7 t) fullShare ((dats m 0 c).after 7 t) from by
          unfold Dat.leavesExact; rw [idleAt0_7_C t (fun h => h0 ((hcond0_0 t).mp h)) ((hcond0_1 t).mpr h1) (fun h => h2 ((hcond0_2 t).mp h)), flush7_C t h2], after0_7]
    rw [PhiS_castSucc m c t, PhiS_pos m c _ _ hz]
    rw [outsAt0_C m c t hz h2]
    simp only [before0_5_C m c t h0 h1 h2, before0_7_C m c t h0 h1 h2]
    try dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) _).2 Set.univ _)
    isplitl [H6]; · iexists _; iexact H6
    isplitl [HS0]; · iexact HS0
    iintro ⟨⟨%e6, H6⟩, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact readC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (fun h => h2 ((hcond0_2 t).mp h)) _ _
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 33 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: the arguments end unchanged and every counter at zero, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.SoftRow.lean ====
module

public import Idealize.ShloMosaic.PureOps.Ideal.Laws
public import Idealize.ShloMosaic.Lib.IdealHost

@[expose] public section

noncomputable section

/-! # One row of a softmax with a sink, and its gradient, over the reals

A row has scores `x i` (a real, or `⊥` where the score is masked), a sink `z`, and the gradients `dp i` of the
probabilities. The probabilities are `exp (x i - m) / D` with `m` the largest of the scores and the sink and
`D` the sum of the exponentials, the sink's among them. -/

namespace Cert.SoftRow

open Idealize.ShloMosaic

variable {ι : Type} [Fintype ι]

/-- A finite sum of reals is the same sum of extended reals. -/
theorem coe_sum {κ : Type} (s : Finset κ) (f : κ → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest score of the row. -/
def top (x : ι → EReal) : EReal := Finset.univ.fold max ⊥ x
/-- The largest of the scores and the sink. -/
def mx (x : ι → EReal) (z : ℝ) : EReal := max (top x) z
/-- The same as a real. -/
def m (x : ι → EReal) (z : ℝ) : ℝ := (mx x z).toReal
/-- A score's shifted exponential; zero where the score is masked. -/
def e (x : ι → EReal) (z : ℝ) (i : ι) : ℝ := (Ideal.exp (x i - mx x z)).toReal
/-- The sink's shifted exponential. -/
def es (x : ι → EReal) (z : ℝ) : ℝ := Real.exp (z - m x z)
/-- The sum of the exponentials. -/
def D (x : ι → EReal) (z : ℝ) : ℝ := ∑ i, e x z i + es x z
/-- The probabilities. -/
def p (x : ι → EReal) (z : ℝ) (i : ι) : ℝ := e x z i / D x z
/-- The probabilities times their gradients, summed. -/
def delta (x : ι → EReal) (z : ℝ) (dp : ι → ℝ) : ℝ := ∑ i, p x z i * dp i
/-- The gradients of the scores. -/
def ds (x : ι → EReal) (z : ℝ) (dp : ι → ℝ) (i : ι) : ℝ := p x z i * (dp i - delta x z dp)
/-- Minus the gradient of the sink. -/
def st (x : ι → EReal) (z : ℝ) (dp : ι → ℝ) : ℝ := es x z / D x z * delta x z dp

section
variable (x : ι → EReal) (z : ℝ) (hx : ∀ i, x i ≠ ⊤)
include hx

theorem top_ne_top : top x ≠ ⊤ := by
  have : top x < ⊤ := (Finset.fold_max_lt (s := Finset.univ) (b := ⊥) (f := x) ⊤).mpr ⟨bot_lt_top, fun i _ => lt_top_iff_ne_top.mpr (hx i)⟩
  exact this.ne

theorem mx_eq : mx x z = (m x z : EReal) := by
  refine (EReal.coe_toReal ?_ ?_).symm
  · exact ne_of_lt (max_lt (lt_top_iff_ne_top.mpr (top_ne_top x hx)) (EReal.coe_lt_top z))
  · exact ne_of_gt (lt_of_lt_of_le (EReal.bot_lt_coe z) (le_max_right _ _))

theorem exp_eq (i : ι) : Ideal.exp (x i - mx x z) = (e x z i : EReal) ∧ 0 ≤ e x z i := by
  unfold e
  rw [mx_eq x z hx]
  generalize m x z = r
  have h := hx i
  generalize x i = y at h
  induction y with
  | bot => rw [EReal.bot_sub]; simp
  | top => exact absurd rfl h
  | coe y => rw [← EReal.coe_sub, Ideal.exp_coe, EReal.toReal_coe]; exact ⟨rfl, Real.exp_nonneg _⟩

theorem exp_sink : Ideal.exp ((z : EReal) - mx x z) = (es x z : EReal) := by
  rw [mx_eq x z hx, ← EReal.coe_sub]; rfl

theorem D_pos : 0 < D x z :=
  add_pos_of_nonneg_of_pos (Finset.sum_nonneg fun i _ => (exp_eq x z hx i).2) (Real.exp_pos _)

theorem D_ne : D x z ≠ 0 := (D_pos x z hx).ne'

/-- The probabilities and the sink's add up to one. -/
theorem sum_p : ∑ i, p x z i = 1 - es x z / D x z := by
  unfold p
  rw [← Finset.sum_div, eq_sub_iff_add_eq, ← add_div]
  exact div_self (D_ne x z hx)

/-- The gradients of the scores add up to minus the sink's. -/
theorem sum_ds (dp : ι → ℝ) : ∑ i, ds x z dp i = st x z dp := by
  unfold ds st
  simp only [mul_sub]
  rw [Finset.sum_sub_distrib, ← Finset.sum_mul, sum_p x z hx]
  show delta x z dp - _ = _
  ring
end

theorem e_bot (x : ι → EReal) (z : ℝ) (i : ι) (h : x i = ⊥) : e x z i = 0 := by
  unfold e; rw [h, EReal.bot_sub]; simp

theorem p_bot (x : ι → EReal) (z : ℝ) (i : ι) (h : x i = ⊥) : p x z i = 0 := by
  unfold p; rw [e_bot x z i h, zero_div]

theorem ds_bot (x : ι → EReal) (z : ℝ) (dp : ι → ℝ) (i : ι) (h : x i = ⊥) : ds x z dp i = 0 := by
  unfold ds; rw [p_bot x z i h, zero_mul]

/-- The gradients of the probabilities matter only where the score is not masked. -/
theorem delta_congr (x : ι → EReal) (z : ℝ) (dp dp' : ι → ℝ) (h : ∀ i, x i = ⊥ ∨ dp i = dp' i) : delta x z dp = delta x z dp' :=
  Finset.sum_congr rfl fun i _ => (h i).elim (fun hb => by rw [p_bot x z i hb, zero_mul, zero_mul]) fun he => by rw [he]

theorem ds_congr (x : ι → EReal) (z : ℝ) (dp dp' : ι → ℝ) (h : ∀ i, x i = ⊥ ∨ dp i = dp' i) : ds x z dp = ds x z dp' := by
  funext i
  unfold ds
  rw [delta_congr x z dp dp' h]
  exact (h i).elim (fun hb => by rw [p_bot x z i hb, zero_mul, zero_mul]) fun he => by rw [he]

theorem st_congr (x : ι → EReal) (z : ℝ) (dp dp' : ι → ℝ) (h : ∀ i, x i = ⊥ ∨ dp i = dp' i) : st x z dp = st x z dp' := by
  unfold st; rw [delta_congr x z dp dp' h]

/-! ## The same gradients as the quotient rule writes them -/

/-- The gradient of the sum of the exponentials. -/
def dD (x : ι → EReal) (z : ℝ) (dp : ι → ℝ) : ℝ := -∑ i, dp i * (1 / (D x z * D x z)) * e x z i

theorem dD_eq (x : ι → EReal) (z : ℝ) (dp : ι → ℝ) : dD x z dp = -(delta x z dp / D x z) := by
  unfold dD delta p
  rw [Finset.sum_div]
  refine congrArg Neg.neg (Finset.sum_congr rfl fun i _ => ?_)
  rcases eq_or_ne (D x z) 0 with h | h
  · simp [h]
  · field_simp

/-- The gradient of a score from those of its exponential. -/
theorem quot_ds (x : ι → EReal) (z : ℝ) (dp : ι → ℝ) (i : ι) : (dp i / D x z + dD x z dp) * e x z i = ds x z dp i := by
  rw [dD_eq]; unfold ds p; ring

/-- The sink's part. -/
theorem quot_st (x : ι → EReal) (z : ℝ) (dp : ι → ℝ) : dD x z dp * es x z = -st x z dp := by
  rw [dD_eq]; unfold st; ring

end Cert.SoftRow

end
-- ==== Proof.AttnHalf.lean ====
module

public import proofs.«01_k».proof.Proof.AttnOps
public import proofs.«01_k».proof.Proof.SoftRow
public import Idealize.ShloMosaic.Lib.Pipeline.Value
public import Idealize.ShloMosaic.Lib.KernelVsHost
public import Idealize.ShloMosaic.Lib.IdealHost

@[expose] public section

set_option maxRecDepth 16384

noncomputable section

/-! # What one key/value head's operations compute, over the reals -/

namespace Cert.KernelIdeal.Attn

open Cert.KernelIdeal Cert.KernelIdeal.Gen
open Idealize.ShloMosaic Idealize.ShloMosaic.ValueIdx

/-! ## The operations at an index -/

theorem eighth_bf16 : Ideal.ofBits .bf16 0x3E00#16 = ((1 / 8 : ℝ) : EReal) := by
  simp [Ideal.ofBits, Ideal.ieee]; norm_num [← EReal.coe_one, ← EReal.coe_div, ← EReal.coe_mul]
theorem eighth_f32 : Ideal.ofBits .f32 0x3E000000#32 = ((1 / 8 : ℝ) : EReal) := by
  simp [Ideal.ofBits, Ideal.ieee]; norm_num [← EReal.coe_one, ← EReal.coe_div, ← EReal.coe_mul]
theorem bot_f32 : Ideal.ofBits .f32 0xFF800000#32 = ⊥ := by
  simp [Ideal.ofBits, Ideal.ieee]

/-- Rows of a stack against rows of a tile. -/
theorem mmNT_apply (a : FVec Ideal S1024x128 .bf16) (b : FVec Ideal S128x128 .bf16) (r : Fin 1024) (s : Fin 128) :
    mmNT a b (ix2 r s) = ∑ l : Fin 128, a (ix2 r l) * b (ix2 s l) := by
  refine (Ideal.matmul_constant_zero_apply dot_S1024x128_S128x128_S1024x128_1_1_0_0_n_n none a b (ix2 r s)).trans ?_
  rw [← Equiv.sum_comp (contrEquiv1 dot_S1024x128_S128x128_S1024x128_1_1_0_0_n_n 128 rfl rfl).symm]
  refine Finset.sum_congr rfl fun k _ => ?_
  have hk := contrEquiv1_symm_val dot_S1024x128_S128x128_S1024x128_1_1_0_0_n_n 128 rfl rfl k
  congr 1
  · refine congrArg a (funext fun x => Fin.ext ?_)
    match x with
    | ⟨0, _⟩ =>
      show (dot_S1024x128_S128x128_S1024x128_1_1_0_0_n_n.lhsIdx _ _ (0 : Fin 2)).val = _
      unfold DotDims.lhsIdx
      rw [dif_neg (by decide), dif_pos (by decide)]; rfl
    | ⟨1, _⟩ => exact (dot_S1024x128_S128x128_S1024x128_1_1_0_0_n_n.lhsIdx_val_of_single rfl _ _).trans hk
  · refine congrArg b (funext fun x => Fin.ext ?_)
    match x with
    | ⟨0, _⟩ =>
      show (dot_S1024x128_S128x128_S1024x128_1_1_0_0_n_n.rhsIdx _ _ (0 : Fin 2)).val = _
      unfold DotDims.rhsIdx
      rw [dif_neg (by decide), dif_pos (by decide)]; rfl
    | ⟨1, _⟩ => exact (dot_S1024x128_S128x128_S1024x128_1_1_0_0_n_n.rhsIdx_val_of_single rfl _ _).trans hk

/-- Rows of a tile against columns of a tile. -/
theorem mmNN_apply (a b : FVec Ideal S128x128 .bf16) (r s : Fin 128) :
    mmNN a b (ix2 r s) = ∑ l : Fin 128, a (ix2 r l) * b (ix2 l s) := by
  refine (Ideal.matmul_constant_zero_apply dot_S128x128_S128x128_S128x128_1_0_0_1_n_n none a b (ix2 r s)).trans ?_
  rw [← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  congr 1
  · refine congrArg a (funext fun x => Fin.ext ?_)
    match x with
    | ⟨0, _⟩ =>
      show (dot_S128x128_S128x128_S128x128_1_0_0_1_n_n.lhsIdx _ _ (0 : Fin 2)).val = _
      unfold DotDims.lhsIdx
      rw [dif_neg (by decide), dif_pos (by decide)]; rfl
    | ⟨1, _⟩ => exact (dot_S128x128_S128x128_S128x128_1_0_0_1_n_n.lhsIdx_val_of_single rfl _ _).trans hk
  · refine congrArg b (funext fun x => Fin.ext ?_)
    match x with
    | ⟨1, _⟩ =>
      show (dot_S128x128_S128x128_S128x128_1_0_0_1_n_n.rhsIdx _ _ (1 : Fin 2)).val = _
      unfold DotDims.rhsIdx
      rw [dif_neg (by decide), dif_pos (by decide)]; rfl
    | ⟨0, _⟩ => exact (dot_S128x128_S128x128_S128x128_1_0_0_1_n_n.rhsIdx_val_of_single rfl _ _).trans hk

/-- Columns of a stack against columns of a stack. -/
theorem mmTN_apply (a b : FVec Ideal S1024x128 .bf16) (s l : Fin 128) :
    mmTN a b (ix2 s l) = ∑ r : Fin 1024, a (ix2 r s) * b (ix2 r l) := by
  refine (Ideal.matmul_constant_zero_apply dot_S1024x128_S1024x128_S128x128_0_0_1_1_n_n none a b (ix2 s l)).trans ?_
  rw [← Equiv.sum_comp (contrEquiv1 dot_S1024x128_S1024x128_S128x128_0_0_1_1_n_n 1024 rfl rfl).symm]
  refine Finset.sum_congr rfl fun k _ => ?_
  have hk := contrEquiv1_symm_val dot_S1024x128_S1024x128_S128x128_0_0_1_1_n_n 1024 rfl rfl k
  congr 1
  · refine congrArg a (funext fun x => Fin.ext ?_)
    match x with
    | ⟨1, _⟩ =>
      show (dot_S1024x128_S1024x128_S128x128_0_0_1_1_n_n.lhsIdx _ _ (1 : Fin 2)).val = _
      unfold DotDims.lhsIdx
      rw [dif_neg (by decide), dif_pos (by decide)]; rfl
    | ⟨0, _⟩ => exact (dot_S1024x128_S1024x128_S128x128_0_0_1_1_n_n.lhsIdx_val_of_single rfl _ _).trans hk
  · refine congrArg b (funext fun x => Fin.ext ?_)
    match x with
    | ⟨1, _⟩ =>
      show (dot_S1024x128_S1024x128_S128x128_0_0_1_1_n_n.rhsIdx _ _ (1 : Fin 2)).val = _
      unfold DotDims.rhsIdx
      rw [dif_neg (by decide), dif_pos (by decide)]; rfl
    | ⟨0, _⟩ => exact (dot_S1024x128_S1024x128_S128x128_0_0_1_1_n_n.rhsIdx_val_of_single rfl _ _).trans hk

/-- A row sum. -/
theorem rowSum_apply (a : FVec Ideal S1024x128 .f32) (r : Fin 1024) : rowSum a (ix2 r 0) = ∑ s : Fin 128, a (ix2 r s) := by
  refine (shapeCast_apply _ shapeCasts_S1024_S1024x1 (ix2 r 0) (ix1 r) (by
    rw [Shape.rowMajor_val_two, Shape.rowMajor_val_one]; show r.val = r.val * 1 + 0; omega)).trans ?_
  refine (Ideal.multiReduction_add_single a _ reduces_S1024x128_S1024 (.inl rfl) rfl (ix1 r)).trans ?_
  exact Finset.sum_congr rfl fun k _ => congrArg a (funext fun x => Fin.ext (by match x with | ⟨0, _⟩ => rfl | ⟨1, _⟩ => rfl))

/-- A row maximum. -/
theorem rowMax_apply (a : FVec Ideal S1024x128 .f32) (r : Fin 1024) :
    rowMax a (ix2 r 0) = Finset.univ.fold max ⊥ fun s : Fin 128 => a (ix2 r s) := by
  refine (shapeCast_apply _ shapeCasts_S1024_S1024x1 (ix2 r 0) (ix1 r) (by
    rw [Shape.rowMajor_val_two, Shape.rowMajor_val_one]; show r.val = r.val * 1 + 0; omega)).trans ?_
  refine (Ideal.multiReduction_maximumf_single a _ reduces_S1024x128_S1024 (.inl rfl) rfl (ix1 r)).trans ?_
  refine (congrArg (Finset.fold max · (a ∘ reduces_S1024x128_S1024.lift (ix1 r)) Finset.univ) (show _ = (⊥ : EReal) from bot_f32)).trans ?_
  refine congrArg (Finset.fold max ⊥ · Finset.univ) (funext fun k => congrArg a (funext fun x => Fin.ext ?_))
  match x with | ⟨0, _⟩ => rfl | ⟨1, _⟩ => rfl

/-- A column across the lanes. -/
theorem wide_apply (a : FVec Ideal S1024x1 .f32) (r : Fin 1024) (s : Fin 128) : wide a (ix2 r s) = a (ix2 r 0) :=
  broadcastTo_apply a broadcasts_S1024x1_S1024x128 (ix2 r s) (ix2 r 0) fun x => by
    match x with | ⟨0, _⟩ => rfl | ⟨1, _⟩ => rfl

/-- A tile turned by half its lanes. -/
def turn (l : Fin 128) : Fin 128 := ⟨(l.val + 64) % 128, Nat.mod_lt _ (by decide)⟩
theorem rot64_apply {φ : FTy} (t : FVec Ideal S128x128 φ) (s l : Fin 128) : rot64 t (ix2 s l) = t (ix2 s (turn l)) :=
  dynamicRotate_apply 1 64#32 t rotates_S128x128_d1 (ix2 s l) (ix2 s (turn l)) fun b => by
    match b with
    | ⟨0, _⟩ => rfl
    | ⟨1, _⟩ => show (l.val + 64) % 128 = (l.val + 128 - 64 % 128) % 128; omega

/-! ## Lanes, rows and the two blocks -/

/-- Which half of the lanes. -/
def sd (l : Fin 128) : Bool := decide (64 ≤ l.val)
/-- The lane within its half. -/
def hf (l : Fin 128) : Fin 64 := ⟨l.val % 64, Nat.mod_lt _ (by decide)⟩
/-- Which half of the lanes a row's head has. -/
def od (r : Fin 1024) : Bool := decide (r.val / 128 % 2 = 1)
/-- A key of the previous block among the 256. -/
def lo' (s : Fin 128) : Fin 256 := ⟨s.val, by have := s.isLt; omega⟩
/-- A key of the current block among the 256. -/
def hi' (s : Fin 128) : Fin 256 := ⟨128 + s.val, by have := s.isLt; omega⟩

theorem sd_turn (l : Fin 128) : sd (turn l) = !sd l := by revert l; decide
theorem hf_turn (l : Fin 128) : hf (turn l) = hf l := by revert l; decide

theorem sum_half {M : Type} [AddCommMonoid M] (f : Fin 128 → M) :
    ∑ l, f l = (∑ d : Fin 64, f ⟨d.val, by have := d.isLt; omega⟩) + ∑ d : Fin 64, f ⟨64 + d.val, by have := d.isLt; omega⟩ :=
  Fin.sum_univ_add (a := 64) (b := 64) f

theorem sum256 {M : Type} [AddCommMonoid M] (f : Fin 256 → M) : ∑ i, f i = (∑ s, f (lo' s)) + ∑ s, f (hi' s) :=
  Fin.sum_univ_add (a := 128) (b := 128) f

theorem split256 (i : Fin 256) : (∃ s, i = lo' s) ∨ ∃ s, i = hi' s := by
  by_cases h : i.val < 128
  · exact .inl ⟨⟨i.val, h⟩, rfl⟩
  · exact .inr ⟨⟨i.val - 128, by have := i.isLt; omega⟩, Fin.ext (by show i.val = 128 + (i.val - 128); omega)⟩

theorem max256 (f : Fin 256 → EReal) :
    Finset.univ.fold max ⊥ f = max (Finset.univ.fold max ⊥ fun s => f (lo' s)) (Finset.univ.fold max ⊥ fun s => f (hi' s)) := by
  apply le_antisymm
  · rw [Finset.fold_max_le]
    refine ⟨bot_le, fun i _ => ?_⟩
    rcases split256 i with ⟨s, rfl⟩ | ⟨s, rfl⟩
    · exact le_max_of_le_left ((Finset.le_fold_max _).mpr (.inr ⟨s, Finset.mem_univ _, le_rfl⟩))
    · exact le_max_of_le_right ((Finset.le_fold_max _).mpr (.inr ⟨s, Finset.mem_univ _, le_rfl⟩))
  · refine max_le ?_ ?_ <;> rw [Finset.fold_max_le] <;>
      exact ⟨bot_le, fun s _ => (Finset.le_fold_max _).mpr (.inr ⟨_, Finset.mem_univ _, le_rfl⟩)⟩

/-- Lanes of one half only: a sum over the half. -/
theorem lanes (b : Bool) (f g : Fin 64 → ℝ) :
    ∑ l : Fin 128, (if sd l = b then ((f (hf l) : ℝ) : EReal) else 0) * ((g (hf l) : ℝ) : EReal) = ((∑ d, f d * g d : ℝ) : EReal) := by
  rw [sum_half, SoftRow.coe_sum]
  have h0 : ∀ d : Fin 64, sd ⟨d.val, by have := d.isLt; omega⟩ = false := by decide
  have h1 : ∀ d : Fin 64, sd ⟨64 + d.val, by have := d.isLt; omega⟩ = true := by decide
  have g0 : ∀ d : Fin 64, hf ⟨d.val, by have := d.isLt; omega⟩ = d := by decide
  have g1 : ∀ d : Fin 64, hf ⟨64 + d.val, by have := d.isLt; omega⟩ = d := by decide
  simp only [h0, h1, g0, g1]
  cases b <;> simp [EReal.coe_mul]

/-! ## One head's operands over the reals -/

/-- Keys and values of the two blocks, the rows' (scaled) queries and output gradients, the rows' biases and sinks. -/
structure HR where
  K : Fin 256 → Fin 64 → ℝ
  V : Fin 256 → Fin 64 → ℝ
  q : Fin 1024 → Fin 64 → ℝ
  d : Fin 1024 → Fin 64 → ℝ
  b : Fin 1024 → Fin 256 → EReal
  hb : ∀ r i, b r i ≠ ⊤
  z : Fin 1024 → ℝ

namespace HR
variable (R : HR)
/-- The scores of a row. -/
def x (r : Fin 1024) (i : Fin 256) : EReal := ((∑ d, R.q r d * R.K i d : ℝ) : EReal) + R.b r i
/-- The gradients of a row's probabilities. -/
def dp (r : Fin 1024) (i : Fin 256) : ℝ := ∑ d, R.d r d * R.V i d
theorem hx (r : Fin 1024) (i : Fin 256) : R.x r i ≠ ⊤ := EReal.add_ne_top (EReal.coe_ne_top _) (R.hb r i)
/-- The gradients of a row's scores. -/
def ds (r : Fin 1024) : Fin 256 → ℝ := SoftRow.ds (R.x r) (R.z r) (R.dp r)
/-- The probabilities of a row. -/
def p (r : Fin 1024) : Fin 256 → ℝ := SoftRow.p (R.x r) (R.z r)
/-- The sink's part of a row, to be negated. -/
def st (r : Fin 1024) : ℝ := SoftRow.st (R.x r) (R.z r) (R.dp r)
end HR

/-- The operands `h` hold the reals `R`. -/
structure Rep (h : HIn Ideal) (R : HR) : Prop where
  k2p : ∀ s l, h.k2p (ix2 s l) = (R.K (lo' s) (hf l) : EReal)
  k2c : ∀ s l, h.k2c (ix2 s l) = (R.K (hi' s) (hf l) : EReal)
  v2p : ∀ s l, h.v2p (ix2 s l) = (R.V (lo' s) (hf l) : EReal)
  v2c : ∀ s l, h.v2c (ix2 s l) = (R.V (hi' s) (hf l) : EReal)
  klp : ∀ s l, h.klp (ix2 s l) = if sd l = false then (R.K (lo' s) (hf l) : EReal) else 0
  klc : ∀ s l, h.klc (ix2 s l) = if sd l = false then (R.K (hi' s) (hf l) : EReal) else 0
  khp : ∀ s l, h.khp (ix2 s l) = if sd l = true then (R.K (lo' s) (hf l) : EReal) else 0
  khc : ∀ s l, h.khc (ix2 s l) = if sd l = true then (R.K (hi' s) (hf l) : EReal) else 0
  q : ∀ r l, h.q (ix2 r l) = if sd l = od r then (R.q r (hf l) : EReal) else 0
  d : ∀ r l, h.d (ix2 r l) = if sd l = od r then (R.d r (hf l) : EReal) else 0
  bp : ∀ r s, h.bp (ix2 r s) = R.b r (lo' s)
  bc : ∀ r s, h.bc (ix2 r s) = R.b r (hi' s)
  s : ∀ r, h.s (ix2 r 0) = (R.z r : EReal)

namespace Rep
variable {h : HIn Ideal} {R : HR} (H : Rep h R)
include H

theorem sp (r : Fin 1024) (s : Fin 128) : h.sp (ix2 r s) = R.x r (lo' s) := by
  unfold HIn.sp HR.x
  rw [addf_apply, mmNT_apply, H.bp]
  simp only [H.q, H.k2p]
  rw [lanes]
theorem sc (r : Fin 1024) (s : Fin 128) : h.sc (ix2 r s) = R.x r (hi' s) := by
  unfold HIn.sc HR.x
  rw [addf_apply, mmNT_apply, H.bc]
  simp only [H.q, H.k2c]
  rw [lanes]
theorem dpp (r : Fin 1024) (s : Fin 128) : h.dpp (ix2 r s) = (R.dp r (lo' s) : EReal) := by
  unfold HIn.dpp HR.dp
  rw [mmNT_apply]
  simp only [H.d, H.v2p]
  rw [lanes]
theorem dpc (r : Fin 1024) (s : Fin 128) : h.dpc (ix2 r s) = (R.dp r (hi' s) : EReal) := by
  unfold HIn.dpc HR.dp
  rw [mmNT_apply]
  simp only [H.d, H.v2c]
  rw [lanes]
theorem mx (r : Fin 1024) : h.mx (ix2 r 0) = SoftRow.mx (R.x r) (R.z r) := by
  unfold HIn.mx SoftRow.mx SoftRow.top
  rw [maximumf_apply, maximumf_apply, rowMax_apply, rowMax_apply, H.s, max256]
  simp only [H.sp, H.sc]
theorem ep (r : Fin 1024) (s : Fin 128) : h.ep (ix2 r s) = (SoftRow.e (R.x r) (R.z r) (lo' s) : EReal) := by
  unfold HIn.ep
  show Ideal.exp (subf h.sp (wide h.mx) (ix2 r s)) = _
  rw [subf_apply, wide_apply, H.sp, H.mx, (SoftRow.exp_eq _ _ (R.hx r) _).1]
theorem ec (r : Fin 1024) (s : Fin 128) : h.ec (ix2 r s) = (SoftRow.e (R.x r) (R.z r) (hi' s) : EReal) := by
  unfold HIn.ec
  show Ideal.exp (subf h.sc (wide h.mx) (ix2 r s)) = _
  rw [subf_apply, wide_apply, H.sc, H.mx, (SoftRow.exp_eq _ _ (R.hx r) _).1]
theorem es (r : Fin 1024) : h.es (ix2 r 0) = (SoftRow.es (R.x r) (R.z r) : EReal) := by
  unfold HIn.es
  show Ideal.exp (subf h.s h.mx (ix2 r 0)) = _
  rw [subf_apply, H.s, H.mx, SoftRow.exp_sink _ _ (R.hx r)]
theorem inv (r : Fin 1024) : h.inv (ix2 r 0) = ((1 / SoftRow.D (R.x r) (R.z r) : ℝ) : EReal) := by
  unfold HIn.inv
  rw [divf_apply, addf_apply, addf_apply, rowSum_apply, rowSum_apply, H.es, broadcast_apply,
    show (Scalar.ofBits .f32 0x3F800000#32 : Ideal .f32) = (1 : EReal) from Ideal.ofBits_one_f32]
  simp only [H.ep, H.ec]
  rw [← sum256 fun i => (SoftRow.e (R.x r) (R.z r) i : EReal), ← SoftRow.coe_sum, ← EReal.coe_add]
  show Ideal.div 1 ((SoftRow.D (R.x r) (R.z r) : ℝ) : EReal) = _
  unfold Ideal.div
  rw [if_neg (by rw [← EReal.coe_zero]; exact fun hh => SoftRow.D_ne _ _ (R.hx r) (EReal.coe_injective hh)), one_mul, ← EReal.coe_inv, one_div]
theorem pp (r : Fin 1024) (s : Fin 128) : h.pp (ix2 r s) = (R.p r (lo' s) : EReal) := by
  unfold HIn.pp HR.p SoftRow.p
  rw [mulf_apply, wide_apply, H.ep, H.inv, ← EReal.coe_mul, mul_one_div]
theorem pc (r : Fin 1024) (s : Fin 128) : h.pc (ix2 r s) = (R.p r (hi' s) : EReal) := by
  unfold HIn.pc HR.p SoftRow.p
  rw [mulf_apply, wide_apply, H.ec, H.inv, ← EReal.coe_mul, mul_one_div]
theorem ps (r : Fin 1024) : h.ps (ix2 r 0) = ((SoftRow.es (R.x r) (R.z r) / SoftRow.D (R.x r) (R.z r) : ℝ) : EReal) := by
  unfold HIn.ps
  rw [mulf_apply, H.es, H.inv, ← EReal.coe_mul, mul_one_div]
theorem delta (r : Fin 1024) : h.delta (ix2 r 0) = (SoftRow.delta (R.x r) (R.z r) (R.dp r) : EReal) := by
  unfold HIn.delta SoftRow.delta
  rw [addf_apply, rowSum_apply, rowSum_apply, SoftRow.coe_sum, sum256]
  simp only [mulf_apply, H.pp, H.pc, H.dpp, H.dpc, ← EReal.coe_mul]
  rfl
theorem dsp (r : Fin 1024) (s : Fin 128) : h.dsp (ix2 r s) = (R.ds r (lo' s) : EReal) := by
  unfold HIn.dsp HR.ds SoftRow.ds
  rw [truncf_apply, mulf_apply, subf_apply, wide_apply, H.pp, H.dpp, H.delta, ← EReal.coe_sub, ← EReal.coe_mul]
  rfl
theorem dsc (r : Fin 1024) (s : Fin 128) : h.dsc (ix2 r s) = (R.ds r (hi' s) : EReal) := by
  unfold HIn.dsc HR.ds SoftRow.ds
  rw [truncf_apply, mulf_apply, subf_apply, wide_apply, H.pc, H.dpc, H.delta, ← EReal.coe_sub, ← EReal.coe_mul]
  rfl
theorem st (r : Fin 1024) : h.st (ix2 r 0) = (R.st r : EReal) := by
  unfold HIn.st HR.st SoftRow.st
  rw [mulf_apply, H.ps, H.delta, ← EReal.coe_mul]

/-- A row of the query gradients. -/
def _root_.Cert.KernelIdeal.Attn.HR.dq (R : HR) (r : Fin 1024) (d : Fin 64) : ℝ := (∑ i, R.ds r i * R.K i d) * (1 / 8)

theorem dq (a b : ℕ) (ha : S1024x128.Slices ![a, 0] S128x128) (hb : S1024x128.Slices ![b, 0] S128x128)
    (ha' : a + 128 ≤ 1024) (hb' : b + 128 ≤ 1024) (t l : Fin 128) :
    h.dq a b ha hb (ix2 t l) = if sd l = false then (R.dq ⟨a + t.val, by have := t.isLt; omega⟩ (hf l) : EReal)
      else (R.dq ⟨b + t.val, by have := t.isLt; omega⟩ (hf l) : EReal) := by
  have sl : ∀ (c : ℕ) (hc : S1024x128.Slices ![c, 0] S128x128) (hc' : c + 128 ≤ 1024) (y : FVec Ideal S1024x128 .bf16) (k : Fin 128),
      extractStridedSlice S128x128 ![c, 0] y hc (ix2 t k) = y (ix2 ⟨c + t.val, by have := t.isLt; omega⟩ k) := fun c hc hc' y k =>
    extractStridedSlice_apply _ y hc (ix2 t k) _ fun x => by
      match x with
      | ⟨0, _⟩ => rfl
      | ⟨1, _⟩ => show k.val = 0 + k.val; omega
  unfold HIn.dq
  rw [truncf_apply, mulf_apply, addf_apply, addf_apply, addf_apply, mmNN_apply, mmNN_apply, mmNN_apply, mmNN_apply, broadcast_apply,
    show (Scalar.ofBits .f32 0x3E000000#32 : Ideal .f32) = ((1 / 8 : ℝ) : EReal) from eighth_f32]
  simp only [sl a ha ha', sl b hb hb', H.dsp, H.dsc, H.klp, H.klc, H.khp, H.khc]
  unfold HR.dq
  cases hs : sd l with
  | false =>
    simp only [reduceCtorEq, if_true, if_false, mul_zero, Finset.sum_const_zero, add_zero, ← EReal.coe_mul, ← SoftRow.coe_sum, ← EReal.coe_add]
    rw [← sum256 fun i => R.ds ⟨a + t.val, _⟩ i * R.K i (hf l)]
  | true =>
    simp only [reduceCtorEq, if_true, if_false, mul_zero, Finset.sum_const_zero, zero_add, add_zero, ← EReal.coe_mul, ← SoftRow.coe_sum, ← EReal.coe_add]
    rw [← sum256 fun i => R.ds ⟨b + t.val, _⟩ i * R.K i (hf l)]

theorem fold_stack (x y : FVec Ideal S1024x128 .bf16) (f : Fin 1024 → Fin 128 → ℝ) (g : Fin 1024 → Fin 64 → ℝ)
    (hx : ∀ r s, x (ix2 r s) = (f r s : EReal)) (hy : ∀ r l, y (ix2 r l) = if sd l = od r then (g r (hf l) : EReal) else 0)
    (s l : Fin 128) : HIn.fold (addf zf (mmTN x y)) (ix2 s l) = ((∑ r, f r s * g r (hf l) : ℝ) : EReal) := by
  unfold HIn.fold
  have e : ∀ l, addf zf (mmTN x y) (ix2 s l) = ((∑ r, f r s * (if sd l = od r then g r (hf l) else 0) : ℝ) : EReal) := fun l => by
    rw [addf_apply, mmTN_apply, show (zf (ix2 s l) : Ideal .f32) = (0 : EReal) from Ideal.ofBits_zero_f32, zero_add, SoftRow.coe_sum]
    refine Finset.sum_congr rfl fun r _ => ?_
    rw [hx, hy, EReal.coe_mul]
    split <;> simp
  rw [addf_apply, rot64_apply, e, e, ← EReal.coe_add, ← Finset.sum_add_distrib]
  refine congrArg _ (Finset.sum_congr rfl fun r _ => ?_)
  rw [hf_turn, sd_turn]
  cases sd l <;> cases od r <;> simp

theorem dkp (s l : Fin 128) : h.dkp (ix2 s l) = ((∑ r, R.ds r (lo' s) * R.q r (hf l) : ℝ) : EReal) :=
  H.fold_stack _ _ (fun r s => R.ds r (lo' s)) R.q H.dsp H.q s l
theorem dkc (s l : Fin 128) : h.dkc (ix2 s l) = ((∑ r, R.ds r (hi' s) * R.q r (hf l) : ℝ) : EReal) :=
  H.fold_stack _ _ (fun r s => R.ds r (hi' s)) R.q H.dsc H.q s l
theorem dvp (s l : Fin 128) : h.dvp (ix2 s l) = ((∑ r, R.p r (lo' s) * R.d r (hf l) : ℝ) : EReal) :=
  H.fold_stack _ _ (fun r s => R.p r (lo' s)) R.d (fun r s => H.pp r s) H.d s l
theorem dvc (s l : Fin 128) : h.dvc (ix2 s l) = ((∑ r, R.p r (hi' s) * R.d r (hf l) : ℝ) : EReal) :=
  H.fold_stack _ _ (fun r s => R.p r (hi' s)) R.d (fun r s => H.pc r s) H.d s l

end Rep

end Cert.KernelIdeal.Attn

end
-- ==== Proof.AttnPoint.lean ====
module

public import proofs.«01_k».proof.Proof.AttnHalf
public import Idealize.ShloMosaic.Lib.WordCmp

@[expose] public section

set_option maxRecDepth 16384

noncomputable section

/-! # What one grid point computes, over the reals -/

namespace Cert.KernelIdeal.Attn

open Cert.KernelIdeal Cert.KernelIdeal.Gen
open Idealize.ShloMosaic Idealize.ShloMosaic.ValueIdx

/-! ## The slopes -/

/-- The sixteen slopes as single-precision words. -/
def slopeW : Fin 16 → BitVec 32 :=
  ![0x3F3504F3#32, 0x3F000000#32, 0x3EB504F3#32, 0x3E800000#32, 0x3E3504F3#32, 0x3E000000#32, 0x3DB504F3#32, 0x3D800000#32,
    0x3D3504F3#32, 0x3D000000#32, 0x3CB504F3#32, 0x3C800000#32, 0x3C3504F3#32, 0x3C000000#32, 0x3BB504F3#32, 0x3B800000#32]
/-- The sixteen slopes. -/
def slope (h : Fin 16) : ℝ := (Ideal.ofBits .f32 (slopeW h)).toReal

theorem normal_pos (b : BitVec 32) (h0 : (b.extractLsb' 31 1 == 1#1) = false) (h1 : (b.extractLsb' 23 8).toNat ≠ 255)
    (h2 : (b.extractLsb' 23 8).toNat ≠ 0) : ∃ r : ℝ, 0 < r ∧ Ideal.ofBits .f32 b = (r : EReal) := by
  have e : Ideal.ofBits .f32 b = (((if (b.extractLsb' 31 1 == 1#1) then -1 else 1) * ((2 ^ 23 + (b.extractLsb' 0 23).toNat : ℕ) : ℝ)
      * (2 : ℝ) ^ (((b.extractLsb' 23 8).toNat : ℤ) - (2 ^ (8 - 1) - 1) - 23) : ℝ) : EReal) := by
    show Ideal.ieee 8 23 b = _
    unfold Ideal.ieee
    simp only
    have h1' : (b.extractLsb' 23 8).toNat ≠ 2 ^ 8 - 1 := h1
    rw [if_neg h1', if_neg h2]
    rfl
  refine ⟨_, ?_, e⟩
  rw [h0]
  simp only [Bool.false_eq_true, if_false, one_mul]
  positivity

theorem slope_spec (h : Fin 16) : 0 < slope h ∧ Ideal.ofBits .f32 (slopeW h) = (slope h : EReal) := by
  obtain ⟨r, hr, e⟩ := normal_pos (slopeW h) (by revert h; decide) (by revert h; decide) (by revert h; decide)
  unfold slope
  rw [e, EReal.toReal_coe]
  exact ⟨hr, rfl⟩

/-! ## Stacks at an index -/

theorem stack8_apply {φ : FTy} (f : Fin 8 → FVec Ideal S128x128 φ) (r : Fin 1024) (l : Fin 128) :
    stack8 (f 0) (f 1) (f 2) (f 3) (f 4) (f 5) (f 6) (f 7) (ix2 r l)
      = f ⟨r.val / 128, by have := r.isLt; omega⟩ (ix2 ⟨r.val % 128, Nat.mod_lt _ (by decide)⟩ l) :=
  concatenate_ofFn_apply (t := S1024x128) (s₁ := S128x128) 0 f concatenates_S128x128_S128x128_S128x128_S128x128_S128x128_S128x128_S128x128_S128x128_S1024x128_d0 rfl 128 rfl (ix2 r l) _ rfl _ rfl (fun b hb => by
    match b with
    | ⟨0, _⟩ => exact absurd rfl hb
    | ⟨1, _⟩ => rfl)

theorem lo_apply (s l : Fin 128) : lo (ix2 s l) = if sd l then 0#1 else 1#1 := by
  show IntOp.cmpi .slt (iota .tc S128x128 32 [1] iota_S128x128_d1_w32 (ix2 s l)) 64#32 = _
  rw [iota_single_apply]
  show IntOp.cmpi .slt (BitVec.ofNat 32 l.val) 64#32 = _
  revert l; decide
theorem hi_apply (s l : Fin 128) : hi (ix2 s l) = if sd l then 1#1 else 0#1 := by
  show lo (ix2 s l) ^^^ 1#1 = _
  rw [lo_apply]
  cases sd l <;> rfl

theorem sel_lo {φ : FTy} (a b : FVec Ideal S128x128 φ) (s l : Fin 128) :
    select lo a b (ix2 s l) = if sd l then b (ix2 s l) else a (ix2 s l) := by
  rw [select_apply, lo_apply]
  cases sd l <;> rfl
theorem sel_hi {φ : FTy} (a b : FVec Ideal S128x128 φ) (s l : Fin 128) :
    select hi a b (ix2 s l) = if sd l then a (ix2 s l) else b (ix2 s l) := by
  rw [select_apply, hi_apply]
  cases sd l <;> rfl
theorem zb_apply (y : S128x128.Idx) : (zb y : Ideal .bf16) = (0 : EReal) := Ideal.ofBits_zero_bf16

/-! ## The distances and the mask -/

/-- Whether query `t` of a block attends to key `i` of the previous block and its own; `b` at the first block, which has
    no previous one. -/
def vb (b : Bool) (t : Fin 128) (i : Fin 256) : Bool := decide (i.val ≤ 128 + t.val ∧ t.val < i.val) && (!b || decide (128 ≤ i.val))
/-- How far query `t` is from key `i`. -/
def dist (t : Fin 128) (i : Fin 256) : ℝ := 128 + (t.val : ℝ) - (i.val : ℝ)

theorem sub_toInt (a b : Fin 128) : (BitVec.ofNat 32 a.val - BitVec.ofNat 32 b.val).toInt = (a.val : ℤ) - (b.val : ℤ) := by
  rw [BitVec.toInt_sub, WordCmp.toInt_ofNat_of_lt (by have := a.isLt; omega), WordCmp.toInt_ofNat_of_lt (by have := b.isLt; omega)]
  have := a.isLt; have := b.isLt
  exact Int.bmod_eq_of_le (by omega) (by omega)

theorem pay7_apply (t s : Fin 128) : k0_pay7 (F := Ideal) (ix2 t s) = (((t.val : ℝ) - (s.val : ℝ) : ℝ) : EReal) := by
  show (((iota .tc S128x128 32 [0] iota_S128x128_d0_w32 (ix2 t s) - iota .tc S128x128 32 [1] iota_S128x128_d1_w32 (ix2 t s) : BitVec 32).toInt : ℝ) : EReal) = _
  rw [iota_single_apply, iota_single_apply]
  show (((BitVec.ofNat 32 t.val - BitVec.ofNat 32 s.val).toInt : ℝ) : EReal) = _
  rw [sub_toInt]; push_cast; rfl

theorem c128 : Ideal.ofBits .f32 0x43000000#32 = ((128 : ℝ) : EReal) := by
  simp [Ideal.ofBits, Ideal.ieee]; norm_num [← EReal.coe_one, ← EReal.coe_div, ← EReal.coe_mul]

theorem mask_k : κ "mask" = some (⊥ : EReal) := rfl
theorem mask_bot : Named.named (F := Ideal) (φ := .f32) κ "mask" 0xF149F2CA#32 = (⊥ : EReal) :=
  IdealRules.named_const.ideal_named_scalar κ "mask" (φ := .f32) 0xF149F2CA#32 ⊥ mask_k

theorem zero_f32 : (Scalar.ofBits .f32 0x00000000#32 : Ideal .f32) = (0 : EReal) := Ideal.ofBits_zero_f32

theorem pay9_apply (b : Bool) (t s : Fin 128) :
    k0_pay9 (F := Ideal) (ix2 t s) = if vb b t (hi' s) then ((-dist t (hi' s) : ℝ) : EReal) else ⊥ := by
  show Scalar.select (IntOp.cmpi .sle (iota .tc S128x128 32 [1] iota_S128x128_d1_w32 (ix2 t s)) (iota .tc S128x128 32 [0] iota_S128x128_d0_w32 (ix2 t s)))
    ((Scalar.ofBits .f32 0x00000000#32 : Ideal .f32) - k0_pay7 (F := Ideal) (ix2 t s)) (Named.named (F := Ideal) (φ := .f32) κ "mask" 0xF149F2CA#32) = _
  rw [iota_single_apply, iota_single_apply, pay7_apply, mask_bot, zero_f32, zero_sub, ← EReal.coe_neg]
  show (if BitVec.ofBool (decide ((BitVec.ofNat 32 s.val).toInt ≤ (BitVec.ofNat 32 t.val).toInt)) = 1 then _ else _) = _
  rw [WordCmp.toInt_ofNat_of_lt (by have := t.isLt; omega), WordCmp.toInt_ofNat_of_lt (by have := s.isLt; omega)]
  have hv : vb b t (hi' s) = decide ((s.val : ℤ) ≤ t.val) := by
    unfold vb hi'
    have := t.isLt; have := s.isLt
    rw [Bool.eq_iff_iff]; simp; omega
  have hd : -((t.val : ℝ) - s.val) = -dist t (hi' s) := by unfold dist hi'; push_cast; ring
  rw [hv, hd]
  cases decide ((s.val : ℤ) ≤ t.val) <;> rfl

theorem pay8_apply (n : ℕ) (hn : n < 33) (t s : Fin 128) :
    k0_pay8 (F := Ideal) (BitVec.ofNat 32 n) (ix2 t s) = if vb (decide (n = 0)) t (lo' s) then ((-dist t (lo' s) : ℝ) : EReal) else ⊥ := by
  show Scalar.select (IntOp.cmpi .sgt (iota .tc S128x128 32 [1] iota_S128x128_d1_w32 (ix2 t s) - iota .tc S128x128 32 [0] iota_S128x128_d0_w32 (ix2 t s))
      (Scalar.select (IntOp.cmpi .sgt (BitVec.ofNat 32 n) 0#32) 0#32 128#32))
    (((Scalar.ofBits .f32 0x00000000#32 : Ideal .f32) - k0_pay7 (F := Ideal) (ix2 t s)) - (Scalar.ofBits .f32 0x43000000#32 : Ideal .f32)) (Named.named (F := Ideal) (φ := .f32) κ "mask" 0xF149F2CA#32) = _
  rw [iota_single_apply, iota_single_apply, pay7_apply, mask_bot, zero_f32, zero_sub, ← EReal.coe_neg,
    show (Scalar.ofBits .f32 0x43000000#32 : Ideal .f32) = ((128 : ℝ) : EReal) from c128, ← EReal.coe_sub]
  have hw : (Scalar.select (IntOp.cmpi .sgt (BitVec.ofNat 32 n) 0#32) 0#32 128#32 : BitVec 32).toInt = if n = 0 then 128 else 0 := by
    interval_cases n <;> rfl
  show (if BitVec.ofBool (decide (_ < (BitVec.ofNat 32 s.val - BitVec.ofNat 32 t.val).toInt)) = 1 then _ else _) = _
  rw [hw, sub_toInt]
  have hv : vb (decide (n = 0)) t (lo' s) = decide ((if n = 0 then 128 else 0) < (s.val : ℤ) - t.val) := by
    unfold vb lo'
    have := t.isLt; have := s.isLt
    rw [Bool.eq_iff_iff]; split <;> simp [*] <;> omega
  have hd : -((t.val : ℝ) - s.val) - 128 = -dist t (lo' s) := by unfold dist lo'; push_cast; ring
  rw [hv, hd]
  cases decide ((if n = 0 then 128 else 0) < (s.val : ℤ) - t.val) <;> rfl

/-! ## The reals of one grid point -/

/-- What a grid point reads, over the reals: whether it is the first, the sinks, the block's queries and output gradients,
    and the keys and values of the previous block and its own. -/
structure PR where
  first : Bool
  z : Fin 16 → ℝ
  Q : Fin 128 → Fin 1024 → ℝ
  D : Fin 128 → Fin 1024 → ℝ
  K : Fin 256 → Fin 128 → ℝ
  V : Fin 256 → Fin 128 → ℝ

/-- A key/value head's columns. -/
def col (kv : Fin 2) (d : Fin 64) : Fin 128 := ⟨64 * kv.val + d.val, by have := kv.isLt; have := d.isLt; omega⟩
/-- A stacked row's query. -/
def row (r : Fin 1024) : Fin 128 := ⟨r.val % 128, Nat.mod_lt _ (by decide)⟩
/-- A stacked row's head within its key/value head. -/
def gr (r : Fin 1024) : Fin 8 := ⟨r.val / 128, by have := r.isLt; omega⟩
/-- A head's number among the sixteen. -/
def hd (kv : Fin 2) (g : Fin 8) : Fin 16 := ⟨8 * kv.val + g.val, by have := kv.isLt; have := g.isLt; omega⟩
/-- A head's columns. -/
def qc (h : Fin 16) (d : Fin 64) : Fin 1024 := ⟨64 * h.val + d.val, by have := h.isLt; have := d.isLt; omega⟩

/-- One key/value head's operands. -/
def PR.toHR (P : PR) (kv : Fin 2) : HR where
  K i d := P.K i (col kv d)
  V i d := P.V i (col kv d)
  q r d := P.Q (row r) (qc (hd kv (gr r)) d) * (1 / 8)
  d r d := P.D (row r) (qc (hd kv (gr r)) d)
  b r i := if vb P.first (row r) i then ((slope (hd kv (gr r)) * -dist (row r) i : ℝ) : EReal) else ⊥
  hb r i := by split; exacts [EReal.coe_ne_top _, bot_ne_top]
  z r := P.z (hd kv (gr r))

/-- The values a grid point reads are the reals `P`. -/
structure PRep (x : PIn Ideal) (P : PR) : Prop where
  n : ∃ k, k < 33 ∧ x.n = BitVec.ofNat 32 k ∧ P.first = decide (k = 0)
  s : ∀ k, x.s k = (P.z k : EReal)
  q : ∀ (j : Fin 8) (t l : Fin 128), x.q j (ix2 t l) = (P.Q t ⟨128 * j.val + l.val, by have := j.isLt; have := l.isLt; omega⟩ : EReal)
  d : ∀ (j : Fin 8) (t l : Fin 128), x.d j (ix2 t l) = (P.D t ⟨128 * j.val + l.val, by have := j.isLt; have := l.isLt; omega⟩ : EReal)
  kp : ∀ s l, x.kp (ix2 s l) = (P.K (lo' s) l : EReal)
  kc : ∀ s l, x.kc (ix2 s l) = (P.K (hi' s) l : EReal)
  vp : ∀ s l, x.vp (ix2 s l) = (P.V (lo' s) l : EReal)
  vc : ∀ s l, x.vc (ix2 s l) = (P.V (hi' s) l : EReal)

theorem col0_lo (l : Fin 128) (h : sd l = false) : l = col 0 (hf l) := by revert l; decide
theorem col0_hi (l : Fin 128) (h : sd l = true) : turn l = col 0 (hf l) := by revert l; decide
theorem col1_lo (l : Fin 128) (h : sd l = false) : turn l = col 1 (hf l) := by revert l; decide
theorem col1_hi (l : Fin 128) (h : sd l = true) : l = col 1 (hf l) := by revert l; decide

section Tiles
variable (c : FVec Ideal S128x128 .bf16) (k : Fin 128 → Fin 128 → ℝ) (hc : ∀ s l, c (ix2 s l) = (k s l : EReal)) (s l : Fin 128)
include hc

theorem dup0 : select lo c (rot64 c) (ix2 s l) = (k s (col 0 (hf l)) : EReal) := by
  rw [sel_lo, rot64_apply, hc, hc]
  cases h : sd l with
  | false => exact congrArg (fun y => ((k s y : ℝ) : EReal)) (col0_lo l h)
  | true => exact congrArg (fun y => ((k s y : ℝ) : EReal)) (col0_hi l h)
theorem dup1 : select lo (rot64 c) c (ix2 s l) = (k s (col 1 (hf l)) : EReal) := by
  rw [sel_lo, rot64_apply, hc, hc]
  cases h : sd l with
  | false => exact congrArg (fun y => ((k s y : ℝ) : EReal)) (col1_lo l h)
  | true => exact congrArg (fun y => ((k s y : ℝ) : EReal)) (col1_hi l h)
theorem klo0 : select lo c zb (ix2 s l) = if sd l = false then (k s (col 0 (hf l)) : EReal) else 0 := by
  rw [sel_lo, zb_apply, hc]
  cases h : sd l with
  | false => exact congrArg (fun y => ((k s y : ℝ) : EReal)) (col0_lo l h)
  | true => rfl
theorem khi0 : select lo zb (rot64 c) (ix2 s l) = if sd l = true then (k s (col 0 (hf l)) : EReal) else 0 := by
  rw [sel_lo, zb_apply, rot64_apply, hc]
  cases h : sd l with
  | true => exact congrArg (fun y => ((k s y : ℝ) : EReal)) (col0_hi l h)
  | false => rfl
theorem klo1 : select lo (rot64 c) zb (ix2 s l) = if sd l = false then (k s (col 1 (hf l)) : EReal) else 0 := by
  rw [sel_lo, zb_apply, rot64_apply, hc]
  cases h : sd l with
  | false => exact congrArg (fun y => ((k s y : ℝ) : EReal)) (col1_lo l h)
  | true => rfl
theorem khi1 : select lo zb c (ix2 s l) = if sd l = true then (k s (col 1 (hf l)) : EReal) else 0 := by
  rw [sel_lo, zb_apply, hc]
  cases h : sd l with
  | true => exact congrArg (fun y => ((k s y : ℝ) : EReal)) (col1_hi l h)
  | false => rfl
end Tiles

/-- The stacked biases at an index. -/
theorem bst (kv : Fin 2) (b : FVec Ideal S128x128 .f32) (r : Fin 1024) (s : Fin 128) :
    bStack (Scalar.ofBits .f32 (slopeW (hd kv 0))) (Scalar.ofBits .f32 (slopeW (hd kv 1))) (Scalar.ofBits .f32 (slopeW (hd kv 2))) (Scalar.ofBits .f32 (slopeW (hd kv 3)))
      (Scalar.ofBits .f32 (slopeW (hd kv 4))) (Scalar.ofBits .f32 (slopeW (hd kv 5))) (Scalar.ofBits .f32 (slopeW (hd kv 6))) (Scalar.ofBits .f32 (slopeW (hd kv 7))) b (ix2 r s)
      = (slope (hd kv (gr r)) : EReal) * b (ix2 (row r) s) := by
  refine (stack8_apply (fun g => mulf (broadcast S128x128 (Scalar.ofBits .f32 (slopeW (hd kv g)))) b) r s).trans ?_
  rw [mulf_apply, broadcast_apply]
  show Ideal.ofBits .f32 (slopeW (hd kv (gr r))) * b (ix2 (row r) s) = _
  rw [(slope_spec _).2]

theorem bias_eq (h : Fin 16) (v : Bool) (x : ℝ) :
    (slope h : EReal) * (if v then (x : EReal) else ⊥) = if v then ((slope h * x : ℝ) : EReal) else ⊥ := by
  cases v
  · exact EReal.coe_mul_bot_of_pos (slope_spec h).1
  · exact (EReal.coe_mul _ _).symm

/-- The stacked sinks at an index. -/
theorem sst (f : Fin 8 → EReal) (r : Fin 1024) :
    sStack (F := Ideal) (f 0) (f 1) (f 2) (f 3) (f 4) (f 5) (f 6) (f 7) (ix2 r 0) = f (gr r) := by
  have hc : ∀ k : ℕ, k < 1024 → cmpi .slt rows8 (broadcast S1024x1 (BitVec.ofNat 32 k)) (ix2 r 0) = BitVec.ofBool (decide (r.val < k)) := fun k hk => by
    show IntOp.cmpi .slt (iota .tc S1024x1 32 [0] iota_S1024x1_d0_w32 (ix2 r 0)) (BitVec.ofNat 32 k) = _
    rw [iota_single_apply, WordCmp.cmpi_slt_eq]
    show BitVec.ofBool (decide ((BitVec.ofNat 32 r.val).toInt < _)) = _
    rw [WordCmp.toInt_ofNat_of_lt (by have := r.isLt; omega), WordCmp.toInt_ofNat_of_lt (by omega)]
    simp
  have hs : ∀ (p : Prop) [Decidable p] (a b : EReal), Scalar.select (BitVec.ofBool (decide p)) a b = if p then a else b := fun p _ a b => by
    by_cases h : p <;> simp [h, Scalar.select]
  unfold sStack
  simp only [select_apply, broadcast_apply, hc 896 (by decide), hc 768 (by decide), hc 640 (by decide), hc 512 (by decide), hc 384 (by decide), hc 256 (by decide), hc 128 (by decide), hs]
  have := r.isLt
  unfold gr
  split_ifs <;> exact congrArg f (Fin.ext (by simp; omega))

/-- The stacked queries at an index. -/
theorem qst (T : Fin 4 → FVec Ideal S128x128 .bf16) (r : Fin 1024) (l : Fin 128) :
    qStack (T 0) (T 1) (T 2) (T 3) (ix2 r l) = if sd l = od r then T ⟨r.val / 256, by have := r.isLt; omega⟩ (ix2 (row r) l) * ((1 / 8 : ℝ) : EReal) else 0 := by
  refine (stack8_apply (fun g => qHead (if g.val % 2 = 0 then lo else hi) (T ⟨g.val / 2, by have := g.isLt; omega⟩)) r l).trans ?_
  have e : (⟨r.val / 128 / 2, by have := r.isLt; omega⟩ : Fin 4) = ⟨r.val / 256, by have := r.isLt; omega⟩ := Fin.ext (by simp; omega)
  show qHead (if r.val / 128 % 2 = 0 then lo else hi) (T ⟨r.val / 128 / 2, _⟩) (ix2 (row r) l) = _
  rw [e]
  unfold qHead od
  by_cases h : r.val / 128 % 2 = 0
  · rw [if_pos h, sel_lo, zb_apply, mulf_apply, broadcast_apply, show (Scalar.ofBits .bf16 0x3E00#16 : Ideal .bf16) = ((1 / 8 : ℝ) : EReal) from eighth_bf16]
    rw [show decide (r.val / 128 % 2 = 1) = false from decide_eq_false (by omega)]
    cases sd l <;> rfl
  · rw [if_neg h, sel_hi, zb_apply, mulf_apply, broadcast_apply, show (Scalar.ofBits .bf16 0x3E00#16 : Ideal .bf16) = ((1 / 8 : ℝ) : EReal) from eighth_bf16]
    rw [show decide (r.val / 128 % 2 = 1) = true from decide_eq_true (by omega)]

/-- The stacked output gradients at an index. -/
theorem dst (T : Fin 4 → FVec Ideal S128x128 .bf16) (r : Fin 1024) (l : Fin 128) :
    dStack (T 0) (T 1) (T 2) (T 3) (ix2 r l) = if sd l = od r then T ⟨r.val / 256, by have := r.isLt; omega⟩ (ix2 (row r) l) else 0 := by
  refine (stack8_apply (fun g => dHead (if g.val % 2 = 0 then lo else hi) (T ⟨g.val / 2, by have := g.isLt; omega⟩)) r l).trans ?_
  have e : (⟨r.val / 128 / 2, by have := r.isLt; omega⟩ : Fin 4) = ⟨r.val / 256, by have := r.isLt; omega⟩ := Fin.ext (by simp; omega)
  show dHead (if r.val / 128 % 2 = 0 then lo else hi) (T ⟨r.val / 128 / 2, _⟩) (ix2 (row r) l) = _
  rw [e]
  unfold dHead od
  by_cases h : r.val / 128 % 2 = 0
  · rw [if_pos h, sel_lo, zb_apply]
    rw [show decide (r.val / 128 % 2 = 1) = false from decide_eq_false (by omega)]
    cases sd l <;> rfl
  · rw [if_neg h, sel_hi, zb_apply]
    rw [show decide (r.val / 128 % 2 = 1) = true from decide_eq_true (by omega)]

/-- The column of a lane tile that a stacked row's head has. -/
theorem tile_col (kv : Fin 2) (r : Fin 1024) (l : Fin 128) (h : sd l = od r) (hj : 128 * (4 * kv.val + r.val / 256) + l.val < 1024) :
    (⟨128 * (4 * kv.val + r.val / 256) + l.val, hj⟩ : Fin 1024) = qc (hd kv (gr r)) (hf l) := by
  refine Fin.ext ?_
  show 128 * (4 * kv.val + r.val / 256) + l.val = 64 * (8 * kv.val + r.val / 128) + l.val % 64
  unfold sd od at h
  rw [decide_eq_decide] at h
  have := l.isLt
  omega

section
variable {x : PIn Ideal} {P : PR} (H : PRep x P)
include H

theorem qst_eq (kv : Fin 2) (r : Fin 1024) (l : Fin 128) :
    qStack (x.q ⟨4 * kv.val + 0, by have := kv.isLt; omega⟩) (x.q ⟨4 * kv.val + 1, by have := kv.isLt; omega⟩) (x.q ⟨4 * kv.val + 2, by have := kv.isLt; omega⟩) (x.q ⟨4 * kv.val + 3, by have := kv.isLt; omega⟩) (ix2 r l)
      = if sd l = od r then ((P.toHR kv).q r (hf l) : EReal) else 0 := by
  refine (qst (fun g => x.q ⟨4 * kv.val + g.val, by have := kv.isLt; have := g.isLt; omega⟩) r l).trans ?_
  by_cases h : sd l = od r
  case neg => rw [if_neg h, if_neg h]
  rw [if_pos h, if_pos h]
  show x.q ⟨4 * kv.val + r.val / 256, _⟩ (ix2 (row r) l) * _ = ((P.Q (row r) (qc (hd kv (gr r)) (hf l)) * (1 / 8) : ℝ) : EReal)
  rw [H.q, tile_col kv r l h, ← EReal.coe_mul]

theorem dst_eq (kv : Fin 2) (r : Fin 1024) (l : Fin 128) :
    dStack (x.d ⟨4 * kv.val + 0, by have := kv.isLt; omega⟩) (x.d ⟨4 * kv.val + 1, by have := kv.isLt; omega⟩) (x.d ⟨4 * kv.val + 2, by have := kv.isLt; omega⟩) (x.d ⟨4 * kv.val + 3, by have := kv.isLt; omega⟩) (ix2 r l)
      = if sd l = od r then ((P.toHR kv).d r (hf l) : EReal) else 0 := by
  refine (dst (fun g => x.d ⟨4 * kv.val + g.val, by have := kv.isLt; have := g.isLt; omega⟩) r l).trans ?_
  by_cases h : sd l = od r
  case neg => rw [if_neg h, if_neg h]
  rw [if_pos h, if_pos h]
  show x.d ⟨4 * kv.val + r.val / 256, _⟩ (ix2 (row r) l) = ((P.D (row r) (qc (hd kv (gr r)) (hf l)) : ℝ) : EReal)
  rw [H.d, tile_col kv r l h]

theorem bp_eq (kv : Fin 2) (r : Fin 1024) (s : Fin 128) :
    (slope (hd kv (gr r)) : EReal) * k0_pay8 (F := Ideal) x.n (ix2 (row r) s) = (P.toHR kv).b r (lo' s) := by
  obtain ⟨k, hk, e, hf⟩ := H.n
  rw [e, pay8_apply k hk, bias_eq, ← hf]
  rfl
theorem bc_eq (kv : Fin 2) (r : Fin 1024) (s : Fin 128) :
    (slope (hd kv (gr r)) : EReal) * k0_pay9 (F := Ideal) (ix2 (row r) s) = (P.toHR kv).b r (hi' s) := by
  rw [pay9_apply P.first, bias_eq]
  rfl

/-- The first key/value head's operands hold the point's reals. -/
theorem rep0 : Rep x.h0 (P.toHR 0) where
  k2p := dup0 _ _ H.kp
  k2c := dup0 _ _ H.kc
  v2p := dup0 _ _ H.vp
  v2c := dup0 _ _ H.vc
  klp := klo0 _ _ H.kp
  klc := klo0 _ _ H.kc
  khp := khi0 _ _ H.kp
  khc := khi0 _ _ H.kc
  q := qst_eq H 0
  d := dst_eq H 0
  bp r s := (bst 0 _ r s).trans (bp_eq H 0 r s)
  bc r s := (bst 0 _ r s).trans (bc_eq H 0 r s)
  s r := (sst (fun g => x.s (hd 0 g)) r).trans (H.s _)

/-- The second key/value head's operands hold the point's reals. -/
theorem rep1 : Rep x.h1 (P.toHR 1) where
  k2p := dup1 _ _ H.kp
  k2c := dup1 _ _ H.kc
  v2p := dup1 _ _ H.vp
  v2c := dup1 _ _ H.vc
  klp := klo1 _ _ H.kp
  klc := klo1 _ _ H.kc
  khp := khi1 _ _ H.kp
  khc := khi1 _ _ H.kc
  q := qst_eq H 1
  d := dst_eq H 1
  bp r s := (bst 1 _ r s).trans (bp_eq H 1 r s)
  bc r s := (bst 1 _ r s).trans (bc_eq H 1 r s)
  s r := (sst (fun g => x.s (hd 1 g)) r).trans (H.s _)
end

end Cert.KernelIdeal.Attn

end
-- ==== Proof.AttnSum.lean ====
module

public import proofs.«01_k».proof.Proof.AttnPoint
public import proofs.«01_k».proof.Proof.AttnFrame

@[expose] public section

set_option maxRecDepth 16384

noncomputable section

/-! # What one grid point leaves in its blocks, over the reals -/

namespace Cert.KernelIdeal.Attn

open Cert.KernelIdeal Cert.KernelIdeal.Gen
open Idealize.ShloMosaic Idealize.ShloMosaic.ValueIdx

/-- Which key/value head a lane of the key columns has. -/
def kvl (l : Fin 128) : Fin 2 := if sd l then 1 else 0

namespace PR
variable (P : PR)
/-- The gradients of key column `l` of row `i`. -/
def dk (i : Fin 256) (l : Fin 128) : ℝ := ∑ r, (P.toHR (kvl l)).ds r i * (P.toHR (kvl l)).q r (hf l)
/-- The gradients of value column `l` of row `i`. -/
def dv (i : Fin 256) (l : Fin 128) : ℝ := ∑ r, (P.toHR (kvl l)).p r i * (P.toHR (kvl l)).d r (hf l)
/-- Both, side by side. -/
def dkv (i : Fin 256) (c : Fin 256) : ℝ :=
  if h : c.val < 128 then P.dk i ⟨c.val, h⟩ else P.dv i ⟨c.val - 128, by have := c.isLt; omega⟩
/-- The gradient of head `h`'s sink. -/
def dz (h : Fin 16) : ℝ :=
  -∑ t : Fin 128, (P.toHR ⟨h.val / 8, by have := h.isLt; omega⟩).st ⟨128 * (h.val % 8) + t.val, by have := t.isLt; omega⟩
/-- The gradients of the queries. -/
def dq (t : Fin 128) (c : Fin 1024) : ℝ :=
  (P.toHR ⟨c.val / 512, by have := c.isLt; omega⟩).dq ⟨128 * (c.val / 64 % 8) + t.val, by have := t.isLt; omega⟩ ⟨c.val % 64, Nat.mod_lt _ (by decide)⟩
end PR

theorem dsAdd_apply (k : ℕ) (hk : k < 128) (a : ℕ) (ha : S1024x1.Slices ![a, 0] S128x1) (ha' : a + 128 ≤ 1024) (st : FVec Ideal S1024x1 .f32) (f : Fin 1024 → ℝ)
    (hf : ∀ r, st (ix2 r 0) = (f r : EReal)) (acc : FVec Ideal S1x128 .f32) (x : Fin 128 → ℝ) (hx : ∀ l, acc (ix2 0 l) = (x l : EReal)) (l : Fin 128) :
    dsAdd (BitVec.ofNat 32 k) a ha st acc (ix2 0 l) = ((x l + (if l.val = k then -∑ t : Fin 128, f ⟨a + t.val, by have := t.isLt; omega⟩ else 0) : ℝ) : EReal) := by
  unfold dsAdd
  rw [addf_apply, hx, select_apply, broadcast_apply, EReal.coe_add]
  have hc : cmpi .eq lane1 (broadcast S1x128 (BitVec.ofNat 32 k)) (ix2 0 l) = BitVec.ofBool (decide (l.val = k)) := by
    show IntOp.cmpi .eq (iota .tc S1x128 32 [1] iota_S1x128_d1_w32 (ix2 0 l)) (BitVec.ofNat 32 k) = _
    rw [iota_single_apply]
    exact WordCmp.cmpi_eq_ofNat (by have := l.isLt; show l.val < _; omega) (by omega)
  have hsum : broadcastTo S1x128 (shapeCast S1x1 (subf (broadcast S1x1 (Scalar.ofBits .f32 0x00000000#32))
      (shapeCast S1x1 (multiReduction .add [0] S1 (extractStridedSlice S128x1 ![a, 0] st ha) 0x00000000#32 reduces_S128x1_S1 (.inl rfl) rfl) shapeCasts_S1_S1x1)) shapeCasts_S1x1_S1x1) broadcasts_S1x1_S1x128 (ix2 0 l)
      = ((-∑ t : Fin 128, f ⟨a + t.val, by have := t.isLt; omega⟩ : ℝ) : EReal) := by
    refine (broadcastTo_apply _ broadcasts_S1x1_S1x128 (ix2 0 l) (ix2 0 0) fun x => by
      match x with | ⟨0, _⟩ => rfl | ⟨1, _⟩ => rfl).trans ?_
    rw [shapeCast_self, subf_apply, broadcast_apply, zero_f32, zero_sub, EReal.coe_neg]
    refine congrArg Neg.neg ?_
    refine (shapeCast_apply _ shapeCasts_S1_S1x1 (ix2 0 0) (ix1 0) (by
      rw [Shape.rowMajor_val_two, Shape.rowMajor_val_one]; rfl)).trans ?_
    refine (Ideal.multiReduction_add_single _ _ reduces_S128x1_S1 (.inl rfl) rfl (ix1 0)).trans ?_
    rw [SoftRow.coe_sum]
    refine Finset.sum_congr rfl fun t _ => ?_
    refine (extractStridedSlice_apply _ st ha _ (ix2 ⟨a + t.val, by have := t.isLt; have : t.val < 128 := t.isLt; omega⟩ 0) fun x => by
      match x with
      | ⟨0, _⟩ => rfl
      | ⟨1, _⟩ => rfl).trans ?_
    rw [hf]
  rw [hc, hsum, show (Scalar.ofBits .f32 0x00000000#32 : Ideal .f32) = (0 : EReal) from Ideal.ofBits_zero_f32]
  by_cases h : l.val = k <;> simp [h, Scalar.select]

section
variable {x : PIn Ideal} {P : PR} (H : PRep x P)
include H

theorem sel_kv (a b : FVec Ideal S128x128 .f32) (f : Fin 2 → Fin 128 → ℝ) (s : Fin 128) (ha : ∀ l, a (ix2 s l) = (f 0 l : EReal))
    (hb : ∀ l, b (ix2 s l) = (f 1 l : EReal)) (l : Fin 128) : select lo a b (ix2 s l) = (f (kvl l) l : EReal) := by
  rw [sel_lo, ha, hb]; unfold kvl
  cases sd l <;> rfl

theorem pair_apply (a b : FVec Ideal S128x128 .f32) (f g : Fin 128 → ℝ) (s : Fin 128) (ha : ∀ l, a (ix2 s l) = (f l : EReal))
    (hb : ∀ l, b (ix2 s l) = (g l : EReal)) (c : Fin 256) :
    concatenate S128x256 1 [⟨S128x128, a⟩, ⟨S128x128, b⟩] concatenates_S128x128_S128x128_S128x256_d1 (ix2 s c)
      = ((if h : c.val < 128 then f ⟨c.val, h⟩ else g ⟨c.val - 128, by have := c.isLt; omega⟩ : ℝ) : EReal) := by
  by_cases h : c.val < 128
  · rw [dif_pos h, ← ha]
    exact concatenate_pair_apply_left (t := S128x256) (s₁ := S128x128) (s₂ := S128x128) 1 a b concatenates_S128x128_S128x128_S128x256_d1 (ix2 s c) rfl (ix2 s ⟨c.val, h⟩) fun x => by
      match x with | ⟨0, _⟩ => rfl | ⟨1, _⟩ => rfl
  · rw [dif_neg h, ← hb]
    exact concatenate_pair_apply_right (t := S128x256) (s₁ := S128x128) (s₂ := S128x128) 1 a b concatenates_S128x128_S128x128_S128x256_d1 (ix2 s c) rfl rfl (ix2 s ⟨c.val - 128, by have := c.isLt; omega⟩) (fun x hx => by
      match x with
      | ⟨0, _⟩ => rfl
      | ⟨1, _⟩ => exact absurd rfl hx) (by show c.val - 128 + 128 = c.val; omega)

theorem prev_eq (s : Fin 128) (c : Fin 256) : x.prev (ix2 s c) = (P.dkv (lo' s) c : EReal) :=
  pair_apply H _ _ (fun l => P.dk (lo' s) l) (fun l => P.dv (lo' s) l) s
    (sel_kv H _ _ (fun kv l => ∑ r, (P.toHR kv).ds r (lo' s) * (P.toHR kv).q r (hf l)) s ((rep0 H).dkp s) ((rep1 H).dkp s))
    (sel_kv H _ _ (fun kv l => ∑ r, (P.toHR kv).p r (lo' s) * (P.toHR kv).d r (hf l)) s ((rep0 H).dvp s) ((rep1 H).dvp s)) c

theorem cur_eq (s : Fin 128) (c : Fin 256) : x.cur (ix2 s c) = (P.dkv (hi' s) c : EReal) :=
  pair_apply H _ _ (fun l => P.dk (hi' s) l) (fun l => P.dv (hi' s) l) s
    (sel_kv H _ _ (fun kv l => ∑ r, (P.toHR kv).ds r (hi' s) * (P.toHR kv).q r (hf l)) s ((rep0 H).dkc s) ((rep1 H).dkc s))
    (sel_kv H _ _ (fun kv l => ∑ r, (P.toHR kv).p r (hi' s) * (P.toHR kv).d r (hf l)) s ((rep0 H).dvc s) ((rep1 H).dvc s)) c

theorem dsk_eq (l : Fin 128) : x.dsk (ix2 0 l) = ((if h : l.val < 16 then P.dz ⟨l.val, h⟩ else 0 : ℝ) : EReal) := by
  have h0 := (rep0 H).st
  have h1 := (rep1 H).st
  have z : ∀ l : Fin 128, (broadcast S1x128 (Scalar.ofBits .f32 0x00000000#32) : FVec Ideal S1x128 .f32) (ix2 0 l) = ((0 : ℝ) : EReal) := fun _ => by
    rw [EReal.coe_zero]; exact Ideal.ofBits_zero_f32
  refine (dsAdd_apply 15 (by decide) 896 _ (by decide) _ _ h1 _ _ (dsAdd_apply 14 (by decide) 768 _ (by decide) _ _ h1 _ _
    (dsAdd_apply 13 (by decide) 640 _ (by decide) _ _ h1 _ _ (dsAdd_apply 12 (by decide) 512 _ (by decide) _ _ h1 _ _
    (dsAdd_apply 11 (by decide) 384 _ (by decide) _ _ h1 _ _ (dsAdd_apply 10 (by decide) 256 _ (by decide) _ _ h1 _ _
    (dsAdd_apply 9 (by decide) 128 _ (by decide) _ _ h1 _ _ (dsAdd_apply 8 (by decide) 0 _ (by decide) _ _ h1 _ _
    (dsAdd_apply 7 (by decide) 896 _ (by decide) _ _ h0 _ _ (dsAdd_apply 6 (by decide) 768 _ (by decide) _ _ h0 _ _
    (dsAdd_apply 5 (by decide) 640 _ (by decide) _ _ h0 _ _ (dsAdd_apply 4 (by decide) 512 _ (by decide) _ _ h0 _ _
    (dsAdd_apply 3 (by decide) 384 _ (by decide) _ _ h0 _ _ (dsAdd_apply 2 (by decide) 256 _ (by decide) _ _ h0 _ _
    (dsAdd_apply 1 (by decide) 128 _ (by decide) _ _ h0 _ _ (dsAdd_apply 0 (by decide) 0 _ (by decide) _ _ h0 _ _ z))))))))))))))) l).trans ?_
  refine congrArg _ ?_
  obtain ⟨l, hl⟩ := l
  by_cases h : l < 16
  · rw [dif_pos h]
    unfold PR.dz
    interval_cases l <;> simp <;> rfl
  · rw [dif_neg h]
    have : ∀ k : ℕ, k < 16 → l ≠ k := fun k hk => by omega
    simp only [this _ (show 0 < 16 by decide), this _ (show 1 < 16 by decide), this _ (show 2 < 16 by decide), this _ (show 3 < 16 by decide), this _ (show 4 < 16 by decide), this _ (show 5 < 16 by decide),
      this _ (show 6 < 16 by decide), this _ (show 7 < 16 by decide), this _ (show 8 < 16 by decide), this _ (show 9 < 16 by decide), this _ (show 10 < 16 by decide), this _ (show 11 < 16 by decide),
      this _ (show 12 < 16 by decide), this _ (show 13 < 16 by decide), this _ (show 14 < 16 by decide), this _ (show 15 < 16 by decide), if_false, add_zero]

theorem dqT_real (j : Fin 8) (t l : Fin 128) :
    x.dqT j (ix2 t l) = (P.dq t ⟨128 * j.val + l.val, by have := j.isLt; have := l.isLt; omega⟩ : EReal) := by
  have key : ∀ (kv : Fin 2) (i : ℕ) (hi : i < 4) (h : HIn Ideal) (hr : Rep h (P.toHR kv)) (ha : S1024x128.Slices ![256 * i, 0] S128x128) (hb : S1024x128.Slices ![256 * i + 128, 0] S128x128)
      (hj : j.val = 4 * kv.val + i),
      h.dq (256 * i) (256 * i + 128) ha hb (ix2 t l) = (P.dq t ⟨128 * j.val + l.val, by have := j.isLt; have := l.isLt; omega⟩ : EReal) := fun kv i hi h hr ha hb hj => by
    rw [hr.dq _ _ ha hb (by omega) (by omega)]
    have hl := l.isLt
    have hk := kv.isLt
    have e1 : (⟨(128 * j.val + l.val) / 512, by omega⟩ : Fin 2) = kv := Fin.ext (by show (128 * j.val + l.val) / 512 = kv.val; omega)
    have e2 : (⟨(128 * j.val + l.val) % 64, Nat.mod_lt _ (by decide)⟩ : Fin 64) = hf l := Fin.ext (by show (128 * j.val + l.val) % 64 = l.val % 64; omega)
    unfold PR.dq
    show _ = (((P.toHR ⟨(128 * j.val + l.val) / 512, _⟩).dq ⟨128 * ((128 * j.val + l.val) / 64 % 8) + t.val, _⟩ ⟨(128 * j.val + l.val) % 64, _⟩ : ℝ) : EReal)
    rw [e1, e2]
    by_cases hs : 64 ≤ l.val
    · rw [show sd l = true from decide_eq_true hs, if_neg (by decide)]
      exact congrArg (fun r => (((P.toHR kv).dq r (hf l) : ℝ) : EReal)) (Fin.ext (by simp; omega))
    · rw [show sd l = false from decide_eq_false hs, if_pos rfl]
      exact congrArg (fun r => (((P.toHR kv).dq r (hf l) : ℝ) : EReal)) (Fin.ext (by simp; omega))
  match j, key with
  | ⟨0, _⟩, key => exact key 0 0 (by decide) _ (rep0 H) _ _ rfl
  | ⟨1, _⟩, key => exact key 0 1 (by decide) _ (rep0 H) _ _ rfl
  | ⟨2, _⟩, key => exact key 0 2 (by decide) _ (rep0 H) _ _ rfl
  | ⟨3, _⟩, key => exact key 0 3 (by decide) _ (rep0 H) _ _ rfl
  | ⟨4, _⟩, key => exact key 1 0 (by decide) _ (rep1 H) _ _ rfl
  | ⟨5, _⟩, key => exact key 1 1 (by decide) _ (rep1 H) _ _ rfl
  | ⟨6, _⟩, key => exact key 1 2 (by decide) _ (rep1 H) _ _ rfl
  | ⟨7, _⟩, key => exact key 1 3 (by decide) _ (rep1 H) _ _ rfl

theorem dqOf_eq (t : Fin 128) (c : Fin 1024) : dqOf x (ix2 t c) = (P.dq t c : EReal) := by
  unfold dqOf
  refine (dqT_real H _ t _).trans ?_
  refine congrArg (fun c => ((P.dq t c : ℝ) : EReal)) (Fin.ext ?_)
  show 128 * (c.val / 128) + c.val % 128 = c.val
  omega

end

end Cert.KernelIdeal.Attn

end
-- ==== Proof.AttnArrays.lean ====
module

public import proofs.«01_k».proof.Proof.AttnSum

@[expose] public section

set_option maxRecDepth 16384

noncomputable section

/-! # The kernel's result arrays, over the reals -/

namespace Cert.KernelIdeal.Attn

open Cert.KernelIdeal Cert.KernelIdeal.Gen
open Idealize.ShloMosaic Idealize.ShloMosaic.TcCoe Idealize.ShloMosaic.ValueIdx
open Idealize.SL Idealize.SL.RA Idealize.SL.BI Idealize.SL.Sem
open Idealize.ShloMosaic.Pipeline (Dat Cfg Window)

/-- The four argument arrays over the reals. -/
structure RA where
  q : Fin 4096 → Fin 1024 → ℝ
  kv : Fin 4096 → Fin 256 → ℝ
  z : Fin 16 → ℝ
  d : Fin 4096 → Fin 1024 → ℝ

/-- Row `t` of block `n`. -/
def br (n : Fin 32) (t : Fin 128) : Fin 4096 := ⟨128 * n.val + t.val, by have := n.isLt; have := t.isLt; omega⟩
/-- The block before, the first block's being itself. -/
def pb (n : Fin 32) : Fin 32 := ⟨n.val - 1, by have := n.isLt; omega⟩
/-- Row `i` of the two blocks a point reads. -/
def kr (n : Fin 32) (i : Fin 256) : Fin 4096 :=
  if h : i.val < 128 then br (pb n) ⟨i.val, h⟩ else br n ⟨i.val - 128, by have := i.isLt; omega⟩

/-- What point `n` reads. -/
def RA.point (A : RA) (n : Fin 32) : PR where
  first := decide (n.val = 0)
  z := A.z
  Q t c := A.q (br n t) c
  D t c := A.d (br n t) c
  K i l := A.kv (kr n i) ⟨l.val, by have := l.isLt; omega⟩
  V i l := A.kv (kr n i) ⟨128 + l.val, by have := l.isLt; omega⟩

namespace RA
variable (A : RA)
/-- The gradients of the queries. -/
def dq (r : Fin 4096) (c : Fin 1024) : ℝ := (A.point ⟨r.val / 128, by have := r.isLt; omega⟩).dq ⟨r.val % 128, Nat.mod_lt _ (by decide)⟩ c
/-- The gradients of row `s` of block `n` of the keys and values: the block's own point, and the next block's if there is one. -/
def dkvB (n : Fin 32) (s : Fin 128) (c : Fin 256) : ℝ :=
  (A.point n).dkv (hi' s) c + if h : n.val + 1 < 32 then (A.point ⟨n.val + 1, h⟩).dkv (lo' s) c else 0
/-- The gradients of the keys and values. -/
def dkv (r : Fin 4096) (c : Fin 256) : ℝ := A.dkvB ⟨r.val / 128, by have := r.isLt; omega⟩ ⟨r.val % 128, Nat.mod_lt _ (by decide)⟩ c
/-- One point's sink gradients on the lanes. -/
def dzL (n : Fin 32) (l : Fin 128) : ℝ := if h : l.val < 16 then (A.point n).dz ⟨l.val, h⟩ else 0
/-- The gradients of the sinks. -/
def dz (l : Fin 128) : ℝ := ∑ n : Fin 32, A.dzL n l
end RA

variable (m : (ℓ : Loc nD τ sig) → Buf (Elt Ideal) ℓ)

/-- The argument arrays hold the reals `A`. -/
structure Holds (c : Dev nD) (A : RA) : Prop where
  q : ∀ r k, m ((c : Thread nD τ).loc main_arg0) (ix2 r k) = (A.q r k : EReal)
  kv : ∀ r k, m ((c : Thread nD τ).loc main_arg1) (ix2 r k) = (A.kv r k : EReal)
  z : ∀ k, m ((c : Thread nD τ).loc main_arg2) (ix1 k) = (A.z k : EReal)
  d : ∀ r k, m ((c : Thread nD τ).loc main_arg3) (ix2 r k) = (A.d r k : EReal)

/-! ## The blocks a point reads -/

theorem idx1 : ∀ t : Fin cfg0.N, (cfg0.win 1).index t 0 = min t.val 31 ∧ (cfg0.win 1).index t 1 = 0 := by decide +kernel
theorem idx2 : ∀ t : Fin cfg0.N, (cfg0.win 2).index t 0 = min t.val 31 - 1 ∧ (cfg0.win 2).index t 1 = 0 := by decide +kernel
theorem idx3 : ∀ t : Fin cfg0.N, (cfg0.win 3).index t 0 = min t.val 31 ∧ (cfg0.win 3).index t 1 = 0 := by decide +kernel
theorem idx4 : ∀ t : Fin cfg0.N, (cfg0.win 4).index t 0 = min t.val 31 ∧ (cfg0.win 4).index t 1 = 0 := by decide +kernel
theorem idx5 : ∀ t : Fin cfg0.N, (cfg0.win 5).index t 0 = min t.val 31 ∧ (cfg0.win 5).index t 1 = 0 := by decide +kernel
theorem idx6 : ∀ t : Fin cfg0.N, (cfg0.win 6).index t 0 = t.val - 1 ∧ (cfg0.win 6).index t 1 = 0 := by decide +kernel
theorem idx7 : ∀ t : Fin cfg0.N, (cfg0.win 7).index t 0 = 0 ∧ (cfg0.win 7).index t 1 = 0 := by decide +kernel
theorem idx0 : ∀ t : Fin cfg0.N, (cfg0.win 0).index t 0 = 0 := by decide +kernel
theorem coord0 : ∀ t : Fin cfg0.N, (grid0.coords t 0).val = t.val := by decide +kernel
theorem Nval : cfg0.N = 33 := by decide +kernel

section Blocks
variable (c : Dev nD) (A : RA) (HA : Holds m c A) (t : Fin cfg0.N) (n : Fin 32) (hn : n.val = min t.val 31)
include HA

theorem blk0 (k : Fin 16) : iblk m c 0 t (ix1 k) = (A.z k : EReal) := by
  rw [← HA.z k]
  refine congrArg (m ((c : Thread nD τ).loc main_arg2)) (funext fun a => Fin.ext ?_)
  match a with
  | ⟨0, _⟩ =>
    refine ((cfg0.win 0).rect_emb_val t (ix1 k) 0).trans ?_
    rw [idx0]; show 0 * 16 + k.val = k.val; omega

include hn

theorem blk1 (r : Fin 128) (k : Fin 1024) : iblk m c 1 t (ix2 r k) = (A.q (br n r) k : EReal) := by
  rw [← HA.q]
  refine congrArg (m ((c : Thread nD τ).loc main_arg0)) (funext fun a => Fin.ext ?_)
  match a with
  | ⟨0, _⟩ =>
    refine ((cfg0.win 1).rect_emb_val t (ix2 r k) 0).trans ?_
    rw [(idx1 t).1, ← hn]; show n.val * 128 + r.val = 128 * n.val + r.val; omega
  | ⟨1, _⟩ =>
    refine ((cfg0.win 1).rect_emb_val t (ix2 r k) 1).trans ?_
    rw [(idx1 t).2]; show 0 * 1024 + k.val = k.val; omega

theorem blk2 (r : Fin 128) (k : Fin 256) : iblk m c 2 t (ix2 r k) = (A.kv (br (pb n) r) k : EReal) := by
  rw [← HA.kv]
  refine congrArg (m ((c : Thread nD τ).loc main_arg1)) (funext fun a => Fin.ext ?_)
  match a with
  | ⟨0, _⟩ =>
    refine ((cfg0.win 2).rect_emb_val t (ix2 r k) 0).trans ?_
    rw [(idx2 t).1, ← hn]; show (n.val - 1) * 128 + r.val = 128 * (n.val - 1) + r.val; omega
  | ⟨1, _⟩ =>
    refine ((cfg0.win 2).rect_emb_val t (ix2 r k) 1).trans ?_
    rw [(idx2 t).2]; show 0 * 256 + k.val = k.val; omega

theorem blk3 (r : Fin 128) (k : Fin 256) : iblk m c 3 t (ix2 r k) = (A.kv (br n r) k : EReal) := by
  rw [← HA.kv]
  refine congrArg (m ((c : Thread nD τ).loc main_arg1)) (funext fun a => Fin.ext ?_)
  match a with
  | ⟨0, _⟩ =>
    refine ((cfg0.win 3).rect_emb_val t (ix2 r k) 0).trans ?_
    rw [(idx3 t).1, ← hn]; show n.val * 128 + r.val = 128 * n.val + r.val; omega
  | ⟨1, _⟩ =>
    refine ((cfg0.win 3).rect_emb_val t (ix2 r k) 1).trans ?_
    rw [(idx3 t).2]; show 0 * 256 + k.val = k.val; omega

theorem blk4 (r : Fin 128) (k : Fin 1024) : iblk m c 4 t (ix2 r k) = (A.d (br n r) k : EReal) := by
  rw [← HA.d]
  refine congrArg (m ((c : Thread nD τ).loc main_arg3)) (funext fun a => Fin.ext ?_)
  match a with
  | ⟨0, _⟩ =>
    refine ((cfg0.win 4).rect_emb_val t (ix2 r k) 0).trans ?_
    rw [(idx4 t).1, ← hn]; show n.val * 128 + r.val = 128 * n.val + r.val; omega
  | ⟨1, _⟩ =>
    refine ((cfg0.win 4).rect_emb_val t (ix2 r k) 1).trans ?_
    rw [(idx4 t).2]; show 0 * 1024 + k.val = k.val; omega
end Blocks

theorem kr_lo (n : Fin 32) (s : Fin 128) : kr n (lo' s) = br (pb n) s := by
  unfold kr
  rw [dif_pos (show (lo' s).val < 128 from s.isLt)]
  rfl
theorem kr_hi (n : Fin 32) (s : Fin 128) : kr n (hi' s) = br n s := by
  unfold kr
  rw [dif_neg (show ¬(hi' s).val < 128 from by show ¬128 + s.val < 128; omega)]
  exact congrArg (br n) (Fin.ext (by show 128 + s.val - 128 = s.val; omega))

/-- What point `n` reads are the reals `A.point n`. -/
theorem prep (c : Dev nD) (A : RA) (HA : Holds m c A) (t : Fin cfg0.N) (n : Fin 32) (hn : n.val = t.val) : PRep (pt m c t) (A.point n) := by
  have hm : n.val = min t.val 31 := by have := n.isLt; omega
  constructor
  case n => exact ⟨t.val, by have := t.isLt; have := Nval; omega, congrArg (BitVec.ofNat 32) (coord0 t), by rw [← hn]; rfl⟩
  case s =>
    intro k
    rw [show (A.point n).z k = A.z k from rfl, ← blk0 m c A HA t k]
    refine congrArg (iblk m c 0 t) (funext fun a => Fin.ext ?_)
    match a with
    | ⟨0, _⟩ => exact (Rect.emb_apply _ _ _).trans (by show k.val + 1 * 0 = k.val; omega)
  case q =>
    intro j r l
    refine Eq.trans ?_ (blk1 m c A HA t n hm r ⟨128 * j.val + l.val, by have := j.isLt; have := l.isLt; omega⟩)
    refine congrArg (iblk m c 1 t) (funext fun a => Fin.ext ?_)
    match a with
    | ⟨0, _⟩ => exact (Rect.emb_apply _ _ _).trans (by show 0 + 1 * r.val = r.val; omega)
    | ⟨1, _⟩ => exact (Rect.emb_apply _ _ _).trans (by show 128 * j.val + 1 * l.val = 128 * j.val + l.val; omega)
  case d =>
    intro j r l
    refine Eq.trans ?_ (blk4 m c A HA t n hm r ⟨128 * j.val + l.val, by have := j.isLt; have := l.isLt; omega⟩)
    refine congrArg (iblk m c 4 t) (funext fun a => Fin.ext ?_)
    match a with
    | ⟨0, _⟩ => exact (Rect.emb_apply _ _ _).trans (by show 0 + 1 * r.val = r.val; omega)
    | ⟨1, _⟩ => exact (Rect.emb_apply _ _ _).trans (by show 128 * j.val + 1 * l.val = 128 * j.val + l.val; omega)
  case kp =>
    intro s l
    show _ = ((A.kv (kr n (lo' s)) ⟨l.val, _⟩ : ℝ) : EReal)
    rw [kr_lo]
    refine Eq.trans ?_ (blk2 m c A HA t n hm s ⟨l.val, by have := l.isLt; omega⟩)
    refine congrArg (iblk m c 2 t) (funext fun a => Fin.ext ?_)
    match a with
    | ⟨0, _⟩ => exact (Rect.emb_apply _ _ _).trans (by show 0 + 1 * s.val = s.val; omega)
    | ⟨1, _⟩ => exact (Rect.emb_apply _ _ _).trans (by show 0 + 1 * l.val = l.val; omega)
  case kc =>
    intro s l
    show _ = ((A.kv (kr n (hi' s)) ⟨l.val, _⟩ : ℝ) : EReal)
    rw [kr_hi]
    refine Eq.trans ?_ (blk3 m c A HA t n hm s ⟨l.val, by have := l.isLt; omega⟩)
    refine congrArg (iblk m c 3 t) (funext fun a => Fin.ext ?_)
    match a with
    | ⟨0, _⟩ => exact (Rect.emb_apply _ _ _).trans (by show 0 + 1 * s.val = s.val; omega)
    | ⟨1, _⟩ => exact (Rect.emb_apply _ _ _).trans (by show 0 + 1 * l.val = l.val; omega)
  case vp =>
    intro s l
    show _ = ((A.kv (kr n (lo' s)) ⟨128 + l.val, _⟩ : ℝ) : EReal)
    rw [kr_lo]
    refine Eq.trans ?_ (blk2 m c A HA t n hm s ⟨128 + l.val, by have := l.isLt; omega⟩)
    refine congrArg (iblk m c 2 t) (funext fun a => Fin.ext ?_)
    match a with
    | ⟨0, _⟩ => exact (Rect.emb_apply _ _ _).trans (by show 0 + 1 * s.val = s.val; omega)
    | ⟨1, _⟩ => exact (Rect.emb_apply _ _ _).trans (by show 128 + 1 * l.val = 128 + l.val; omega)
  case vc =>
    intro s l
    show _ = ((A.kv (kr n (hi' s)) ⟨128 + l.val, _⟩ : ℝ) : EReal)
    rw [kr_hi]
    refine Eq.trans ?_ (blk3 m c A HA t n hm s ⟨128 + l.val, by have := l.isLt; omega⟩)
    refine congrArg (iblk m c 3 t) (funext fun a => Fin.ext ?_)
    match a with
    | ⟨0, _⟩ => exact (Rect.emb_apply _ _ _).trans (by show 0 + 1 * s.val = s.val; omega)
    | ⟨1, _⟩ => exact (Rect.emb_apply _ _ _).trans (by show 128 + 1 * l.val = 128 + l.val; omega)

/-! ## The blocks a point leaves -/

section Outs
variable (c : Dev nD) (A : RA) (HA : Holds m c A)
include HA

/-- The query gradients' buffer. -/
theorem out5 (t : Fin cfg0.N) (n : Fin 32) (hn : n.val = min t.val 31) (r : Fin 128) (k : Fin 1024) :
    (outsAt0 m c t.val t.isLt).1 (ix2 r k) = ((A.point n).dq r k : EReal) := by
  by_cases h0 : t.val = 0
  · rw [outsAt0_A m c t h0]
    exact dqOf_eq (prep m c A HA t n (by omega)) r k
  by_cases h2 : t.val < 32
  · rw [outsAt0_B m c t h0 h2]
    exact dqOf_eq (prep m c A HA t n (by omega)) r k
  · rw [outsAt0_C m c t h0 h2]
    have ht := t.isLt
    have hN := Nval
    have h3 : t.val - 1 = 31 := by omega
    rw [outsAt0_B m c ⟨t.val - 1, by omega⟩ (by show t.val - 1 ≠ 0; omega) (by show t.val - 1 < 32; omega)]
    exact dqOf_eq (prep m c A HA ⟨t.val - 1, by omega⟩ n (by show n.val = t.val - 1; omega)) r k

/-- The carried scratch: the current block's own gradients. -/
theorem outS (t : Fin cfg0.N) (n : Fin 32) (hn : n.val = t.val) (s : Fin 128) (k : Fin 256) :
    (outsAt0 m c t.val t.isLt).2.2.2 (ix2 s k) = ((A.point n).dkv (hi' s) k : EReal) := by
  have e : (outsAt0 m c t.val t.isLt).2.2.2 = k0_pay5 (pt m c t).cur := by
    by_cases h0 : t.val = 0
    · rw [outsAt0_A m c t h0]
    · rw [outsAt0_B m c t h0 (by have := n.isLt; omega)]
  rw [e]
  show shapeCast S128x256 (pt m c t).cur _ (ix2 s k) = _
  rw [shapeCast_self]
  exact cur_eq (prep m c A HA t n hn) s k

/-- The key and value gradients' buffer, from the second point on: the block before. -/
theorem out6 (t : Fin cfg0.N) (n : Fin 32) (hn : n.val + 1 = t.val) (s : Fin 128) (k : Fin 256) :
    (outsAt0 m c t.val t.isLt).2.1 (ix2 s k) = (A.dkvB n s k : EReal) := by
  have ht := t.isLt
  have hN := Nval
  have hc := outS m c A HA ⟨t.val - 1, by omega⟩ n (by show n.val = t.val - 1; omega) s k
  unfold RA.dkvB
  by_cases h2 : t.val < 32
  · rw [outsAt0_B m c t (by omega) h2, dif_pos (by omega), EReal.coe_add, ← hc, ← prev_eq (prep m c A HA t ⟨n.val + 1, by omega⟩ hn) s k]
    rfl
  · rw [outsAt0_C m c t (by omega) h2, dif_neg (by omega), add_zero, ← hc]
    rfl

/-- The sink gradients' buffer: the points so far added up. -/
theorem out7 (k : ℕ) (hk : k < 32) (hk' : k < cfg0.N) (l : Fin 128) :
    (outsAt0 m c k hk').2.2.1 (ix2 0 l) = ((∑ j : Fin (k + 1), A.dzL ⟨j.val, by have := j.isLt; omega⟩ l : ℝ) : EReal) := by
  induction k with
  | zero =>
    have e := outsAt0_A m c ⟨0, hk'⟩ rfl
    rw [show outsAt0 m c 0 hk' = _ from e, Fin.sum_univ_one]
    show shapeCast S1x128 (k0_pay2 (F := Ideal)) _ (ix2 0 l) + (pt m c ⟨0, hk'⟩).dsk (ix2 0 l) = _
    rw [shapeCast_self, dsk_eq (prep m c A HA ⟨0, hk'⟩ ⟨0, hk⟩ rfl) l]
    rw [show k0_pay2 (F := Ideal) (ix2 0 l) = (0 : EReal) from zero_f32, zero_add]
    rfl
  | succ k ih =>
    have e := outsAt0_B m c ⟨k + 1, hk'⟩ (Nat.succ_ne_zero k) hk
    rw [show outsAt0 m c (k + 1) hk' = _ from e, Fin.sum_univ_castSucc, EReal.coe_add]
    show shapeCast S1x128 (outsAt0 m c k _).2.2.1 _ (ix2 0 l) + (pt m c ⟨k + 1, hk'⟩).dsk (ix2 0 l) = _
    rw [shapeCast_self, dsk_eq (prep m c A HA ⟨k + 1, hk'⟩ ⟨k + 1, hk⟩ rfl) l, ih (by omega) (by omega)]
    rfl

/-! ## The arrays at the end -/

/-- The query gradients. -/
theorem final5 : (dats m 0 c).arrAt 5 cfg0.N = fun y => (A.dq (y 0) (y 1) : EReal) := by
  refine (dats m 0 c).arrAt_eq_of_cover 5 _ (fun t _ => ?_) fun i => ?_
  · funext y
    show (outsAt0 m c t.val t.isLt).1 y = _
    obtain ⟨r, k, rfl⟩ : ∃ (r : Fin 128) (k : Fin 1024), y = ix2 r k := ⟨y 0, y 1, eq_ix2 y⟩
    have hn := Nval
    rw [out5 m c A HA t ⟨min t.val 31, by omega⟩ rfl]
    have e0 : ((((cfg0.win 5).blk t).view.emb (ix2 r k) : main_v0_0.ty.shape.Idx) 0).val = min t.val 31 * 128 + r.val := by
      refine ((cfg0.win 5).rect_emb_val t (ix2 r k) 0).trans ?_
      rw [(idx5 t).1]; rfl
    have e1 : ((((cfg0.win 5).blk t).view.emb (ix2 r k) : main_v0_0.ty.shape.Idx) 1).val = k.val := by
      refine ((cfg0.win 5).rect_emb_val t (ix2 r k) 1).trans ?_
      rw [(idx5 t).2]; show 0 * 1024 + k.val = k.val; omega
    show _ = ((A.dq ((((cfg0.win 5).blk t).view.emb (ix2 r k) : main_v0_0.ty.shape.Idx) 0) ((((cfg0.win 5).blk t).view.emb (ix2 r k) : main_v0_0.ty.shape.Idx) 1) : ℝ) : EReal)
    unfold RA.dq
    have hr := r.isLt
    have hh : ∀ (a b : Fin 32) (s s' : Fin 128) (k k' : Fin 1024), a = b → s = s' → k = k' →
        (((A.point a).dq s k : ℝ) : EReal) = (((A.point b).dq s' k' : ℝ) : EReal) := by
      rintro a _ s _ k _ rfl rfl rfl; rfl
    exact hh _ _ _ _ _ _ (Fin.ext (by show min t.val 31 = _ / 128; rw [e0]; omega)) (Fin.ext (by show r.val = _ % 128; rw [e0]; omega)) (Fin.ext e1.symm)
  · have h0 : (i 0).val < 4096 := (i 0).isLt
    have h1 : (i 1).val < 1024 := (i 1).isLt
    have hN := Nval
    have key : ∀ t : Fin cfg0.N, min t.val 31 = (i 0).val / 128 → i ∈ ((cfg0.win 5).blk t).view.set := fun t ht => by
      show i ∈ ((View.whole main_v0_0).slice (win0_5.rect t)).set
      rw [View.set_slice_whole, Rect.mem_set_unit]
      intro a
      match a with
      | ⟨0, _⟩ =>
        show (cfg0.win 5).index t 0 * 128 ≤ (i 0).val ∧ (i 0).val < (cfg0.win 5).index t 0 * 128 + 128
        rw [(idx5 t).1, ht]; omega
      | ⟨1, _⟩ =>
        show (cfg0.win 5).index t 1 * 1024 ≤ (i 1).val ∧ (i 1).val < (cfg0.win 5).index t 1 * 1024 + 1024
        rw [(idx5 t).2]; omega
    have fl : ∀ t : Fin cfg0.N, t.val ≠ 31 → (cfg0.win 5).flush t = true := by decide +kernel
    by_cases h : (i 0).val / 128 = 31
    · exact ⟨⟨32, by omega⟩, fl _ (show 32 ≠ 31 by decide), key _ (by show min 32 31 = _; omega)⟩
    · exact ⟨⟨(i 0).val / 128, by omega⟩, fl _ h, key _ (by show min ((i 0).val / 128) 31 = _; omega)⟩

/-- The key and value gradients. -/
theorem final6 : (dats m 0 c).arrAt 6 cfg0.N = fun y => (A.dkv (y 0) (y 1) : EReal) := by
  have fl : ∀ t : Fin cfg0.N, (cfg0.win 6).flush t = decide (t.val ≠ 0) := by decide +kernel
  refine (dats m 0 c).arrAt_eq_of_cover 6 _ (fun t ht => ?_) fun i => ?_
  · have ht0 : t.val ≠ 0 := of_decide_eq_true ((fl t).symm.trans ht)
    funext y
    show (outsAt0 m c t.val t.isLt).2.1 y = _
    obtain ⟨r, k, rfl⟩ : ∃ (r : Fin 128) (k : Fin 256), y = ix2 r k := ⟨y 0, y 1, eq_ix2 y⟩
    have hN : cfg0.grid.N = 33 := Nval
    have hlt := t.isLt
    rw [out6 m c A HA t ⟨t.val - 1, by omega⟩ (by show t.val - 1 + 1 = t.val; omega)]
    have e0 : ((((cfg0.win 6).blk t).view.emb (ix2 r k) : main_v0_1.ty.shape.Idx) 0).val = (t.val - 1) * 128 + r.val := by
      refine ((cfg0.win 6).rect_emb_val t (ix2 r k) 0).trans ?_
      rw [(idx6 t).1]; rfl
    have e1 : ((((cfg0.win 6).blk t).view.emb (ix2 r k) : main_v0_1.ty.shape.Idx) 1).val = k.val := by
      refine ((cfg0.win 6).rect_emb_val t (ix2 r k) 1).trans ?_
      rw [(idx6 t).2]; show 0 * 256 + k.val = k.val; omega
    show _ = ((A.dkv ((((cfg0.win 6).blk t).view.emb (ix2 r k) : main_v0_1.ty.shape.Idx) 0) ((((cfg0.win 6).blk t).view.emb (ix2 r k) : main_v0_1.ty.shape.Idx) 1) : ℝ) : EReal)
    unfold RA.dkv
    have hr := r.isLt
    refine congrArg _ ?_
    congr 1
    · exact Fin.ext (by show t.val - 1 = _ / 128; rw [e0]; omega)
    · exact Fin.ext (by show r.val = _ % 128; rw [e0]; omega)
    · exact Fin.ext e1.symm
  · have h0 : (i 0).val < 4096 := (i 0).isLt
    have h1 : (i 1).val < 256 := (i 1).isLt
    have hN := Nval
    refine ⟨⟨(i 0).val / 128 + 1, by omega⟩, (fl _).trans (decide_eq_true (Nat.succ_ne_zero _)), ?_⟩
    generalize ht : (⟨(i 0).val / 128 + 1, _⟩ : Fin cfg0.N) = t
    have ht' : t.val = (i 0).val / 128 + 1 := by rw [← ht]
    show i ∈ ((View.whole main_v0_1).slice (win0_6.rect t)).set
    rw [View.set_slice_whole, Rect.mem_set_unit]
    intro a
    match a with
    | ⟨0, _⟩ =>
      show (cfg0.win 6).index t 0 * 128 ≤ (i 0).val ∧ (i 0).val < (cfg0.win 6).index t 0 * 128 + 128
      rw [(idx6 t).1, ht']; omega
    | ⟨1, _⟩ =>
      show (cfg0.win 6).index t 1 * 256 ≤ (i 1).val ∧ (i 1).val < (cfg0.win 6).index t 1 * 256 + 256
      rw [(idx6 t).2]; omega

/-- The sink gradients. -/
theorem final7 : (dats m 0 c).arrAt 7 cfg0.N = fun y => (A.dz (y 1) : EReal) := by
  have fl : ∀ t : Fin cfg0.N, (cfg0.win 7).flush t = decide (t.val = 32) := by decide +kernel
  refine (dats m 0 c).arrAt_eq_of_cover 7 _ (fun t ht => ?_) fun i => ?_
  · have ht0 : t.val = 32 := of_decide_eq_true ((fl t).symm.trans ht)
    funext y
    show (outsAt0 m c t.val t.isLt).2.2.1 y = _
    obtain ⟨r, k, rfl⟩ : ∃ (r : Fin 1) (k : Fin 128), y = ix2 r k := ⟨y 0, y 1, eq_ix2 y⟩
    obtain rfl : r = 0 := Subsingleton.elim _ _
    have hN := Nval
    rw [outsAt0_C m c t (by omega) (by omega)]
    show (outsAt0 m c (t.val - 1) _).2.2.1 (ix2 0 k) = _
    have e1 : ((((cfg0.win 7).blk t).view.emb (ix2 0 k) : main_v0_2.ty.shape.Idx) 1).val = k.val := by
      refine ((cfg0.win 7).rect_emb_val t (ix2 0 k) 1).trans ?_
      rw [(idx7 t).2]; show 0 * 128 + k.val = k.val; omega
    show _ = ((A.dz ((((cfg0.win 7).blk t).view.emb (ix2 0 k) : main_v0_2.ty.shape.Idx) 1) : ℝ) : EReal)
    have e2 : (((cfg0.win 7).blk t).view.emb (ix2 0 k) : main_v0_2.ty.shape.Idx) 1 = k := Fin.ext e1
    rw [e2]
    have h31 : t.val - 1 = 31 := by omega
    have := out7 m c A HA 31 (by decide) (by omega) k
    simp only [h31]
    exact this
  · have h0 : (i 0).val < 1 := (i 0).isLt
    have h1 : (i 1).val < 128 := (i 1).isLt
    have hN := Nval
    refine ⟨⟨32, by omega⟩, (fl _).trans (decide_eq_true rfl), ?_⟩
    generalize (⟨32, _⟩ : Fin cfg0.N) = t
    show i ∈ ((View.whole main_v0_2).slice (win0_7.rect t)).set
    rw [View.set_slice_whole, Rect.mem_set_unit]
    intro a
    match a with
    | ⟨0, _⟩ =>
      show (cfg0.win 7).index t 0 * 1 ≤ (i 0).val ∧ (i 0).val < (cfg0.win 7).index t 0 * 1 + 1
      rw [(idx7 t).1]; omega
    | ⟨1, _⟩ =>
      show (cfg0.win 7).index t 1 * 128 ≤ (i 1).val ∧ (i 1).val < (cfg0.win 7).index t 1 * 128 + 128
      rw [(idx7 t).2]; omega

end Outs

end Cert.KernelIdeal.Attn

end
-- ==== Proof.RefBand.lean ====
module

public import proofs.«01_k».proof.Proof.AttnArrays
public import proofs.«01_k».proof.Proof.Gen.ReferenceIdeal.Read
public import Idealize.ShloMosaic.Lib.KernelVsHost
public import Idealize.ShloMosaic.Lib.WordCmp

@[expose] public section

set_option maxRecDepth 16384

noncomputable section

/-! # The reference's operands over the reals: the bands of keys and values, the mask, the distances, the scores -/

namespace Cert.ReferenceIdeal.Attn

open Cert.ReferenceIdeal Cert.ReferenceIdeal.Gen Cert.ReferenceIdeal.Read
open Idealize.ShloMosaic Idealize.ShloMosaic.ValueIdx
open Cert.KernelIdeal.Attn (RA br pb kr vb slope slopeW slope_spec hd qc)

/-! ## An index from its coordinates -/

theorem e1 {n0 : ℕ} (i : (⟨1, ![n0]⟩ : Shape).Idx) (a : Fin n0) (h0 : (i 0).val = a.val) : i = ix1 a :=
  funext fun x => Fin.ext (by match x with | ⟨0, _⟩ => exact h0)
theorem e2 {n0 n1 : ℕ} (i : (⟨2, ![n0, n1]⟩ : Shape).Idx) (a : Fin n0) (b : Fin n1) (h0 : (i 0).val = a.val) (h1 : (i 1).val = b.val) : i = ix2 a b :=
  funext fun x => Fin.ext (by match x with | ⟨0, _⟩ => exact h0 | ⟨1, _⟩ => exact h1)
theorem e3 {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun x => Fin.ext (by match x with | ⟨0, _⟩ => exact h0 | ⟨1, _⟩ => exact h1 | ⟨2, _⟩ => exact h2)
theorem e4 {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ix4 a b c d :=
  funext fun x => Fin.ext (by match x with | ⟨0, _⟩ => exact h0 | ⟨1, _⟩ => exact h1 | ⟨2, _⟩ => exact h2 | ⟨3, _⟩ => exact h3)
theorem e5 {n0 n1 n2 n3 n4 : ℕ} (i : (⟨5, ![n0, n1, n2, n3, n4]⟩ : Shape).Idx) (a : Fin n0) (b : Fin n1) (c : Fin n2) (d : Fin n3) (e : Fin n4)
    (h0 : (i 0).val = a.val) (h1 : (i 1).val = b.val) (h2 : (i 2).val = c.val) (h3 : (i 3).val = d.val) (h4 : (i 4).val = e.val) : i = ix5 a b c d e :=
  funext fun x => Fin.ext (by match x with | ⟨0, _⟩ => exact h0 | ⟨1, _⟩ => exact h1 | ⟨2, _⟩ => exact h2 | ⟨3, _⟩ => exact h3 | ⟨4, _⟩ => exact h4)

/-- Key/value head `kv`'s key columns. -/
def kc (kv : Fin 2) (d : Fin 64) : Fin 256 := ⟨64 * kv.val + d.val, by have := kv.isLt; have := d.isLt; omega⟩
/-- Its value columns. -/
def vc (kv : Fin 2) (d : Fin 64) : Fin 256 := ⟨128 + (64 * kv.val + d.val), by have := kv.isLt; have := d.isLt; omega⟩
/-- Row `i` of block `n`'s band: the block before it, zeros at the first block, and itself. -/
def kb (A : RA) (n : Fin 32) (i : Fin 256) (c : Fin 256) : ℝ := if n.val = 0 ∧ i.val < 128 then 0 else A.kv (kr n i) c

/-- The arguments hold the reals `A`. -/
structure In (x0 : (⟨S4096x1024, .bf16⟩ : BufTy).Contents (Elt Ideal)) (x1 : (⟨S4096x256, .bf16⟩ : BufTy).Contents (Elt Ideal))
    (x2 : (⟨S16, .f32⟩ : BufTy).Contents (Elt Ideal)) (x3 : (⟨S4096x1024, .bf16⟩ : BufTy).Contents (Elt Ideal)) (A : RA) : Prop where
  q : ∀ r k, x0 (ix2 r k) = (A.q r k : EReal)
  kv : ∀ r k, x1 (ix2 r k) = (A.kv r k : EReal)
  z : ∀ k, x2 (ix1 k) = (A.z k : EReal)
  d : ∀ r k, x3 (ix2 r k) = (A.d r k : EReal)

section Band
variable {x0 : (⟨S4096x1024, .bf16⟩ : BufTy).Contents (Elt Ideal)} {x1 : (⟨S4096x256, .bf16⟩ : BufTy).Contents (Elt Ideal)}
  {x2 : (⟨S16, .f32⟩ : BufTy).Contents (Elt Ideal)} {x3 : (⟨S4096x1024, .bf16⟩ : BufTy).Contents (Elt Ideal)} {A : RA}
variable (H : In x0 x1 x2 x3 A)

theorem z7 (j : S1x128x2x64.Idx) : (val_main_v7 (F := Ideal)) j = (0 : EReal) := by
  rw [(val_main_v7_apply _), (val_main_cst_apply _)]; exact Ideal.ofBits_zero_f32
theorem z13 (j : S1x128x2x64.Idx) : (val_main_v13 (F := Ideal)) j = (0 : EReal) := by
  rw [(val_main_v13_apply _), (val_main_cst_1_apply _)]; exact Ideal.ofBits_zero_f32

include H

theorem q3 (n : Fin 32) (t : Fin 128) (kv : Fin 2) (g : Fin 8) (d : Fin 64) : (val_main_v3 (F := Ideal) x0) (ix5 n t kv g d) = (A.q (br n t) (qc (hd kv g) d) : EReal) := by
  have := n.isLt; have := t.isLt; have := kv.isLt; have := g.isLt; have := d.isLt
  rw [(val_main_v3_apply x0 _), ← H.q, e2 (idx_main_v3 _) (br n t) (qc (hd kv g) d)
    (by show ((((n.val * 128 + t.val) * 2 + kv.val) * 8 + g.val) * 64 + d.val) / 1024 = 128 * n.val + t.val; omega)
    (by show ((((n.val * 128 + t.val) * 2 + kv.val) * 8 + g.val) * 64 + d.val) % 1024 = 64 * (8 * kv.val + g.val) + d.val; omega)]
  rfl
theorem d129 (n : Fin 32) (t : Fin 128) (kv : Fin 2) (g : Fin 8) (d : Fin 64) : (val_main_v129 (F := Ideal) x3) (ix5 n t kv g d) = (A.d (br n t) (qc (hd kv g) d) : EReal) := by
  have := n.isLt; have := t.isLt; have := kv.isLt; have := g.isLt; have := d.isLt
  rw [(val_main_v129_apply x3 _), ← H.d, e2 (idx_main_v129 _) (br n t) (qc (hd kv g) d)
    (by show ((((n.val * 128 + t.val) * 2 + kv.val) * 8 + g.val) * 64 + d.val) / 1024 = 128 * n.val + t.val; omega)
    (by show ((((n.val * 128 + t.val) * 2 + kv.val) * 8 + g.val) * 64 + d.val) % 1024 = 64 * (8 * kv.val + g.val) + d.val; omega)]
  rfl

theorem k6 (n : Fin 32) (s : Fin 128) (kv : Fin 2) (d : Fin 64) : (val_main_v6 (F := Ideal) x1) (ix4 n s kv d) = (A.kv (br n s) (kc kv d) : EReal) := by
  have := n.isLt; have := s.isLt; have := kv.isLt; have := d.isLt
  rw [(val_main_v6_apply x1 _), (val_main_v4_apply x1 _), ← H.kv, e2 (idx_main_v4 _) (br n s) (kc kv d)
    (by show (((n.val * 128 + s.val) * 2 + kv.val) * 64 + d.val) / 128 = 128 * n.val + s.val; omega)
    (by show (((n.val * 128 + s.val) * 2 + kv.val) * 64 + d.val) % 128 = 64 * kv.val + d.val; omega)]
  rfl
theorem k12 (n : Fin 32) (s : Fin 128) (kv : Fin 2) (d : Fin 64) : (val_main_v12 (F := Ideal) x1) (ix4 n s kv d) = (A.kv (br n s) (vc kv d) : EReal) := by
  have := n.isLt; have := s.isLt; have := kv.isLt; have := d.isLt
  rw [(val_main_v12_apply x1 _), (val_main_v5_apply x1 _), ← H.kv, e2 (idx_main_v5 _) (br n s) (vc kv d)
    (by show (((n.val * 128 + s.val) * 2 + kv.val) * 64 + d.val) / 128 = 128 * n.val + s.val; omega)
    (by show 128 + (((n.val * 128 + s.val) * 2 + kv.val) * 64 + d.val) % 128 = 128 + (64 * kv.val + d.val); omega)]
  rfl

theorem k9 (n : Fin 32) (s : Fin 128) (kv : Fin 2) (d : Fin 64) :
    (val_main_v9 (F := Ideal) x1) (ix4 n s kv d) = ((if n.val = 0 then 0 else A.kv (br (pb n) s) (kc kv d) : ℝ) : EReal) := by
  by_cases h : n.val = 0
  · rw [if_pos h]
    refine (concatenate_pair_apply_left 0 (val_main_v7 (F := Ideal)) (val_main_v8 (F := Ideal) x1) concatenates_S1x128x2x64_S31x128x2x64_S32x128x2x64_d0 (ix4 n s kv d) rfl (ix4 0 s kv d) (fun b => ?_)).trans (z7 _)
    match b with
    | ⟨0, _⟩ => exact h.symm
    | ⟨1, _⟩ => rfl
    | ⟨2, _⟩ => rfl
    | ⟨3, _⟩ => rfl
  · rw [if_neg h]
    have := n.isLt
    refine (concatenate_pair_apply_right 0 (val_main_v7 (F := Ideal)) (val_main_v8 (F := Ideal) x1) concatenates_S1x128x2x64_S31x128x2x64_S32x128x2x64_d0 (ix4 n s kv d) rfl rfl
      (ix4 ⟨n.val - 1, by omega⟩ s kv d) (fun b hb => ?_) (by show n.val - 1 + 1 = n.val; omega)).trans ?_
    · match b with
      | ⟨0, _⟩ => exact absurd rfl hb
      | ⟨1, _⟩ => rfl
      | ⟨2, _⟩ => rfl
      | ⟨3, _⟩ => rfl
    · rw [(val_main_v8_apply x1 _), e4 (idx_main_v8 _) (pb n) s kv d rfl rfl rfl rfl]
      exact k6 H _ _ _ _

theorem k15 (n : Fin 32) (s : Fin 128) (kv : Fin 2) (d : Fin 64) :
    (val_main_v15 (F := Ideal) x1) (ix4 n s kv d) = ((if n.val = 0 then 0 else A.kv (br (pb n) s) (vc kv d) : ℝ) : EReal) := by
  by_cases h : n.val = 0
  · rw [if_pos h]
    refine (concatenate_pair_apply_left 0 (val_main_v13 (F := Ideal)) (val_main_v14 (F := Ideal) x1) concatenates_S1x128x2x64_S31x128x2x64_S32x128x2x64_d0 (ix4 n s kv d) rfl (ix4 0 s kv d) (fun b => ?_)).trans (z13 _)
    match b with
    | ⟨0, _⟩ => exact h.symm
    | ⟨1, _⟩ => rfl
    | ⟨2, _⟩ => rfl
    | ⟨3, _⟩ => rfl
  · rw [if_neg h]
    have := n.isLt
    refine (concatenate_pair_apply_right 0 (val_main_v13 (F := Ideal)) (val_main_v14 (F := Ideal) x1) concatenates_S1x128x2x64_S31x128x2x64_S32x128x2x64_d0 (ix4 n s kv d) rfl rfl
      (ix4 ⟨n.val - 1, by omega⟩ s kv d) (fun b hb => ?_) (by show n.val - 1 + 1 = n.val; omega)).trans ?_
    · match b with
      | ⟨0, _⟩ => exact absurd rfl hb
      | ⟨1, _⟩ => rfl
      | ⟨2, _⟩ => rfl
      | ⟨3, _⟩ => rfl
    · rw [(val_main_v14_apply x1 _), e4 (idx_main_v14 _) (pb n) s kv d rfl rfl rfl rfl]
      exact k12 H _ _ _ _

theorem k11 (n : Fin 32) (i : Fin 256) (kv : Fin 2) (d : Fin 64) : (val_main_v11 (F := Ideal) x1) (ix4 n i kv d) = (kb A n i (kc kv d) : EReal) := by
  have := i.isLt
  unfold kb kr
  by_cases h : i.val < 128
  · refine (concatenate_pair_apply_left 1 (val_main_v9 (F := Ideal) x1) (val_main_v6 (F := Ideal) x1) concatenates_S32x128x2x64_S32x128x2x64_S32x256x2x64_d1 (ix4 n i kv d) rfl (ix4 n ⟨i.val, h⟩ kv d) (fun b => ?_)).trans ?_
    · match b with
      | ⟨0, _⟩ => rfl
      | ⟨1, _⟩ => rfl
      | ⟨2, _⟩ => rfl
      | ⟨3, _⟩ => rfl
    · rw [k9 H, dif_pos h]
      by_cases h' : n.val = 0
      · rw [if_pos h', if_pos ⟨h', h⟩]
      · rw [if_neg h', if_neg fun e => h' e.1]
  · refine (concatenate_pair_apply_right 1 (val_main_v9 (F := Ideal) x1) (val_main_v6 (F := Ideal) x1) concatenates_S32x128x2x64_S32x128x2x64_S32x256x2x64_d1 (ix4 n i kv d) rfl rfl
      (ix4 n ⟨i.val - 128, by omega⟩ kv d) (fun b hb => ?_) (by show i.val - 128 + 128 = i.val; omega)).trans ?_
    · match b with
      | ⟨0, _⟩ => rfl
      | ⟨1, _⟩ => exact absurd rfl hb
      | ⟨2, _⟩ => rfl
      | ⟨3, _⟩ => rfl
    · rw [k6 H, if_neg fun e => h e.2, dif_neg h]

theorem k17 (n : Fin 32) (i : Fin 256) (kv : Fin 2) (d : Fin 64) : (val_main_v17 (F := Ideal) x1) (ix4 n i kv d) = (kb A n i (vc kv d) : EReal) := by
  have := i.isLt
  unfold kb kr
  by_cases h : i.val < 128
  · refine (concatenate_pair_apply_left 1 (val_main_v15 (F := Ideal) x1) (val_main_v12 (F := Ideal) x1) concatenates_S32x128x2x64_S32x128x2x64_S32x256x2x64_d1 (ix4 n i kv d) rfl (ix4 n ⟨i.val, h⟩ kv d) (fun b => ?_)).trans ?_
    · match b with
      | ⟨0, _⟩ => rfl
      | ⟨1, _⟩ => rfl
      | ⟨2, _⟩ => rfl
      | ⟨3, _⟩ => rfl
    · rw [k15 H, dif_pos h]
      by_cases h' : n.val = 0
      · rw [if_pos h', if_pos ⟨h', h⟩]
      · rw [if_neg h', if_neg fun e => h' e.1]
  · refine (concatenate_pair_apply_right 1 (val_main_v15 (F := Ideal) x1) (val_main_v12 (F := Ideal) x1) concatenates_S32x128x2x64_S32x128x2x64_S32x256x2x64_d1 (ix4 n i kv d) rfl rfl
      (ix4 n ⟨i.val - 128, by omega⟩ kv d) (fun b hb => ?_) (by show i.val - 128 + 128 = i.val; omega)).trans ?_
    · match b with
      | ⟨0, _⟩ => rfl
      | ⟨1, _⟩ => exact absurd rfl hb
      | ⟨2, _⟩ => rfl
      | ⟨3, _⟩ => rfl
    · rw [k12 H, if_neg fun e => h e.2, dif_neg h]

/-! ## The distances and the mask -/

omit H

theorem w30 (t : Fin 128) (i : Fin 256) : (val_main_v30 (F := Ideal)) (ix2 t i) = BitVec.ofNat 32 (t.val) + 128#32 - BitVec.ofNat 32 i.val := by
  rw [(val_main_v30_apply _), (val_main_v28_apply _), (val_main_v29_apply _), (val_main_v25_apply _), (val_main_v23_apply _), (val_main_v24_apply _), (val_main_v27_apply _), (val_main_v22_apply _), (val_main_v26_apply _), (val_main_c_apply _)]; rfl
theorem w30_toInt (t : Fin 128) (i : Fin 256) : (BitVec.ofNat 32 (t.val) + 128#32 - BitVec.ofNat 32 i.val).toInt = 128 + (t.val : ℤ) - i.val := by
  have := t.isLt; have := i.isLt
  have h : BitVec.ofNat 32 t.val + 128#32 = BitVec.ofNat 32 (t.val + 128) := by
    apply BitVec.eq_of_toNat_eq; simp
  rw [h, BitVec.toInt_sub, WordCmp.toInt_ofNat_of_lt (by omega), WordCmp.toInt_ofNat_of_lt (by omega), Int.bmod_eq_of_le (by omega) (by omega)]
  omega
theorem f73 (t : Fin 128) (i : Fin 256) : (val_main_v73 (F := Ideal)) (ix2 t i) = (KernelIdeal.Attn.dist t i : EReal) := by
  rw [(val_main_v73_apply _), w30]
  show ((((BitVec.ofNat 32 (t.val) + 128#32 - BitVec.ofNat 32 i.val).toInt : ℤ) : ℝ) : EReal) = _
  rw [w30_toInt]; unfold KernelIdeal.Attn.dist; push_cast; rfl

theorem v46 (t : Fin 128) (i : Fin 256) : (val_main_v46 (F := Ideal)) (ix2 t i) = BitVec.ofBool (decide (i.val ≤ 128 + t.val ∧ t.val < i.val)) := by
  have := t.isLt; have := i.isLt
  rw [(val_main_v46_apply _), (val_main_v43_apply _), (val_main_v45_apply _), (val_main_v42_apply _), (val_main_v44_apply _), w30, (val_main_c_6_apply _), (val_main_c_7_apply _)]
  show BitVec.ofBool (BitVec.sle 0#32 _) &&& BitVec.ofBool (BitVec.slt _ 128#32) = _
  rw [BitVec.sle_eq_decide, BitVec.slt_eq_decide, w30_toInt]
  have a : (0#32 : BitVec 32).toInt = 0 := rfl
  have b : (128#32 : BitVec 32).toInt = 128 := rfl
  rw [a, b]
  by_cases h1 : i.val ≤ 128 + t.val <;> by_cases h2 : t.val < i.val
  · rw [decide_eq_true (show (0 : ℤ) ≤ 128 + (t.val : ℤ) - i.val by omega), decide_eq_true (show 128 + (t.val : ℤ) - i.val < 128 by omega), decide_eq_true ⟨h1, h2⟩]; rfl
  · rw [decide_eq_false (show ¬ 128 + (t.val : ℤ) - i.val < 128 by omega), decide_eq_false (fun h => h2 h.2 : ¬ (i.val ≤ 128 + t.val ∧ t.val < i.val))]; rw [decide_eq_true (show (0 : ℤ) ≤ 128 + (t.val : ℤ) - i.val by omega)]; rfl
  · rw [decide_eq_false (show ¬ (0 : ℤ) ≤ 128 + (t.val : ℤ) - i.val by omega), decide_eq_false (fun h => h1 h.1 : ¬ (i.val ≤ 128 + t.val ∧ t.val < i.val))]; rw [decide_eq_true (show 128 + (t.val : ℤ) - i.val < 128 by omega)]; rfl
  · rw [decide_eq_false (show ¬ (0 : ℤ) ≤ 128 + (t.val : ℤ) - i.val by omega), decide_eq_false (fun h => h1 h.1 : ¬ (i.val ≤ 128 + t.val ∧ t.val < i.val))]; rw [decide_eq_false (show ¬ 128 + (t.val : ℤ) - i.val < 128 by omega)]; rfl

theorem v49 (n : Fin 32) (i : Fin 256) : (val_main_v49 (F := Ideal)) (ix2 n i) = BitVec.ofBool (decide (128 ≤ 128 * n.val + i.val)) := by
  have := n.isLt; have := i.isLt
  rw [(val_main_v49_apply _), (val_main_v41_apply _), (val_main_v48_apply _), (val_main_v39_apply _), (val_main_v40_apply _), (val_main_v37_apply _), (val_main_v38_apply _), (val_main_v34_apply _), (val_main_v36_apply _), (val_main_v33_apply _), (val_main_v35_apply _), (val_main_v31_apply _), (val_main_v32_apply _), (val_main_c_4_apply _), (val_main_c_5_apply _), (val_main_c_8_apply _)]
  show BitVec.ofBool (BitVec.sle 0#32 (BitVec.ofNat 32 n.val * 128#32 + BitVec.ofNat 32 i.val - 128#32)) = _
  have h : BitVec.ofNat 32 n.val * 128#32 + BitVec.ofNat 32 i.val = BitVec.ofNat 32 (128 * n.val + i.val) := by
    apply BitVec.eq_of_toNat_eq
    simp only [BitVec.toNat_add, BitVec.toNat_mul, BitVec.toNat_ofNat]
    omega
  have a : (0#32 : BitVec 32).toInt = 0 := rfl
  have b : (128#32 : BitVec 32).toInt = 128 := rfl
  rw [h, BitVec.sle_eq_decide, BitVec.toInt_sub, a, b, WordCmp.toInt_ofNat_of_lt (by omega), Int.bmod_eq_of_le (by omega) (by omega)]
  exact congrArg BitVec.ofBool (decide_eq_decide.mpr (by omega))

theorem v81 (n : Fin 32) (t : Fin 128) (i : Fin 256) : (val_main_v81 (F := Ideal)) (ix5 n 0 0 t i) = BitVec.ofBool (vb (decide (n.val = 0)) t i) := by
  have := n.isLt; have := i.isLt
  rw [(val_main_v81_apply _), (val_main_v53_apply _), (val_main_v51_apply _), (val_main_v52_apply _), (val_main_v47_apply _), (val_main_v50_apply _), e2 (idx_main_v47 _) t i rfl rfl, e2 (idx_main_v50 _) n i rfl rfl, v46, v49]
  unfold vb
  have e : decide (128 ≤ 128 * n.val + i.val) = (!decide (n.val = 0) || decide (128 ≤ i.val)) := by
    by_cases h : n.val = 0
    · rw [decide_eq_true h]; exact decide_eq_decide.mpr (by omega)
    · rw [decide_eq_false h]; exact decide_eq_true (by omega)
  rw [e]
  cases decide (i.val ≤ 128 + t.val ∧ t.val < i.val) <;> cases (!decide (n.val = 0) || decide (128 ≤ i.val)) <;> rfl

/-! ## The slopes and the scores -/

theorem s70 (h : Fin 16) : (val_main_v70 (F := Ideal)) (ix1 h) = (slope h : EReal) := by
  rw [← (slope_spec h).2]
  exact concatenate_ofFn_apply (t := S16) (s₁ := S1) 0 (fun k : Fin 16 => (fun _ => Ideal.ofBits .f32 (slopeW k) : S1.Idx → EReal)) concatenates_S1_S1_S1_S1_S1_S1_S1_S1_S1_S1_S1_S1_S1_S1_S1_S1_S16_d0 rfl 1 rfl (ix1 h) h
    (Nat.div_one _) (ix1 0) (by show 0 = h.val % 1; omega) (fun b hb => absurd (Subsingleton.elim _ _) hb)

theorem s79 (n : Fin 32) (kv : Fin 2) (g : Fin 8) (t : Fin 128) (i : Fin 256) :
    (val_main_v79 (F := Ideal)) (ix5 n kv g t i) = ((slope (hd kv g) * KernelIdeal.Attn.dist t i : ℝ) : EReal) := by
  have := kv.isLt; have := g.isLt
  rw [(val_main_v79_apply _), (val_main_v78_apply _), (val_main_v77_apply _), (val_main_v75_apply _), (val_main_v76_apply _), (val_main_v72_apply _), (val_main_v74_apply _), (val_main_v71_apply _), e1 (idx_main_v71 _) (hd kv g) (by show kv.val * 8 + g.val = 8 * kv.val + g.val; omega),
    e2 (idx_main_v74 _) t i rfl rfl, s70, f73, EReal.coe_mul]
  rfl

theorem bot32 : (FloatOps.ofBits .f32 0xFF800000#32 : Ideal .f32) = (⊥ : EReal) := Cert.KernelIdeal.Attn.bot_f32
theorem eighth32 : (FloatOps.ofBits .f32 0x3E000000#32 : Ideal .f32) = ((1 / 8 : ℝ) : EReal) := Cert.KernelIdeal.Attn.eighth_f32

include H

theorem s21 (n : Fin 32) (kv : Fin 2) (g : Fin 8) (t : Fin 128) (i : Fin 256) :
    (val_main_v21 (F := Ideal) x0 x1) (ix5 n kv g t i) = (((∑ d, kb A n i (kc kv d) * A.q (br n t) (qc (hd kv g) d)) * (1 / 8) : ℝ) : EReal) := by
  rw [(val_main_v21_apply x0 x1 _), (val_main_v19_apply x0 x1 _), (val_main_v20_apply _), (val_main_v18_apply x0 x1 _), (val_main_cst_3_apply _), eighth32, EReal.coe_mul, SoftRow.coe_sum]
  refine congrArg (· * _) (Finset.sum_congr rfl fun d _ => ?_)
  rw [e4 (lidx_main_v18 _ d) n i kv d rfl rfl rfl rfl, e5 (ridx_main_v18 _ d) n t kv g d rfl rfl rfl rfl rfl, k11 H, q3 H, EReal.coe_mul]

/-- Stacked row `t` of head `g`. -/
def rr (g : Fin 8) (t : Fin 128) : Fin 1024 := ⟨128 * g.val + t.val, by have := g.isLt; have := t.isLt; omega⟩

omit H in
theorem kb_eq' {A : RA} (n : Fin 32) (t : Fin 128) (i : Fin 256) (c : Fin 256) (h : vb (decide (n.val = 0)) t i = true) : kb A n i c = A.kv (kr n i) c := by
  unfold kb
  rw [if_neg]
  rintro ⟨h0, h1⟩
  unfold vb at h
  rw [decide_eq_true h0, decide_eq_false (show ¬ 128 ≤ i.val by omega)] at h
  simp at h

/-- The scores of row `t` of head `g` are the kernel's. -/
theorem x82 (n : Fin 32) (kv : Fin 2) (g : Fin 8) (t : Fin 128) (i : Fin 256) :
    (val_main_v82_0 (F := Ideal) x0 x1) (ix5 n kv g t i) = ((A.point n).toHR kv).x (rr g t) i := by
  have hr : Cert.KernelIdeal.Attn.row (rr g t) = t := Fin.ext (by have := t.isLt; show (128 * g.val + t.val) % 128 = t.val; omega)
  have hg : Cert.KernelIdeal.Attn.gr (rr g t) = g := Fin.ext (by have := t.isLt; show (128 * g.val + t.val) / 128 = g.val; omega)
  rw [(val_main_v82_0_apply x0 x1 _), (val_main_v82_1_apply _), e5 (idx_main_v82_1 _) n 0 0 t i rfl rfl rfl rfl rfl, v81, (val_main_call0_v2_apply _), (val_main_call0_v0_apply _), (val_main_cst_25_apply _), bot32, (val_main_v80_apply x0 x1 _), s21 H, s79]
  show _ = ((_ : ℝ) : EReal) + (if vb (decide (n.val = 0)) (Cert.KernelIdeal.Attn.row (rr g t)) i then ((slope (hd kv (Cert.KernelIdeal.Attn.gr (rr g t))) * -KernelIdeal.Attn.dist (Cert.KernelIdeal.Attn.row (rr g t)) i : ℝ) : EReal) else ⊥)
  rw [hr, hg]
  cases h : vb (decide (n.val = 0)) t i with
  | false => exact (EReal.add_bot _).symm
  | true =>
    show (((∑ d, kb A n i (kc kv d) * A.q (br n t) (qc (hd kv g) d)) * (1 / 8) : ℝ) : EReal) - ((slope (hd kv g) * KernelIdeal.Attn.dist t i : ℝ) : EReal) = _ + ((slope (hd kv g) * -KernelIdeal.Attn.dist t i : ℝ) : EReal)
    rw [← EReal.coe_sub, ← EReal.coe_add, EReal.coe_eq_coe_iff, mul_neg, ← sub_eq_add_neg, Finset.sum_mul]
    refine congrArg (· - _) (Finset.sum_congr rfl fun d _ => ?_)
    rw [kb_eq' n t i _ h]
    show _ = A.q (br n (Cert.KernelIdeal.Attn.row (rr g t))) (qc (hd kv (Cert.KernelIdeal.Attn.gr (rr g t))) d) * (1 / 8) * A.kv (kr n i) _
    rw [hr, hg]
    show A.kv (kr n i) (kc kv d) * _ * _ = _ * _ * A.kv (kr n i) (kc kv d)
    ring
end Band

end Cert.ReferenceIdeal.Attn
-- ==== Proof.RefRow.lean ====
module

public import proofs.«01_k».proof.Proof.RefBand

@[expose] public section

set_option maxRecDepth 16384

noncomputable section

/-! # The reference's softmax with a sink, row by row, and the gradient of its scores -/

namespace Cert.ReferenceIdeal.Attn

open Cert.ReferenceIdeal Cert.ReferenceIdeal.Gen Cert.ReferenceIdeal.Read
open Idealize.ShloMosaic Idealize.ShloMosaic.ValueIdx
open Cert.KernelIdeal.Attn (RA HR br pb kr vb slope hd qc)

/-- The scores of row `t` of head `g`. -/
def X (A : RA) (n : Fin 32) (kv : Fin 2) (g : Fin 8) (t : Fin 128) : Fin 256 → EReal := ((A.point n).toHR kv).x (rr g t)
/-- The gradients of its probabilities. -/
def G (A : RA) (n : Fin 32) (kv : Fin 2) (g : Fin 8) (t : Fin 128) (i : Fin 256) : ℝ := ∑ d, A.d (br n t) (qc (hd kv g) d) * kb A n i (vc kv d)

theorem X_ne (A : RA) (n : Fin 32) (kv : Fin 2) (g : Fin 8) (t : Fin 128) (i : Fin 256) : X A n kv g t i ≠ ⊤ := ((A.point n).toHR kv).hx (rr g t) i

theorem row_rr (g : Fin 8) (t : Fin 128) : Cert.KernelIdeal.Attn.row (rr g t) = t :=
  Fin.ext (by have := t.isLt; show (128 * g.val + t.val) % 128 = t.val; omega)
theorem gr_rr (g : Fin 8) (t : Fin 128) : Cert.KernelIdeal.Attn.gr (rr g t) = g :=
  Fin.ext (by have := t.isLt; show (128 * g.val + t.val) / 128 = g.val; omega)

/-- The bias of a masked score is minus infinity, so is the score. -/
theorem X_masked (A : RA) (n : Fin 32) (kv : Fin 2) (g : Fin 8) (t : Fin 128) (i : Fin 256) (h : vb (decide (n.val = 0)) t i = false) :
    X A n kv g t i = ⊥ := by
  show ((_ : ℝ) : EReal) + (if vb (decide (n.val = 0)) (Cert.KernelIdeal.Attn.row (rr g t)) i then _ else ⊥) = ⊥
  rw [row_rr, h]; exact EReal.add_bot _

theorem G_or (A : RA) (n : Fin 32) (kv : Fin 2) (g : Fin 8) (t : Fin 128) (i : Fin 256) :
    X A n kv g t i = ⊥ ∨ G A n kv g t i = ((A.point n).toHR kv).dp (rr g t) i := by
  cases h : vb (decide (n.val = 0)) t i with
  | false => exact .inl (X_masked A n kv g t i h)
  | true =>
    refine .inr (Finset.sum_congr rfl fun d _ => ?_)
    show _ = A.d (br n (Cert.KernelIdeal.Attn.row (rr g t))) (qc (hd kv (Cert.KernelIdeal.Attn.gr (rr g t))) d) * A.kv (kr n i) _
    rw [row_rr, gr_rr, kb_eq' n t i _ h]
    rfl

theorem z_rr (A : RA) (n : Fin 32) (kv : Fin 2) (g : Fin 8) (t : Fin 128) : ((A.point n).toHR kv).z (rr g t) = A.z (hd kv g) := by
  show A.z (hd kv (Cert.KernelIdeal.Attn.gr (rr g t))) = _
  rw [gr_rr]

/-- The gradients of the scores are the kernel's: the probabilities' gradients differ only where the probability is zero. -/
theorem ds_rr (A : RA) (n : Fin 32) (kv : Fin 2) (g : Fin 8) (t : Fin 128) :
    SoftRow.ds (X A n kv g t) (A.z (hd kv g)) (G A n kv g t) = ((A.point n).toHR kv).ds (rr g t) := by
  rw [SoftRow.ds_congr _ _ _ _ (G_or A n kv g t), ← z_rr A n kv g t]; rfl
theorem st_rr (A : RA) (n : Fin 32) (kv : Fin 2) (g : Fin 8) (t : Fin 128) :
    SoftRow.st (X A n kv g t) (A.z (hd kv g)) (G A n kv g t) = ((A.point n).toHR kv).st (rr g t) := by
  rw [SoftRow.st_congr _ _ _ _ (G_or A n kv g t), ← z_rr A n kv g t]; rfl
theorem p_rr (A : RA) (n : Fin 32) (kv : Fin 2) (g : Fin 8) (t : Fin 128) :
    SoftRow.p (X A n kv g t) (A.z (hd kv g)) = ((A.point n).toHR kv).p (rr g t) := by
  rw [← z_rr A n kv g t]; rfl

/-- The fold of the maximum is reached. -/
theorem top_mem (x : Fin 256 → EReal) : ∃ i, x i = SoftRow.top x := by
  obtain ⟨i, _, hi⟩ := Finset.exists_max_image Finset.univ x ⟨0, Finset.mem_univ _⟩
  refine ⟨i, le_antisymm ?_ ?_⟩
  · exact (Finset.le_fold_max _).mpr (.inr ⟨i, Finset.mem_univ _, le_rfl⟩)
  · exact (Finset.fold_max_le _).mpr ⟨bot_le, hi⟩

theorem div_real (a b : ℝ) (h : b ≠ 0) : Ideal.div (a : EReal) (b : EReal) = ((a / b : ℝ) : EReal) := by
  rw [Ideal.div_coe h, ← EReal.coe_mul, mul_one_div]

theorem zero32 : (FloatOps.ofBits .f32 0x00000000#32 : Ideal .f32) = (0 : EReal) := Ideal.ofBits_zero_f32
theorem one32 : (FloatOps.ofBits .f32 0x3F800000#32 : Ideal .f32) = ((1 : ℝ) : EReal) := Ideal.ofBits_one_f32

section Rows
variable {x0 : (⟨S4096x1024, .bf16⟩ : BufTy).Contents (Elt Ideal)} {x1 : (⟨S4096x256, .bf16⟩ : BufTy).Contents (Elt Ideal)}
  {x2 : (⟨S16, .f32⟩ : BufTy).Contents (Elt Ideal)} {x3 : (⟨S4096x1024, .bf16⟩ : BufTy).Contents (Elt Ideal)} {A : RA}
variable (H : In x0 x1 x2 x3 A) (n : Fin 32) (kv : Fin 2) (g : Fin 8) (t : Fin 128)
include H

theorem r84 : (val_main_v84 (F := Ideal) x2) (ix5 0 kv g 0 0) = (A.z (hd kv g) : EReal) := by
  rw [(val_main_v84_apply x2 _), (val_main_v83_apply x2 _), e1 (idx_main_v83 _) (hd kv g) (by show kv.val * 8 + g.val = 8 * kv.val + g.val; omega), H.z]
theorem r92 : (val_main_v92 (F := Ideal) x2) (ix5 n kv g t 0) = (A.z (hd kv g) : EReal) := by
  rw [(val_main_v92_apply x2 _), e5 (idx_main_v92 (ix5 n kv g t 0)) 0 kv g 0 0 rfl rfl rfl rfl rfl, r84 H]
theorem r117 : (val_main_v117 (F := Ideal) x2) (ix5 n kv g t 0) = (A.z (hd kv g) : EReal) := by
  rw [(val_main_v117_apply x2 _), e5 (idx_main_v117 (ix5 n kv g t 0)) 0 kv g 0 0 rfl rfl rfl rfl rfl, r84 H]

theorem r82 (i : Fin 256) : (val_main_v82_0 (F := Ideal) x0 x1) (ix5 n kv g t i) = X A n kv g t i := x82 H n kv g t i

theorem r85 : (val_main_v85 (F := Ideal) x0 x1) (ix4 n kv g t) = SoftRow.top (X A n kv g t) := by
  have h' : S32x2x8x128x256.Reduces [4] S32x2x8x128 := by decide
  unfold val_main_v85 val_main_cst_26
  rw [hostReduce_maximumf_eq_multiReduction _ 0xFF800000#32 reducesTo_S32x2x8x128x256_S32x2x8x128_d4 h_S_ h' (.inl rfl) rfl]
  refine (Ideal.multiReduction_maximumf_single (val_main_v82_0 (F := Ideal) x0 x1) _ h' (.inl rfl) rfl (ix4 n kv g t)).trans ?_
  refine (congrArg (Finset.fold max · ((val_main_v82_0 (F := Ideal) x0 x1) ∘ h'.lift (ix4 n kv g t)) Finset.univ) (show _ = (⊥ : EReal) from bot32)).trans ?_
  refine congrArg (Finset.fold max ⊥ · Finset.univ) (funext fun (k : Fin 256) => ?_)
  exact (congrArg (val_main_v82_0 (F := Ideal) x0 x1) (e5 (h'.lift (ix4 n kv g t) k) n kv g t k rfl rfl rfl rfl rfl)).trans (r82 H n kv g t k)

theorem r91 : (val_main_v91 (F := Ideal) x0 x1) (ix5 n kv g t 0) = SoftRow.top (X A n kv g t) := by
  rw [(val_main_v91_apply x0 x1 _), e4 (idx_main_v91 (ix5 n kv g t 0)) n kv g t rfl rfl rfl rfl, r85 H]
theorem r93 : (val_main_v93 (F := Ideal) x0 x1 x2) (ix5 n kv g t 0) = SoftRow.mx (X A n kv g t) (A.z (hd kv g)) := by
  rw [(val_main_v93_apply x0 x1 x2 _), r91 H, r92 H]; rfl

theorem r114 (i : Fin 256) : (val_main_v114 (F := Ideal) x0 x1 x2) (ix5 n kv g t i) = (SoftRow.e (X A n kv g t) (A.z (hd kv g)) i : EReal) := by
  rw [(val_main_v114_apply x0 x1 x2 _), (val_main_v113_apply x0 x1 x2 _), (val_main_v112_apply x0 x1 x2 _), e5 (idx_main_v112 (ix5 n kv g t i)) n kv g t 0 rfl rfl rfl rfl rfl, r93 H, r82 H]
  exact (SoftRow.exp_eq _ _ (X_ne A n kv g t) i).1
theorem r115 : (val_main_v115 (F := Ideal) x0 x1 x2) (ix4 n kv g t) = ((∑ i, SoftRow.e (X A n kv g t) (A.z (hd kv g)) i : ℝ) : EReal) := by
  rw [(val_main_v115_apply x0 x1 x2 _), (val_main_cst_34_apply _), zero32, SoftRow.coe_sum, zero_add]
  refine Finset.sum_congr rfl fun i _ => ?_
  rw [e5 (idx_main_v115 (ix4 n kv g t) i) n kv g t i rfl rfl rfl rfl rfl, r114 H]
theorem r119 : (val_main_v119 (F := Ideal) x0 x1 x2) (ix5 n kv g t 0) = (SoftRow.es (X A n kv g t) (A.z (hd kv g)) : EReal) := by
  rw [(val_main_v119_apply x0 x1 x2 _), (val_main_v118_apply x0 x1 x2 _), r117 H, r93 H]
  exact SoftRow.exp_sink _ _ (X_ne A n kv g t)
theorem r120 : (val_main_v120 (F := Ideal) x0 x1 x2) (ix5 n kv g t 0) = (SoftRow.D (X A n kv g t) (A.z (hd kv g)) : EReal) := by
  rw [(val_main_v120_apply x0 x1 x2 _), (val_main_v116_apply x0 x1 x2 _), e4 (idx_main_v116 (ix5 n kv g t 0)) n kv g t rfl rfl rfl rfl, r115 H, r119 H]
  exact (EReal.coe_add _ _).symm
theorem r122 (i : Fin 256) : (val_main_v122 (F := Ideal) x0 x1 x2) (ix5 n kv g t i) = (SoftRow.p (X A n kv g t) (A.z (hd kv g)) i : EReal) := by
  rw [(val_main_v122_apply x0 x1 x2 _), (val_main_v121_apply x0 x1 x2 _), e5 (idx_main_v121 (ix5 n kv g t i)) n kv g t 0 rfl rfl rfl rfl rfl, r114 H, r120 H]
  exact div_real _ _ (SoftRow.D_ne _ _ (X_ne A n kv g t))
theorem r125 : (val_main_v125 (F := Ideal) x0 x1 x2) (ix5 n kv g t 0) = ((1 / (SoftRow.D (X A n kv g t) (A.z (hd kv g)) * SoftRow.D (X A n kv g t) (A.z (hd kv g))) : ℝ) : EReal) := by
  have h := SoftRow.D_ne _ (A.z (hd kv g)) (X_ne A n kv g t)
  rw [(val_main_v125_apply x0 x1 x2 _), (val_main_v124_apply _), (val_main_cst_35_apply _), one32, (val_main_v123_apply x0 x1 x2 _), r120 H, ← div_real _ _ (mul_ne_zero h h), EReal.coe_mul]
  rfl

/-! ## The gradients of the probabilities -/

theorem r130 (d : Fin 64) : (val_main_v130 (F := Ideal) x3) (ix5 n kv d g t) = (A.d (br n t) (qc (hd kv g) d) : EReal) := by
  rw [(val_main_v130_apply x3 _), e5 (idx_main_v130 _) n t kv g d rfl rfl rfl rfl rfl, d129 H]
theorem r131 (i : Fin 256) : (val_main_v131 (F := Ideal) x1 x3) (ix5 n kv g t i) = (G A n kv g t i : EReal) := by
  unfold G
  rw [(val_main_v131_apply x1 x3 _), SoftRow.coe_sum]
  refine Finset.sum_congr rfl fun d _ => ?_
  rw [e5 (lidx_main_v131 _ d) n kv d g t rfl rfl rfl rfl rfl, e4 (ridx_main_v131 _ d) n i kv d rfl rfl rfl rfl, r130 H, k17 H, EReal.coe_mul]

theorem r139 : (val_main_v139 (F := Ideal) x0 x1 x2 x3) (ix5 n kv g t 0) = (SoftRow.dD (X A n kv g t) (A.z (hd kv g)) (G A n kv g t) : EReal) := by
  have := n.isLt; have := kv.isLt; have := g.isLt; have := t.isLt
  unfold SoftRow.dD
  rw [(val_main_v139_apply x0 x1 x2 x3 _), (val_main_v138_apply x0 x1 x2 x3 _), e4 (idx_main_v138 (ix5 n kv g t 0)) n kv g t
    (by show ((((n.val * 2 + kv.val) * 8 + g.val) * 128 + t.val) * 1 + 0) / 2048 = n.val; omega)
    (by show ((((n.val * 2 + kv.val) * 8 + g.val) * 128 + t.val) * 1 + 0) / 1024 % 2 = kv.val; omega)
    (by show ((((n.val * 2 + kv.val) * 8 + g.val) * 128 + t.val) * 1 + 0) / 128 % 8 = g.val; omega)
    (by show ((((n.val * 2 + kv.val) * 8 + g.val) * 128 + t.val) * 1 + 0) % 128 = t.val; omega), (val_main_v137_apply x0 x1 x2 x3 _), (val_main_cst_36_apply _), zero32, EReal.coe_neg, SoftRow.coe_sum, zero_add]
  refine congrArg (fun y : EReal => -y) (Finset.sum_congr rfl fun i _ => ?_)
  rw [e5 (idx_main_v137 (ix4 n kv g t) i) n kv g t i rfl rfl rfl rfl rfl, (val_main_v136_apply x0 x1 x2 x3 _), (val_main_v135_apply x0 x1 x2 x3 _), (val_main_v134_apply x0 x1 x2 _), e5 (idx_main_v134 (ix5 n kv g t i)) n kv g t 0 rfl rfl rfl rfl rfl, r131 H, r125 H, r114 H, EReal.coe_mul, EReal.coe_mul]
  rfl

theorem r142 : (val_main_v142 (F := Ideal) x0 x1 x2 x3) (ix5 n kv g t 0) = ((-SoftRow.st (X A n kv g t) (A.z (hd kv g)) (G A n kv g t) : ℝ) : EReal) := by
  rw [(val_main_v142_apply x0 x1 x2 x3 _), r139 H, r119 H, ← SoftRow.quot_st]
  exact (EReal.coe_mul _ _).symm
theorem r145 : (val_main_v145 (F := Ideal) x0 x1 x2 x3) (ix5 n kv g t 0) = (SoftRow.st (X A n kv g t) (A.z (hd kv g)) (G A n kv g t) : EReal) := by
  rw [(val_main_v145_apply x0 x1 x2 x3 _), r142 H, EReal.coe_neg]
  exact neg_neg _
theorem r146 : (val_main_v146 (F := Ideal) x0 x1 x2 x3) (ix4 n kv g t) = (SoftRow.dD (X A n kv g t) (A.z (hd kv g)) (G A n kv g t) : EReal) := by
  rw [(val_main_v146_apply x0 x1 x2 x3 _), (val_main_cst_38_apply _), zero32, zero_add, Fin.sum_univ_one, e5 (idx_main_v146 (ix4 n kv g t) 0) n kv g t 0 rfl rfl rfl rfl rfl, r139 H]
theorem r149 (i : Fin 256) : (val_main_v149 (F := Ideal) x0 x1 x2 x3) (ix5 n kv g t i) = (SoftRow.ds (X A n kv g t) (A.z (hd kv g)) (G A n kv g t) i : EReal) := by
  rw [(val_main_v149_apply x0 x1 x2 x3 _), (val_main_v148_apply x0 x1 x2 x3 _), (val_main_v147_apply x0 x1 x2 x3 _), e4 (idx_main_v147 (ix5 n kv g t i)) n kv g t rfl rfl rfl rfl, r146 H, (val_main_v141_apply x0 x1 x2 x3 _), (val_main_v140_apply x0 x1 x2 _), e5 (idx_main_v140 (ix5 n kv g t i)) n kv g t 0 rfl rfl rfl rfl rfl, r120 H, r131 H, r114 H, ← SoftRow.quot_ds, EReal.coe_mul, EReal.coe_add,
    ← div_real _ _ (SoftRow.D_ne _ _ (X_ne A n kv g t))]
  rfl
theorem r151 : (val_main_v151 (F := Ideal) x0 x1 x2 x3) (ix4 n kv g t) = ((-SoftRow.st (X A n kv g t) (A.z (hd kv g)) (G A n kv g t) : ℝ) : EReal) := by
  rw [(val_main_v151_apply x0 x1 x2 x3 _), (val_main_cst_39_apply _), zero32, zero_add, ← SoftRow.sum_ds _ _ (X_ne A n kv g t), ← Finset.sum_neg_distrib, SoftRow.coe_sum]
  refine Finset.sum_congr rfl fun i _ => ?_
  rw [e5 (idx_main_v151 (ix4 n kv g t) i) n kv g t i rfl rfl rfl rfl rfl, (val_main_v150_apply x0 x1 x2 x3 _), r149 H, EReal.coe_neg]
  rfl
/-- What the row's maximum would pass on is zero. -/
theorem r153 : (val_main_v153 (F := Ideal) x0 x1 x2 x3) (ix5 n kv g t 0) = (0 : EReal) := by
  have := n.isLt; have := kv.isLt; have := g.isLt; have := t.isLt
  rw [(val_main_v153_apply x0 x1 x2 x3 _), (val_main_v152_apply x0 x1 x2 x3 _), e4 (idx_main_v152 (ix5 n kv g t 0)) n kv g t
    (by show ((((n.val * 2 + kv.val) * 8 + g.val) * 128 + t.val) * 1 + 0) / 2048 = n.val; omega)
    (by show ((((n.val * 2 + kv.val) * 8 + g.val) * 128 + t.val) * 1 + 0) / 1024 % 2 = kv.val; omega)
    (by show ((((n.val * 2 + kv.val) * 8 + g.val) * 128 + t.val) * 1 + 0) / 128 % 8 = g.val; omega)
    (by show ((((n.val * 2 + kv.val) * 8 + g.val) * 128 + t.val) * 1 + 0) % 128 = t.val; omega), r151 H, r145 H]
  show (_ : EReal) + _ = _
  rw [← EReal.coe_add, add_neg_cancel, EReal.coe_zero]

/-! ## Nothing passes through the maximum -/

theorem r89 (i : Fin 256) : (val_main_v89 (F := Ideal) x0 x1) (ix5 n kv g t i) = ((if X A n kv g t i = SoftRow.top (X A n kv g t) then 1 else 0 : ℝ) : EReal) := by
  have := n.isLt; have := kv.isLt; have := g.isLt; have := t.isLt
  rw [(val_main_v89_apply x0 x1 _), (val_main_v88_apply x0 x1 _), (val_main_v87_apply x0 x1 _), e5 (idx_main_v87 (ix5 n kv g t i)) n kv g t 0 rfl rfl rfl rfl rfl, (val_main_v86_apply x0 x1 _), e4 (idx_main_v86 (ix5 n kv g t 0)) n kv g t
    (by show ((((n.val * 2 + kv.val) * 8 + g.val) * 128 + t.val) * 1 + 0) / 2048 = n.val; omega)
    (by show ((((n.val * 2 + kv.val) * 8 + g.val) * 128 + t.val) * 1 + 0) / 1024 % 2 = kv.val; omega)
    (by show ((((n.val * 2 + kv.val) * 8 + g.val) * 128 + t.val) * 1 + 0) / 128 % 8 = g.val; omega)
    (by show ((((n.val * 2 + kv.val) * 8 + g.val) * 128 + t.val) * 1 + 0) % 128 = t.val; omega), r85 H, r82 H]
  show ((((BitVec.ofBool (decide (X A n kv g t i = SoftRow.top (X A n kv g t)))).toNat : ℕ) : ℝ) : EReal) = _
  by_cases h : X A n kv g t i = SoftRow.top (X A n kv g t)
  · rw [decide_eq_true h, if_pos h]; exact congrArg (fun y : ℝ => (y : EReal)) Nat.cast_one
  · rw [decide_eq_false h, if_neg h]; norm_num
theorem r90 : ∃ r : ℝ, r ≠ 0 ∧ (val_main_v90 (F := Ideal) x0 x1) (ix4 n kv g t) = (r : EReal) := by
  refine ⟨∑ i, if X A n kv g t i = SoftRow.top (X A n kv g t) then 1 else 0, ?_, ?_⟩
  · obtain ⟨i, hi⟩ := top_mem (X A n kv g t)
    refine ne_of_gt (Finset.sum_pos' (fun j _ => ?_) ⟨i, Finset.mem_univ _, ?_⟩)
    · split <;> norm_num
    · rw [if_pos hi]; exact one_pos
  · rw [(val_main_v90_apply x0 x1 _), (val_main_cst_27_apply _), zero32, zero_add, SoftRow.coe_sum]
    refine Finset.sum_congr rfl fun i _ => ?_
    rw [e5 (idx_main_v90 (ix4 n kv g t) i) n kv g t i rfl rfl rfl rfl rfl, r89 H]
theorem r160 : (val_main_v160 (F := Ideal) x0 x1 x2 x3) (ix4 n kv g t) = (0 : EReal) := by
  obtain ⟨r, hr, e⟩ := r90 H n kv g t
  rw [(val_main_v160_apply x0 x1 x2 x3 _), e, (val_main_v159_apply x0 x1 x2 x3 _), (val_main_cst_41_apply _), zero32, zero_add, Fin.sum_univ_one, e5 (idx_main_v159 (ix4 n kv g t) 0) n kv g t 0 rfl rfl rfl rfl rfl, (val_main_v158_apply x0 x1 x2 x3 _), r153 H]
  show Ideal.div ((0 : EReal) * _) _ = 0
  rw [zero_mul, Ideal.div_coe hr, zero_mul]
theorem r154 : (val_main_v154 (F := Ideal) x0 x1 x2 x3) (ix5 n kv g t 0) = (0 : EReal) := by
  rw [(val_main_v154_apply x0 x1 x2 x3 _), r153 H]; exact zero_mul _

/-- The gradients of the scores, masked. -/
theorem r166 (i : Fin 256) : (val_main_v166 (F := Ideal) x0 x1 x2 x3) (ix5 n kv g t i) = (((A.point n).toHR kv).ds (rr g t) i : EReal) := by
  rw [(val_main_v166_apply x0 x1 x2 x3 _), (val_main_v163_apply x0 x1 x2 x3 _), (val_main_v162_apply x0 x1 x2 x3 _), (val_main_v161_apply x0 x1 x2 x3 _), e4 (idx_main_v161 (ix5 n kv g t i)) n kv g t rfl rfl rfl rfl, r160 H, r149 H, (val_main_v82_1_apply _), e5 (idx_main_v82_1 _) n 0 0 t i rfl rfl rfl rfl rfl, v81, (val_main_call1_v0_apply _), ← ds_rr A n kv g t]
  cases h : vb (decide (n.val = 0)) t i with
  | false =>
    rw [SoftRow.ds_bot _ _ _ _ (X_masked A n kv g t i h), EReal.coe_zero]
    exact zero32
  | true =>
    show (_ : EReal) + 0 * _ = _
    rw [zero_mul, add_zero]
theorem r168 (i : Fin 256) : (val_main_v168 (F := Ideal) x0 x1 x2 x3) (ix5 n kv g t i) = ((((A.point n).toHR kv).ds (rr g t) i * (1 / 8) : ℝ) : EReal) := by
  rw [(val_main_v168_apply x0 x1 x2 x3 _), r166 H, (val_main_v167_apply _), (val_main_cst_43_apply _), eighth32, EReal.coe_mul]
  rfl
end Rows

end Cert.ReferenceIdeal.Attn
-- ==== Proof.RefGrad.lean ====
module

public import proofs.«01_k».proof.Proof.RefRow
public import Idealize.ShloMosaic.Lib.TwoAxisContraction

@[expose] public section

set_option maxRecDepth 16384

noncomputable section

/-! # The reference's three results over the reals -/

namespace Cert.ReferenceIdeal.Attn

open Cert.ReferenceIdeal Cert.ReferenceIdeal.Gen Cert.ReferenceIdeal.Read
open Idealize.ShloMosaic Idealize.ShloMosaic.ValueIdx
open Cert.KernelIdeal.Attn (RA HR PR br pb kr vb slope hd qc col kvl hf lo' hi')

/-- The stacked rows are the heads' rows. -/
theorem sum_rr {M : Type} [AddCommMonoid M] (f : Fin 1024 → M) : ∑ r, f r = ∑ g : Fin 8, ∑ t : Fin 128, f (rr g t) := by
  rw [← Equiv.sum_comp (finProdFinEquiv (m := 8) (n := 128)) f, Fintype.sum_prod_type]
  refine Finset.sum_congr rfl fun g _ => Finset.sum_congr rfl fun t _ => congrArg f (Fin.ext ?_)
  show t.val + 128 * g.val = 128 * g.val + t.val
  exact add_comm _ _

theorem kvl_col (kv : Fin 2) (d : Fin 64) : kvl (col kv d) = kv := by revert kv d; decide
theorem hf_col (kv : Fin 2) (d : Fin 64) : hf (col kv d) = d := by revert kv d; decide

theorem dk_col (P : PR) (i : Fin 256) (kv : Fin 2) (d : Fin 64) :
    P.dk i (col kv d) = ∑ g : Fin 8, ∑ t : Fin 128, (P.toHR kv).ds (rr g t) i * (P.toHR kv).q (rr g t) d := by
  unfold PR.dk; rw [kvl_col, hf_col, sum_rr]
theorem dv_col (P : PR) (i : Fin 256) (kv : Fin 2) (d : Fin 64) :
    P.dv i (col kv d) = ∑ g : Fin 8, ∑ t : Fin 128, (P.toHR kv).p (rr g t) i * (P.toHR kv).d (rr g t) d := by
  unfold PR.dv; rw [kvl_col, hf_col, sum_rr]

theorem q_rr (A : RA) (n : Fin 32) (kv : Fin 2) (g : Fin 8) (t : Fin 128) (d : Fin 64) :
    ((A.point n).toHR kv).q (rr g t) d = A.q (br n t) (qc (hd kv g) d) * (1 / 8) := by
  show A.q (br n (Cert.KernelIdeal.Attn.row (rr g t))) (qc (hd kv (Cert.KernelIdeal.Attn.gr (rr g t))) d) * (1 / 8) = _
  rw [row_rr, gr_rr]
theorem d_rr (A : RA) (n : Fin 32) (kv : Fin 2) (g : Fin 8) (t : Fin 128) (d : Fin 64) :
    ((A.point n).toHR kv).d (rr g t) d = A.d (br n t) (qc (hd kv g) d) := by
  show A.d (br n (Cert.KernelIdeal.Attn.row (rr g t))) (qc (hd kv (Cert.KernelIdeal.Attn.gr (rr g t))) d) = _
  rw [row_rr, gr_rr]

/-- A score's gradient times the band's key is its gradient times the key read: a masked score has none. -/
theorem ds_kb (A : RA) (n : Fin 32) (kv : Fin 2) (g : Fin 8) (t : Fin 128) (i : Fin 256) (d : Fin 64) :
    ((A.point n).toHR kv).ds (rr g t) i * kb A n i (kc kv d) = ((A.point n).toHR kv).ds (rr g t) i * ((A.point n).toHR kv).K i d := by
  cases h : vb (decide (n.val = 0)) t i with
  | false =>
    rw [← ds_rr, SoftRow.ds_bot _ _ _ _ (X_masked A n kv g t i h), zero_mul, zero_mul]
  | true => rw [kb_eq' n t i _ h]; rfl

/-- A sum over the blocks and the rows. -/
theorem sum03 (f : S32x2x8x128x1.Idx → EReal) (kv : Fin 2) (g : Fin 8) :
    Ideal.hostReduceAdd reducesTo_S32x2x8x128x1_S2x8x1_d0_3 f 0 (ix3 kv g 0) = ∑ n : Fin 32, ∑ t : Fin 128, f (ix5 n kv g t 0) := by
  unfold Ideal.hostReduceAdd
  rw [zero_add, ← Fintype.sum_prod_type' (f := fun (n : Fin 32) (t : Fin 128) => f (ix5 n kv g t 0))]
  have key : ∀ i ∈ Finset.univ.filter (fun i => reducesTo_S32x2x8x128x1_S2x8x1_d0_3.drop i = ix3 kv g 0),
      i = ix5 (⟨(i 0).val, (i 0).isLt⟩ : Fin 32) kv g (⟨(i 3).val, (i 3).isLt⟩ : Fin 128) (0 : Fin 1) := fun i hi => by
    have e := (Finset.mem_filter.mp hi).2
    have a : (i 1).val = kv.val := congrArg (fun z : S2x8x1.Idx => (z 0).val) e
    have b : (i 2).val = g.val := congrArg (fun z : S2x8x1.Idx => (z 1).val) e
    have h4 : (i 4).val < 1 := (i 4).isLt
    exact e5 i _ _ _ _ _ rfl a b rfl (by show (i 4).val = 0; omega)
  refine Finset.sum_bij' (fun i _ => ((⟨(i 0).val, (i 0).isLt⟩ : Fin 32), (⟨(i 3).val, (i 3).isLt⟩ : Fin 128))) (fun p _ => ix5 p.1 kv g p.2 0)
    (fun _ _ => Finset.mem_univ _) (fun p _ => ?_) (fun i hi => (key i hi).symm) (fun _ _ => rfl) (fun i hi => congrArg f (key i hi))
  refine Finset.mem_filter.mpr ⟨Finset.mem_univ _, ?_⟩
  exact e3 _ _ _ _ rfl rfl rfl

/-- A sum over unit axes. -/
theorem sum034 (f : S1x2x8x1x1.Idx → EReal) (kv : Fin 2) (g : Fin 8) :
    Ideal.hostReduceAdd reducesTo_S1x2x8x1x1_S2x8_d0_3_4 f 0 (ix2 kv g) = f (ix5 0 kv g 0 0) := by
  unfold Ideal.hostReduceAdd
  rw [zero_add]
  refine (Finset.sum_congr (Finset.ext fun i => ?_) fun _ _ => rfl).trans (Finset.sum_singleton f (ix5 0 kv g 0 0))
  rw [Finset.mem_filter, Finset.mem_singleton]
  constructor
  · rintro ⟨_, e⟩
    have a : (i 1).val = kv.val := congrArg (fun z : S2x8.Idx => (z 0).val) e
    have b : (i 2).val = g.val := congrArg (fun z : S2x8.Idx => (z 1).val) e
    have h0 : (i 0).val < 1 := (i 0).isLt
    have h3 : (i 3).val < 1 := (i 3).isLt
    have h4 : (i 4).val < 1 := (i 4).isLt
    exact e5 i _ _ _ _ _ (by show (i 0).val = 0; omega) a b (by show (i 3).val = 0; omega) (by show (i 4).val = 0; omega)
  · rintro rfl
    exact ⟨Finset.mem_univ _, e2 _ _ _ rfl rfl⟩

section Results
variable {x0 : (⟨S4096x1024, .bf16⟩ : BufTy).Contents (Elt Ideal)} {x1 : (⟨S4096x256, .bf16⟩ : BufTy).Contents (Elt Ideal)}
  {x2 : (⟨S16, .f32⟩ : BufTy).Contents (Elt Ideal)} {x3 : (⟨S4096x1024, .bf16⟩ : BufTy).Contents (Elt Ideal)} {A : RA}
variable (H : In x0 x1 x2 x3 A)
include H

/-! ## The queries -/

theorem r169 (n : Fin 32) (kv : Fin 2) (i : Fin 256) (t : Fin 128) (g : Fin 8) :
    (val_main_v169 (F := Ideal) x0 x1 x2 x3) (ix5 n kv i t g) = ((((A.point n).toHR kv).ds (rr g t) i * (1 / 8) : ℝ) : EReal) := by
  rw [(val_main_v169_apply x0 x1 x2 x3 _), e5 (idx_main_v169 _) n kv g t i rfl rfl rfl rfl rfl, r168 H]

theorem r170 (n : Fin 32) (kv : Fin 2) (t : Fin 128) (g : Fin 8) (d : Fin 64) :
    (val_main_v170 (F := Ideal) x0 x1 x2 x3) (ix5 n kv t g d) = (((A.point n).toHR kv).dq (rr g t) d : EReal) := by
  unfold HR.dq
  rw [(val_main_v170_apply x0 x1 x2 x3 _), Finset.sum_mul, SoftRow.coe_sum]
  refine Finset.sum_congr rfl fun i _ => ?_
  rw [e5 (lidx_main_v170 _ i) n kv i t g rfl rfl rfl rfl rfl, e4 (ridx_main_v170 _ i) n i kv d rfl rfl rfl rfl, r169 H, k11 H, ← EReal.coe_mul,
    ← ds_kb, mul_right_comm]

theorem final192 (r : Fin 4096) (c : Fin 1024) : (val_main_v192 (F := Ideal) x0 x1 x2 x3) (ix2 r c) = (A.dq r c : EReal) := by
  have := r.isLt; have := c.isLt
  rw [(val_main_v192_apply x0 x1 x2 x3 _), (val_main_v189_apply x0 x1 x2 x3 _), (val_main_v171_apply x0 x1 x2 x3 _), e5 (idx_main_v171 _) (⟨r.val / 128, by omega⟩ : Fin 32) (⟨c.val / 512, by omega⟩ : Fin 2) (⟨r.val % 128, by omega⟩ : Fin 128)
    (⟨c.val / 64 % 8, by omega⟩ : Fin 8) (⟨c.val % 64, by omega⟩ : Fin 64) ?_ ?_ ?_ ?_ ?_, r170 H]
  · rfl
  · show (r.val * 1024 + c.val) / 131072 = r.val / 128; omega
  · show (r.val * 1024 + c.val) / 512 % 2 = c.val / 512; omega
  · show (r.val * 1024 + c.val) / 1024 % 128 = r.val % 128; omega
  · show (r.val * 1024 + c.val) / 64 % 8 = c.val / 64 % 8; omega
  · show (r.val * 1024 + c.val) % 64 = c.val % 64; omega

/-! ## The keys and values -/

theorem r172 (n : Fin 32) (kv : Fin 2) (i : Fin 256) (d : Fin 64) : (val_main_v172 (F := Ideal) x0 x1 x2 x3) (ix4 n kv i d) = ((A.point n).dk i (col kv d) : EReal) := by
  let D := dot_S32x2x256x128x8_S32x128x2x8x64_S32x2x256x64_34_13_2_4_01_02
  have hr : D.contr.rank = 2 := rfl
  have c0 : D.contr.size ⟨0, by rw [hr]; omega⟩ = 128 := rfl
  have c1 : D.contr.size ⟨1, by rw [hr]; omega⟩ = 8 := rfl
  rw [dk_col, Finset.sum_comm, SoftRow.coe_sum]
  refine (Ideal.dotGeneral_apply D none _ (val_main_v169 (F := Ideal) x0 x1 x2 x3) (val_main_v3 (F := Ideal) x0) (ix4 n kv i d)).trans ?_
  rw [sum_contr2 D 128 8 hr c0 c1]
  refine Finset.sum_congr rfl fun t _ => ?_
  rw [SoftRow.coe_sum]
  refine Finset.sum_congr rfl fun g _ => ?_
  have h0 := contrEquiv2_symm_val0 D 128 8 hr c0 c1 (t, g)
  have h1 := contrEquiv2_symm_val1 D 128 8 hr c0 c1 (t, g)
  rw [e5 (D.lhsIdx (ix4 n kv i d) ((contrEquiv2 D 128 8 hr c0 c1).symm (t, g))) n kv i t g rfl rfl rfl h0 h1, e5 (D.rhsIdx (ix4 n kv i d) ((contrEquiv2 D 128 8 hr c0 c1).symm (t, g))) n t kv g d rfl h0 rfl h1 rfl, r169 H, q3 H, q_rr,
    ← EReal.coe_mul, mul_assoc, mul_comm (1 / 8 : ℝ)]

theorem r132 (n : Fin 32) (kv : Fin 2) (d : Fin 64) (i : Fin 256) : (val_main_v132 (F := Ideal) x0 x1 x2 x3) (ix4 n kv d i) = ((A.point n).dv i (col kv d) : EReal) := by
  let D := dot_S32x2x64x8x128_S32x2x8x128x256_S32x2x64x256_34_23_2_4_01_01
  have hr : D.contr.rank = 2 := rfl
  have c0 : D.contr.size ⟨0, by rw [hr]; omega⟩ = 8 := rfl
  have c1 : D.contr.size ⟨1, by rw [hr]; omega⟩ = 128 := rfl
  rw [dv_col, SoftRow.coe_sum]
  refine (Ideal.dotGeneral_apply D none _ (val_main_v130 (F := Ideal) x3) (val_main_v122 (F := Ideal) x0 x1 x2) (ix4 n kv d i)).trans ?_
  rw [sum_contr2 D 8 128 hr c0 c1]
  refine Finset.sum_congr rfl fun g _ => ?_
  rw [SoftRow.coe_sum]
  refine Finset.sum_congr rfl fun t _ => ?_
  have h0 := contrEquiv2_symm_val0 D 8 128 hr c0 c1 (g, t)
  have h1 := contrEquiv2_symm_val1 D 8 128 hr c0 c1 (g, t)
  rw [e5 (D.lhsIdx (ix4 n kv d i) ((contrEquiv2 D 8 128 hr c0 c1).symm (g, t))) n kv d g t rfl rfl rfl h0 h1, e5 (D.rhsIdx (ix4 n kv d i) ((contrEquiv2 D 8 128 hr c0 c1).symm (g, t))) n kv g t i rfl rfl h0 h1 rfl, r130 H, r122 H, d_rr,
    ← EReal.coe_mul, mul_comm, p_rr]

theorem r173 (n : Fin 32) (i : Fin 256) (kv : Fin 2) (d : Fin 64) : (val_main_v173 (F := Ideal) x0 x1 x2 x3) (ix4 n i kv d) = ((A.point n).dk i (col kv d) : EReal) := by
  rw [(val_main_v173_apply x0 x1 x2 x3 _), e4 (idx_main_v173 _) n kv i d rfl rfl rfl rfl, r172 H]
theorem r133 (n : Fin 32) (i : Fin 256) (kv : Fin 2) (d : Fin 64) : (val_main_v133 (F := Ideal) x0 x1 x2 x3) (ix4 n i kv d) = ((A.point n).dv i (col kv d) : EReal) := by
  rw [(val_main_v133_apply x0 x1 x2 x3 _), e4 (idx_main_v133 _) n kv d i rfl rfl rfl rfl, r132 H]

theorem r185 (n : Fin 32) (s : Fin 128) (kv : Fin 2) (d : Fin 64) :
    (val_main_v185 (F := Ideal) x0 x1 x2 x3) (ix4 n s kv d) = ((if h : n.val + 1 < 32 then (A.point ⟨n.val + 1, h⟩).dk (lo' s) (col kv d) else 0 : ℝ) : EReal) := by
  have := n.isLt
  by_cases h : n.val + 1 < 32
  · rw [dif_pos h]
    refine (pad_apply_of_inside _ _ _ (val_main_v184 (F := Ideal) x0 x1 x2 x3) (val_main_cst_45 (F := Ideal)) pads_S31x128x2x64_S32x128x2x64_010_000_000_000 h_S_ (ix4 n s kv d) (ix4 (⟨n.val, by omega⟩ : Fin 31) s kv d) (fun a => ?_)).trans ?_
    · match a with
      | ⟨0, _⟩ => show n.val = 0 + n.val * 1; omega
      | ⟨1, _⟩ => show s.val = 0 + s.val * 1; omega
      | ⟨2, _⟩ => show kv.val = 0 + kv.val * 1; omega
      | ⟨3, _⟩ => show d.val = 0 + d.val * 1; omega
    · rw [(val_main_v184_apply x0 x1 x2 x3 _), e4 (idx_main_v184 _) (⟨n.val + 1, h⟩ : Fin 32) s kv d (by show 1 + n.val = n.val + 1; omega) rfl rfl rfl,
        (val_main_v181_apply x0 x1 x2 x3 _), e4 (idx_main_v181 _) (⟨n.val + 1, h⟩ : Fin 32) (lo' s) kv d rfl rfl rfl rfl, r173 H]
  · rw [dif_neg h, EReal.coe_zero]
    refine (pad_apply_of_not_inside _ _ _ (val_main_v184 (F := Ideal) x0 x1 x2 x3) (val_main_cst_45 (F := Ideal)) pads_S31x128x2x64_S32x128x2x64_010_000_000_000 h_S_ (ix4 n s kv d) 0 (fun hin => ?_)).trans zero32
    have e : (n.val - 0) / (0 + 1) < 31 := hin.2.2
    omega
theorem r186 (n : Fin 32) (s : Fin 128) (kv : Fin 2) (d : Fin 64) :
    (val_main_v186 (F := Ideal) x0 x1 x2 x3) (ix4 n s kv d) = (((A.point n).dk (hi' s) (col kv d) + if h : n.val + 1 < 32 then (A.point ⟨n.val + 1, h⟩).dk (lo' s) (col kv d) else 0 : ℝ) : EReal) := by
  rw [(val_main_v186_apply x0 x1 x2 x3 _), r185 H, (val_main_v182_apply x0 x1 x2 x3 _), e4 (idx_main_v182 _) n (hi' s) kv d rfl (by show 128 + s.val = _; first | rfl | exact add_comm _ _) rfl rfl, r173 H]
  exact (EReal.coe_add _ _).symm

theorem r178 (n : Fin 32) (s : Fin 128) (kv : Fin 2) (d : Fin 64) :
    (val_main_v178 (F := Ideal) x0 x1 x2 x3) (ix4 n s kv d) = ((if h : n.val + 1 < 32 then (A.point ⟨n.val + 1, h⟩).dv (lo' s) (col kv d) else 0 : ℝ) : EReal) := by
  have := n.isLt
  by_cases h : n.val + 1 < 32
  · rw [dif_pos h]
    refine (pad_apply_of_inside _ _ _ (val_main_v177 (F := Ideal) x0 x1 x2 x3) (val_main_cst_44 (F := Ideal)) pads_S31x128x2x64_S32x128x2x64_010_000_000_000 h_S_ (ix4 n s kv d) (ix4 (⟨n.val, by omega⟩ : Fin 31) s kv d) (fun a => ?_)).trans ?_
    · match a with
      | ⟨0, _⟩ => show n.val = 0 + n.val * 1; omega
      | ⟨1, _⟩ => show s.val = 0 + s.val * 1; omega
      | ⟨2, _⟩ => show kv.val = 0 + kv.val * 1; omega
      | ⟨3, _⟩ => show d.val = 0 + d.val * 1; omega
    · rw [(val_main_v177_apply x0 x1 x2 x3 _), e4 (idx_main_v177 _) (⟨n.val + 1, h⟩ : Fin 32) s kv d (by show 1 + n.val = n.val + 1; omega) rfl rfl rfl,
        (val_main_v174_apply x0 x1 x2 x3 _), e4 (idx_main_v174 _) (⟨n.val + 1, h⟩ : Fin 32) (lo' s) kv d rfl rfl rfl rfl, r133 H]
  · rw [dif_neg h, EReal.coe_zero]
    refine (pad_apply_of_not_inside _ _ _ (val_main_v177 (F := Ideal) x0 x1 x2 x3) (val_main_cst_44 (F := Ideal)) pads_S31x128x2x64_S32x128x2x64_010_000_000_000 h_S_ (ix4 n s kv d) 0 (fun hin => ?_)).trans zero32
    have e : (n.val - 0) / (0 + 1) < 31 := hin.2.2
    omega
theorem r179 (n : Fin 32) (s : Fin 128) (kv : Fin 2) (d : Fin 64) :
    (val_main_v179 (F := Ideal) x0 x1 x2 x3) (ix4 n s kv d) = (((A.point n).dv (hi' s) (col kv d) + if h : n.val + 1 < 32 then (A.point ⟨n.val + 1, h⟩).dv (lo' s) (col kv d) else 0 : ℝ) : EReal) := by
  rw [(val_main_v179_apply x0 x1 x2 x3 _), r178 H, (val_main_v175_apply x0 x1 x2 x3 _), e4 (idx_main_v175 _) n (hi' s) kv d rfl (by show 128 + s.val = _; first | rfl | exact add_comm _ _) rfl rfl, r133 H]
  exact (EReal.coe_add _ _).symm

theorem r187 (r : Fin 4096) (l : Fin 128) : (val_main_v187 (F := Ideal) x0 x1 x2 x3) (ix2 r l)
    = (((A.point ⟨r.val / 128, by have := r.isLt; omega⟩).dk (hi' ⟨r.val % 128, by omega⟩) l
      + if h : r.val / 128 + 1 < 32 then (A.point ⟨r.val / 128 + 1, h⟩).dk (lo' ⟨r.val % 128, by omega⟩) l else 0 : ℝ) : EReal) := by
  have := r.isLt; have := l.isLt
  have hl : l = col (⟨l.val / 64, by omega⟩ : Fin 2) (⟨l.val % 64, by omega⟩ : Fin 64) := Fin.ext (by show l.val = 64 * (l.val / 64) + l.val % 64; omega)
  rw [(val_main_v187_apply x0 x1 x2 x3 _), e4 (idx_main_v187 _) (⟨r.val / 128, by omega⟩ : Fin 32) (⟨r.val % 128, by omega⟩ : Fin 128) (⟨l.val / 64, by omega⟩ : Fin 2) (⟨l.val % 64, by omega⟩ : Fin 64) ?_ ?_ ?_ ?_,
    r186 H, ← hl]
  · show (r.val * 128 + l.val) / 16384 = r.val / 128; omega
  · show (r.val * 128 + l.val) / 128 % 128 = r.val % 128; omega
  · show (r.val * 128 + l.val) / 64 % 2 = l.val / 64; omega
  · show (r.val * 128 + l.val) % 64 = l.val % 64; omega

theorem r180 (r : Fin 4096) (l : Fin 128) : (val_main_v180 (F := Ideal) x0 x1 x2 x3) (ix2 r l)
    = (((A.point ⟨r.val / 128, by have := r.isLt; omega⟩).dv (hi' ⟨r.val % 128, by omega⟩) l
      + if h : r.val / 128 + 1 < 32 then (A.point ⟨r.val / 128 + 1, h⟩).dv (lo' ⟨r.val % 128, by omega⟩) l else 0 : ℝ) : EReal) := by
  have := r.isLt; have := l.isLt
  have hl : l = col (⟨l.val / 64, by omega⟩ : Fin 2) (⟨l.val % 64, by omega⟩ : Fin 64) := Fin.ext (by show l.val = 64 * (l.val / 64) + l.val % 64; omega)
  rw [(val_main_v180_apply x0 x1 x2 x3 _), e4 (idx_main_v180 _) (⟨r.val / 128, by omega⟩ : Fin 32) (⟨r.val % 128, by omega⟩ : Fin 128) (⟨l.val / 64, by omega⟩ : Fin 2) (⟨l.val % 64, by omega⟩ : Fin 64) ?_ ?_ ?_ ?_,
    r179 H, ← hl]
  · show (r.val * 128 + l.val) / 16384 = r.val / 128; omega
  · show (r.val * 128 + l.val) / 128 % 128 = r.val % 128; omega
  · show (r.val * 128 + l.val) / 64 % 2 = l.val / 64; omega
  · show (r.val * 128 + l.val) % 64 = l.val % 64; omega

theorem final193 (r : Fin 4096) (c : Fin 256) : (val_main_v193 (F := Ideal) x0 x1 x2 x3) (ix2 r c) = (A.dkv r c : EReal) := by
  have := r.isLt; have := c.isLt
  rw [(val_main_v193_apply x0 x1 x2 x3 _)]
  show (val_main_v188 (F := Ideal) x0 x1 x2 x3) (ix2 r c) = (((A.point ⟨r.val / 128, by omega⟩).dkv (hi' ⟨r.val % 128, by omega⟩) c
      + if h : r.val / 128 + 1 < 32 then (A.point ⟨r.val / 128 + 1, h⟩).dkv (lo' ⟨r.val % 128, by omega⟩) c else 0 : ℝ) : EReal)
  unfold PR.dkv
  by_cases h : c.val < 128
  · simp only [dif_pos h]
    refine (concatenate_pair_apply_left 1 (val_main_v187 (F := Ideal) x0 x1 x2 x3) (val_main_v180 (F := Ideal) x0 x1 x2 x3) concatenates_S4096x128_S4096x128_S4096x256_d1 (ix2 r c) rfl (ix2 r ⟨c.val, h⟩) (fun b => ?_)).trans (r187 H r ⟨c.val, h⟩)
    match b with
    | ⟨0, _⟩ => rfl
    | ⟨1, _⟩ => rfl
  · simp only [dif_neg h]
    refine (concatenate_pair_apply_right 1 (val_main_v187 (F := Ideal) x0 x1 x2 x3) (val_main_v180 (F := Ideal) x0 x1 x2 x3) concatenates_S4096x128_S4096x128_S4096x256_d1 (ix2 r c) rfl rfl (ix2 r ⟨c.val - 128, by omega⟩) (fun b hb => ?_)
      (by show c.val - 128 + 128 = c.val; omega)).trans (r180 H r ⟨c.val - 128, by omega⟩)
    match b with
    | ⟨0, _⟩ => rfl
    | ⟨1, _⟩ => exact absurd rfl hb

/-! ## The sinks -/

theorem r143 (kv : Fin 2) (g : Fin 8) : (val_main_v143 (F := Ideal) x0 x1 x2 x3) (ix3 kv g 0) = ((∑ n : Fin 32, -∑ t : Fin 128, ((A.point n).toHR kv).st (rr g t) : ℝ) : EReal) := by
  have z : (val_main_cst_37 (F := Ideal)) (Shape.Idx.first h_S_) = (0 : EReal) := zero32
  have e : (val_main_v143 (F := Ideal) x0 x1 x2 x3) (ix3 kv g 0) = Ideal.hostReduceAdd reducesTo_S32x2x8x128x1_S2x8x1_d0_3 (val_main_v142 (F := Ideal) x0 x1 x2 x3) ((val_main_cst_37 (F := Ideal)) (Shape.Idx.first h_S_)) (ix3 kv g 0) := rfl
  rw [e, z, sum03, SoftRow.coe_sum]
  refine Finset.sum_congr rfl fun n _ => ?_
  rw [← Finset.sum_neg_distrib, SoftRow.coe_sum]
  refine Finset.sum_congr rfl fun t _ => ?_
  rw [r142 H, st_rr]
theorem r155 (kv : Fin 2) (g : Fin 8) : (val_main_v155 (F := Ideal) x0 x1 x2 x3) (ix3 kv g 0) = (0 : EReal) := by
  have z : (val_main_cst_40 (F := Ideal)) (Shape.Idx.first h_S_) = (0 : EReal) := zero32
  have e : (val_main_v155 (F := Ideal) x0 x1 x2 x3) (ix3 kv g 0) = Ideal.hostReduceAdd reducesTo_S32x2x8x128x1_S2x8x1_d0_3 (val_main_v154 (F := Ideal) x0 x1 x2 x3) ((val_main_cst_40 (F := Ideal)) (Shape.Idx.first h_S_)) (ix3 kv g 0) := rfl
  rw [e, z, sum03]
  exact Finset.sum_eq_zero fun n _ => Finset.sum_eq_zero fun t _ => r154 H n kv g t
theorem r164 (kv : Fin 2) (g : Fin 8) : (val_main_v164 (F := Ideal) x0 x1 x2 x3) (ix2 kv g) = ((∑ n : Fin 32, -∑ t : Fin 128, ((A.point n).toHR kv).st (rr g t) : ℝ) : EReal) := by
  have := kv.isLt; have := g.isLt
  have z : (val_main_cst_42 (F := Ideal)) (Shape.Idx.first h_S_) = (0 : EReal) := zero32
  have e : (val_main_v164 (F := Ideal) x0 x1 x2 x3) (ix2 kv g) = Ideal.hostReduceAdd reducesTo_S1x2x8x1x1_S2x8_d0_3_4 (val_main_v157 (F := Ideal) x0 x1 x2 x3) ((val_main_cst_42 (F := Ideal)) (Shape.Idx.first h_S_)) (ix2 kv g) := rfl
  rw [e, z, sum034, (val_main_v157_apply x0 x1 x2 x3 _), (val_main_v144_apply x0 x1 x2 x3 _), (val_main_v156_apply x0 x1 x2 x3 _),
    e3 (idx_main_v144 (ix5 0 kv g 0 0)) kv g 0 (by show ((((0 * 2 + kv.val) * 8 + g.val) * 1 + 0) * 1 + 0) / 8 = kv.val; omega)
      (by show ((((0 * 2 + kv.val) * 8 + g.val) * 1 + 0) * 1 + 0) / 1 % 8 = g.val; omega) rfl,
    e3 (idx_main_v156 (ix5 0 kv g 0 0)) kv g 0 (by show ((((0 * 2 + kv.val) * 8 + g.val) * 1 + 0) * 1 + 0) / 8 = kv.val; omega)
      (by show ((((0 * 2 + kv.val) * 8 + g.val) * 1 + 0) * 1 + 0) / 1 % 8 = g.val; omega) rfl, r143 H, r155 H]
  exact add_zero _

theorem final191 (l : Fin 128) : (val_main_v191 (F := Ideal) x0 x1 x2 x3) (ix2 0 l) = (A.dz l : EReal) := by
  have := l.isLt
  unfold RA.dz
  by_cases h : l.val < 16
  · refine (pad_apply_of_inside _ _ _ (val_main_v190 (F := Ideal) x0 x1 x2 x3) (val_main_call2_v0 (F := Ideal)) pads_S1x16_S1x128_000_01120 h_S_ (ix2 0 l) (ix2 0 (⟨l.val, h⟩ : Fin 16)) (fun a => ?_)).trans ?_
    · match a with
      | ⟨0, _⟩ => rfl
      | ⟨1, _⟩ => show l.val = 0 + l.val * 1; omega
    · rw [(val_main_v190_apply x0 x1 x2 x3 _), (val_main_v165_apply x0 x1 x2 x3 _), e2 (idx_main_v165 _) (⟨l.val / 8, by omega⟩ : Fin 2) (⟨l.val % 8, by omega⟩ : Fin 8)
        (by show (0 * 16 + l.val) / 8 = l.val / 8; omega) (by show (0 * 16 + l.val) % 8 = l.val % 8; omega), r164 H]
      refine congrArg (fun y : ℝ => (y : EReal)) (Finset.sum_congr rfl fun n _ => ?_)
      unfold RA.dzL
      rw [dif_pos h]
      rfl
  · refine (pad_apply_of_not_inside _ _ _ (val_main_v190 (F := Ideal) x0 x1 x2 x3) (val_main_call2_v0 (F := Ideal)) pads_S1x16_S1x128_000_01120 h_S_ (ix2 0 l) 1 (fun hin => ?_)).trans ?_
    · have e : (l.val - 0) / (0 + 1) < 16 := hin.2.2
      omega
    · rw [Finset.sum_eq_zero fun n _ => by unfold RA.dzL; rw [dif_neg h], EReal.coe_zero]
      show ((((0#32 : BitVec 32).toInt : ℤ) : ℝ) : EReal) = 0
      norm_num
end Results

end Cert.ReferenceIdeal.Attn
-- ==== Proof.FiniteArgs.lean ====
module

public import proofs.«01_k».proof.Proof.RefGrad
public import proofs.«01_k».proof.Proof.Gen.Pre_finite
public import Idealize.ShloMosaic.Lib.ReduceAll

@[expose] public section

noncomputable section

/-! # What the precondition says: every entry of the four arguments is a real number -/

namespace Cert.FiniteArgs

open Idealize.ShloMosaic Idealize.ShloMosaic.ValueIdx
open Cert.Pre_finite Cert.Pre_finite.Gen
open Cert.KernelIdeal.Attn (RA)

/-- A result of rank zero has one index. -/
instance : Subsingleton S_.Idx := ⟨fun a b => funext fun x => x.elim0⟩

/-- A number whose absolute value lies below the top element is real. -/
theorem real_of_abs_lt {x : EReal} (h : max x (-x) < ⊤) : x = ((x.toReal : ℝ) : EReal) := by
  refine (EReal.coe_toReal ?_ ?_).symm
  · rintro rfl; simp at h
  · rintro rfl; simp at h

/-- One bit of the precondition, read. -/
theorem real_of_bit {x : EReal} (h : BitVec.ofBool (decide (max x (-x) < (⊤ : EReal))) = 1#1) : x = ((x.toReal : ℝ) : EReal) := by
  refine real_of_abs_lt ?_
  by_contra hn
  rw [decide_eq_false hn] at h
  exact absurd h (by decide)

/-- Both bits of a conjunction that is one are one. -/
theorem andi_one {a b : BitVec 1} (h : IntOp.andi a b = 1#1) : a = 1#1 ∧ b = 1#1 := by
  revert a b; decide

section Args
variable {x0 : FVec Ideal S4096x1024 .bf16} {x1 : FVec Ideal S4096x256 .bf16} {x2 : FVec Ideal S16 .f32} {x3 : FVec Ideal S4096x1024 .bf16}
variable (h : Cert.Pre_finite.fn (F := Ideal) x0 x1 x2 x3 = fun _ => 1#1)

include h

/-- The four conjuncts at every index. -/
theorem bits : (∀ i, x0 i = (((x0 i : EReal).toReal : ℝ) : EReal)) ∧ (∀ i, x1 i = (((x1 i : EReal).toReal : ℝ) : EReal))
    ∧ (∀ i, x2 i = (((x2 i : EReal).toReal : ℝ) : EReal)) ∧ (∀ i, x3 i = (((x3 i : EReal).toReal : ℝ) : EReal)) := by
  have h0 := congrFun h ix0
  obtain ⟨h16, h20⟩ := andi_one h0
  obtain ⟨h11, h15⟩ := andi_one h16
  obtain ⟨h6, h10⟩ := andi_one h11
  exact ⟨fun i => real_of_bit (Host.reduce_andi_all _ _ _ _ _ h6 i), fun i => real_of_bit (Host.reduce_andi_all _ _ _ _ _ h10 i),
    fun i => real_of_bit (Host.reduce_andi_all _ _ _ _ _ h15 i), fun i => real_of_bit (Host.reduce_andi_all _ _ _ _ _ h20 i)⟩

end Args

/-- The real arrays of the arguments. -/
def reals (x0 : FVec Ideal S4096x1024 .bf16) (x1 : FVec Ideal S4096x256 .bf16) (x2 : FVec Ideal S16 .f32) (x3 : FVec Ideal S4096x1024 .bf16) : RA :=
  ⟨fun r k => (x0 (ix2 r k) : EReal).toReal, fun r k => (x1 (ix2 r k) : EReal).toReal, fun k => (x2 (ix1 k) : EReal).toReal, fun r k => (x3 (ix2 r k) : EReal).toReal⟩

end Cert.FiniteArgs

end
-- ==== Proof.Products.lean ====
module

public import Idealize.ShloMosaic.PureOps.Ideal.Laws
public import Idealize.ShloMosaic.Lib.MatmulPlain
public import Idealize.ShloMosaic.Lib.ValueIdx
public import Idealize.ShloMosaic.Lib.IdealHost

@[expose] public section

noncomputable section

/-! # Matrix products onto zeros, and sums cut into blocks -/

namespace Cert.Products

open Idealize.ShloMosaic Idealize.ShloMosaic.ValueIdx

/-- The zero word is the number zero. -/
theorem zero_f32 : (Scalar.ofBits .f32 0x00000000#32 : Ideal .f32) = (0 : EReal) := Ideal.ofBits_zero_f32

/-- Rows times rows. -/
theorem rows_rows {M K N : ℕ} {φ₁ φ₂ : FTy} (prec : Option ContractPrecision) (a : FVec Ideal ⟨2, ![M, K]⟩ φ₁) (b : FVec Ideal ⟨2, ![N, K]⟩ φ₂) (r : Fin M) (c : Fin N) :
    matmul (DotDims.transposedRhs M K N) prec a b (constant ⟨2, ![M, N]⟩ .f32 0x00000000#32) (ix2 r c) = ∑ k : Fin K, a (ix2 r k) * b (ix2 c k) := by
  refine (Ideal.matmul_transposedRhs_apply prec a b _ r c).trans ?_
  rw [show (constant ⟨2, ![M, N]⟩ .f32 0x00000000#32 : FVec Ideal ⟨2, ![M, N]⟩ .f32) (ix2 r c) = (0 : EReal) from Ideal.ofBits_zero_f32, zero_add]

/-- Rows times columns. -/
theorem rows_cols {M K N : ℕ} {φ₁ φ₂ : FTy} (prec : Option ContractPrecision) (a : FVec Ideal ⟨2, ![M, K]⟩ φ₁) (b : FVec Ideal ⟨2, ![K, N]⟩ φ₂) (r : Fin M) (c : Fin N) :
    matmul (DotDims.plain M K N) prec a b (constant ⟨2, ![M, N]⟩ .f32 0x00000000#32) (ix2 r c) = ∑ k : Fin K, a (ix2 r k) * b (ix2 k c) := by
  refine (Ideal.matmul_plain_apply prec a b _ r c).trans ?_
  rw [show (constant ⟨2, ![M, N]⟩ .f32 0x00000000#32 : FVec Ideal ⟨2, ![M, N]⟩ .f32) (ix2 r c) = (0 : EReal) from Ideal.ofBits_zero_f32, zero_add]

/-- The dimensions of a product of columns by columns. -/
def colsDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([1, 0] : List (Fin 2)).Perm (List.finRange 2)), (by decide : ([1, 0] : List (Fin 2)).Perm (List.finRange 2)), rfl, Nat.two_pos, fun b => by fin_cases b <;> rfl⟩

/-- Columns times columns. -/
theorem cols_cols {K M N : ℕ} {φ₁ φ₂ : FTy} (prec : Option ContractPrecision) (a : FVec Ideal ⟨2, ![K, M]⟩ φ₁) (b : FVec Ideal ⟨2, ![K, N]⟩ φ₂) (r : Fin M) (c : Fin N) :
    matmul (colsDims K M N) prec a b (constant ⟨2, ![M, N]⟩ .f32 0x00000000#32) (ix2 r c) = ∑ k : Fin K, a (ix2 k r) * b (ix2 k c) := by
  refine (Ideal.matmul_constant_zero_apply (colsDims K M N) prec a b (ix2 r c)).trans ?_
  rw [← Equiv.sum_comp (contrEquiv1 (colsDims K M N) K rfl rfl).symm]
  refine Finset.sum_congr rfl fun k _ => ?_
  have hk := contrEquiv1_symm_val (colsDims K M N) K rfl rfl k
  have el : (colsDims K M N).lhsIdx (ix2 r c) ((contrEquiv1 (colsDims K M N) K rfl rfl).symm k) = ix2 k r := by
    funext x; apply Fin.ext
    match x with
    | ⟨0, _⟩ => exact hk
    | ⟨1, _⟩ => rfl
  have er : (colsDims K M N).rhsIdx (ix2 r c) ((contrEquiv1 (colsDims K M N) K rfl rfl).symm k) = ix2 k c := by
    funext x; apply Fin.ext
    match x with
    | ⟨0, _⟩ => exact hk
    | ⟨1, _⟩ => rfl
  rw [el, er]

/-- A sum over `n * k` terms is the sum of `n` blocks of `k`. -/
theorem sum_blocks (n k : ℕ) (f : Fin (n * k) → EReal) :
    ∑ x : Fin (n * k), f x = ∑ a : Fin n, ∑ b : Fin k, f ⟨k * a.val + b.val, by
      have ha := a.isLt; have hb := b.isLt
      calc k * a.val + b.val < k * a.val + k := by omega
        _ = k * (a.val + 1) := by ring
        _ ≤ k * n := Nat.mul_le_mul_left _ (by omega)
        _ = n * k := by ring⟩ := by
  rw [← Equiv.sum_comp finProdFinEquiv, Fintype.sum_prod_type]
  refine Finset.sum_congr rfl fun a _ => Finset.sum_congr rfl fun b _ => congrArg f (Fin.ext ?_)
  show b.val + k * a.val = _
  exact Nat.add_comm _ _

end Cert.Products

end
-- ==== Proof.RmsRow.lean ====
module

public import Idealize.ShloMosaic.Lib.Pipeline.ValueKit

/-! The backward of an RMS norm on one row of extended reals.

Two forms of it are shown equal at every row, infinite entries included: the one that scales the difference
between a gradient and its part along the normalised row, and the one that differentiates the mean square and adds
its share twice, once for each factor of the square. -/

@[expose] public section

namespace Cert.RmsRow

open Idealize.ShloMosaic

theorem width_f32 : Ideal.ofBits .f32 0x44800000#32 = ((1024 : ℝ) : EReal) := by
  simp [Ideal.ofBits, Ideal.ieee]; norm_num [← EReal.coe_one, ← EReal.coe_div, ← EReal.coe_mul]

theorem half_f32 : Ideal.ofBits .f32 0xBF000000#32 = ((-(1 / 2) : ℝ) : EReal) := by
  simp [Ideal.ofBits, Ideal.ieee]; norm_num [← EReal.coe_one, ← EReal.coe_div, ← EReal.coe_mul, ← EReal.coe_neg]

theorem eps_f32 : ∃ e : ℝ, 0 < e ∧ Ideal.ofBits .f32 0x358637BD#32 = (e : EReal) := by
  refine ⟨(Ideal.ofBits .f32 0x358637BD#32).toReal, ?_, ?_⟩ <;>
    · simp [Ideal.ofBits, Ideal.ieee]; norm_num [← EReal.coe_one, ← EReal.coe_div, ← EReal.coe_mul]

/-- A row's mean square, kept off zero. -/
noncomputable def ms (x : Fin 1024 → EReal) : EReal :=
  Ideal.div (∑ k, x k * x k) (Ideal.ofBits .f32 0x44800000#32) + Ideal.ofBits .f32 0x358637BD#32

/-- The factor that normalises a row. -/
noncomputable def root (x : Fin 1024 → EReal) : EReal := Ideal.rsqrt (ms x)

theorem sq_nonneg (a : EReal) : 0 ≤ a * a := by
  rcases le_total 0 a with h | h
  · exact mul_nonneg h h
  · rw [← neg_mul_neg]; exact mul_nonneg (EReal.neg_nonneg.mpr h) (EReal.neg_nonneg.mpr h)

/-- The factor is a real that is not negative, and the factor over the mean square is its cube. -/
theorem root_spec (x : Fin 1024 → EReal) :
    ∃ r : ℝ, 0 ≤ r ∧ root x = (r : EReal) ∧ Ideal.div (root x) (ms x) = ((r * r * r : ℝ) : EReal) := by
  obtain ⟨e, he, hE⟩ := eps_f32
  have h0 : (0 : EReal) ≤ ∑ k, x k * x k := Finset.sum_nonneg fun k _ => sq_nonneg (x k)
  have hms : ms x = (∑ k, x k * x k) * ((1 / 1024 : ℝ) : EReal) + (e : EReal) := by
    unfold ms; rw [width_f32, Ideal.div_coe (by norm_num), hE]
  unfold root
  rw [hms]
  generalize (∑ k, x k * x k) = s at h0
  induction s using EReal.rec with
  | bot => exact absurd h0 (by simp)
  | top =>
    refine ⟨0, le_refl _, ?_, ?_⟩ <;>
      rw [EReal.top_mul_coe_of_pos (by norm_num), EReal.top_add_coe, Ideal.rsqrt_top] <;> simp [Ideal.div]
  | coe s =>
    have hs : 0 ≤ s := by exact_mod_cast h0
    have hm : 0 < s * (1 / 1024) + e := by positivity
    refine ⟨(Real.sqrt (s * (1 / 1024) + e))⁻¹, by positivity, ?_, ?_⟩ <;>
      rw [← EReal.coe_mul, ← EReal.coe_add, Ideal.rsqrt_coe, if_neg (not_lt.mpr hm.le), if_neg hm.ne']
    rw [Ideal.div_coe hm.ne', ← EReal.coe_mul]
    congr 1
    have h2 : (1 : ℝ) / (s * (1 / 1024) + e) = (Real.sqrt (s * (1 / 1024) + e))⁻¹ * (Real.sqrt (s * (1 / 1024) + e))⁻¹ := by
      rw [← mul_inv, Real.mul_self_sqrt hm.le, one_div]
    rw [h2]; ring

theorem sum_mul_coe {ι : Type} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

theorem twice (a : EReal) : a + a = a * ((2 : ℝ) : EReal) := by
  induction a using EReal.rec with
  | bot => rw [EReal.bot_mul_coe_of_pos (by norm_num)]; rfl
  | top => rw [EReal.top_mul_coe_of_pos (by norm_num)]; rfl
  | coe a => rw [← EReal.coe_add, ← EReal.coe_mul]; congr 1; ring

/-- The weight that the mean square's derivative puts on a row. -/
noncomputable def pull (x gd : Fin 1024 → EReal) : EReal :=
  Ideal.div ((∑ k, x k * gd k) * (Ideal.ofBits .f32 0xBF000000#32 * Ideal.div (root x) (ms x)))
    (Ideal.ofBits .f32 0x44800000#32)

/-- Scaling the difference from the part along the row is the gradient plus twice the mean square's share. -/
theorem grad_eq (x gd : Fin 1024 → EReal) (d : EReal) (c : Fin 1024) :
    d + root x * (gd c - x c * root x *
        Ideal.div (∑ k, gd k * (x k * root x)) (Ideal.ofBits .f32 0x44800000#32))
      = d + gd c * root x + x c * pull x gd + pull x gd * x c := by
  obtain ⟨r, hr, hR, hQ⟩ := root_spec x
  unfold pull
  rw [hQ, hR, width_f32, half_f32, Ideal.div_coe (by norm_num), Ideal.div_coe (by norm_num)]
  have hT : ∑ k, gd k * (x k * (r : EReal)) = (∑ k, x k * gd k) * (r : EReal) := by
    rw [← sum_mul_coe _ _ r hr]
    exact Finset.sum_congr rfl fun k _ => by rw [← mul_assoc, mul_comm (gd k)]
  rw [hT]
  generalize (∑ k, x k * gd k) = T
  have h1 : x c * (r : EReal) * (T * (r : EReal) * ((1 / 1024 : ℝ) : EReal))
      = x c * T * ((r * r * (1 / 1024) : ℝ) : EReal) := by
    rw [EReal.coe_mul, EReal.coe_mul]; ac_rfl
  have h2 : x c * (T * (((-(1 / 2) : ℝ) : EReal) * ((r * r * r : ℝ) : EReal)) * ((1 / 1024 : ℝ) : EReal))
      = x c * T * ((-(1 / 2) * (r * r * r) * (1 / 1024) : ℝ) : EReal) := by
    rw [EReal.coe_mul (_ * _) (1 / 1024), EReal.coe_mul (-(1 / 2)) (r * r * r)]; ac_rfl
  rw [mul_comm _ (x c), h1, h2, sub_eq_add_neg,
    EReal.left_distrib_of_nonneg_of_ne_top (EReal.coe_nonneg.mpr hr) (EReal.coe_ne_top r), add_assoc (d + _), twice,
    add_assoc, mul_comm (r : EReal) (gd c)]
  congr 2
  generalize x c * T = P
  rw [← mul_neg, ← EReal.coe_neg, mul_comm (r : EReal), mul_assoc, ← EReal.coe_mul, mul_assoc P _ ((2 : ℝ) : EReal), ← EReal.coe_mul]
  congr 2
  ring

end Cert.RmsRow
-- ==== Proof.FfnDxn.lean ====
module

public import proofs.«01_k».proof.Proof.Gen.Kernel2Ideal.Value
public import Idealize.ShloMosaic.Lib.Pipeline.Value
public import Idealize.ShloMosaic.Lib.Pipeline.ValueKit
public import proofs.«01_k».proof.Proof.Products
public import proofs.«01_k».proof.Proof.RmsRow
public import Idealize.ShloMosaic.Lib.Tactic

@[expose] public section

set_option maxRecDepth 16384

noncomputable section

/-! # The gradient of the feed-forward block's input: a product summed over column blocks, then the norm's backward -/

namespace Cert.Kernel2Ideal.Dxn

open Cert.Kernel2Ideal Cert.Kernel2Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products Cert.RmsRow
open Idealize.ShloMosaic.Pipeline (Dat Cfg Window)

/-! ## The operations of one tile -/

/-- A block without its leading axis. -/
theorem drop_apply (x : FVec Ideal S1x1024x1408 .bf16) (r : Fin 1024) (j : Fin 1408) :
    shapeCast S1024x1408 x shapeCasts_S1x1024x1408_S1024x1408 (ix2 r j) = x (ix3 (0 : Fin 1) r j) :=
  shapeCast_apply x shapeCasts_S1x1024x1408_S1024x1408 (ix2 r j) (ix3 0 r j) (by
    rw [Shape.rowMajor_val_three, Shape.rowMajor_val_two]; show (0 * 1024 + r.val) * 1408 + j.val = r.val * 1408 + j.val; omega)

/-- One entry of a step: the accumulator and one column block's products. -/
theorem step_apply (acc : Vec Ideal S1024x1024 .f32) (u w : Vec Ideal S1x1024x1408 .bf16) (r d : Fin 1024) :
    k0_pay2 acc u w (ix2 r d) = acc (ix2 r d) + ∑ j : Fin 1408, u (ix3 (0 : Fin 1) r j) * w (ix3 (0 : Fin 1) d j) := by
  unfold k0_pay2
  rw [shapeCast_self, addf_apply]
  refine congrArg (acc (ix2 r d) + ·) ((rows_rows none _ _ r d).trans ?_)
  exact Finset.sum_congr rfl fun j _ => congrArg₂ (· * ·) (drop_apply u r j) (drop_apply w d j)

theorem zero_apply (i : S1024x1024.Idx) : k0_pay1 (F := Ideal) i = (0 : EReal) := by
  unfold k0_pay1
  rw [shapeCast_self]
  exact zero_f32

theorem rowSum_apply (a : FVec Ideal S1024x1024 .f32) (r : Fin 1024) :
    shapeCast S1024x1 (multiReduction .add [1] S1024 a 0x00000000#32 reduces_S1024x1024_S1024 (.inl rfl) rfl) shapeCasts_S1024_S1024x1 (ix2 r 0)
      = ∑ k : Fin 1024, a (ix2 r k) := by
  refine (shapeCast_apply _ shapeCasts_S1024_S1024x1 (ix2 r 0) (ix1 r) (by
    rw [Shape.rowMajor_val_two, Shape.rowMajor_val_one]; show r.val = r.val * 1 + 0; omega)).trans ?_
  refine (Ideal.multiReduction_add_single a _ reduces_S1024x1024_S1024 (.inl rfl) rfl (ix1 r)).trans ?_
  exact Finset.sum_congr rfl fun k _ => congrArg a (funext fun x => Fin.ext (by match x with | ⟨0, _⟩ => rfl | ⟨1, _⟩ => rfl))

theorem colSum_apply (a : FVec Ideal S1024x1024 .f32) (d : Fin 1024) :
    shapeCast S1x1024 (multiReduction .add [0] S1024 a 0x00000000#32 reduces_S1024x1024_S1024_2 (.inl rfl) rfl) shapeCasts_S1024_S1x1024 (ix2 0 d)
      = ∑ r : Fin 1024, a (ix2 r d) := by
  refine (shapeCast_apply _ shapeCasts_S1024_S1x1024 (ix2 0 d) (ix1 d) (by
    rw [Shape.rowMajor_val_two, Shape.rowMajor_val_one]; show d.val = 0 * 1024 + d.val; omega)).trans ?_
  refine (Ideal.multiReduction_add_single a _ reduces_S1024x1024_S1024_2 (.inl rfl) rfl (ix1 d)).trans ?_
  exact Finset.sum_congr rfl fun k _ => congrArg a (funext fun x => Fin.ext (by match x with | ⟨0, _⟩ => rfl | ⟨1, _⟩ => rfl))

theorem wide_apply (a : FVec Ideal S1024x1 .f32) (r d : Fin 1024) :
    broadcastTo S1024x1024 a broadcasts_S1024x1_S1024x1024 (ix2 r d) = a (ix2 r 0) :=
  broadcastTo_apply a broadcasts_S1024x1_S1024x1024 (ix2 r d) (ix2 r 0) fun x => by
    match x with | ⟨0, _⟩ => rfl | ⟨1, _⟩ => rfl

theorem tall_apply (a : FVec Ideal S1x1024 .f32) (r d : Fin 1024) :
    broadcastTo S1024x1024 a broadcasts_S1x1024_S1024x1024 (ix2 r d) = a (ix2 0 d) :=
  broadcastTo_apply a broadcasts_S1x1024_S1024x1024 (ix2 r d) (ix2 0 d) fun x => by
    match x with | ⟨0, _⟩ => rfl | ⟨1, _⟩ => rfl

/-- The factor that normalises a row of a tile. -/
theorem root_apply (h : Vec Ideal S1024x1024 .f32) (r : Fin 1024) : k0_pay4 h (ix2 r 0) = root fun k => h (ix2 r k) := by
  unfold k0_pay4 root ms
  refine congrArg Ideal.rsqrt (congrArg (· + Ideal.ofBits .f32 0x358637BD#32) (congrArg (Ideal.div · (Ideal.ofBits .f32 0x44800000#32)) ?_))
  exact rowSum_apply _ r

/-- The normalised row. -/
theorem xhat_apply (h : Vec Ideal S1024x1024 .f32) (r d : Fin 1024) : k0_pay5 h (ix2 r d) = h (ix2 r d) * root fun k => h (ix2 r k) := by
  unfold k0_pay5
  rw [mulf_apply, wide_apply, root_apply]

/-- The gain's gradient after one row tile. -/
theorem gain_apply (acc h : Vec Ideal S1024x1024 .f32) (dg : Vec Ideal S1x1024 .f32) (d : Fin 1024) :
    k0_pay6 acc h dg (ix2 0 d) = dg (ix2 0 d) + ∑ r : Fin 1024, acc (ix2 r d) * (h (ix2 r d) * root fun k => h (ix2 r k)) := by
  unfold k0_pay6
  rw [shapeCast_self, addf_apply, colSum_apply]
  exact congrArg (dg (ix2 0 d) + ·) (Finset.sum_congr rfl fun r _ => by rw [mulf_apply, xhat_apply])

/-- One entry of the input's gradient. -/
theorem input_apply (acc h : Vec Ideal S1024x1024 .f32) (g : Vec Ideal S1x1024 .f32) (dh : Vec Ideal S1024x1024 .f32) (r d : Fin 1024) :
    k0_pay7 acc h g dh (ix2 r d) = dh (ix2 r d) + (root fun k => h (ix2 r k)) * (acc (ix2 r d) * g (ix2 0 d) - h (ix2 r d) * (root fun k => h (ix2 r k)) *
      Ideal.div (∑ k : Fin 1024, acc (ix2 r k) * g (ix2 0 k) * (h (ix2 r k) * root fun k => h (ix2 r k))) (Ideal.ofBits .f32 0x44800000#32)) := by
  unfold k0_pay7
  rw [addf_apply, mulf_apply, subf_apply, mulf_apply, mulf_apply, wide_apply, wide_apply, root_apply, xhat_apply, tall_apply]
  refine congrArg (fun e : EReal => dh (ix2 r d) + (root fun k => h (ix2 r k)) * (acc (ix2 r d) * g (ix2 0 d) - h (ix2 r d) * (root fun k => h (ix2 r k)) *
      Ideal.div e (Ideal.ofBits .f32 0x44800000#32))) ((rowSum_apply _ r).trans ?_)
  exact Finset.sum_congr rfl fun k _ => by rw [mulf_apply, mulf_apply, xhat_apply, tall_apply]

variable (m : (ℓ : Loc nD τ sig) → Buf (Elt Ideal) ℓ)

theorem e0 : ∀ t : Fin cfg0.N, win0_0.index t = ![t.val % 4, t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0] := (by decide +kernel : ∀ t : Fin grid0.N, _)
theorem e5 : ∀ t : Fin cfg0.N, win0_5.index t = ![t.val / 4, 0] := (by decide +kernel : ∀ t : Fin grid0.N, _)
theorem e6 : ∀ t : Fin cfg0.N, win0_6.index t = ![0, 0] := (by decide +kernel : ∀ t : Fin grid0.N, _)

/-! ## The accumulator -/

/-- One column block's products. -/
def prod (u w : Vec Ideal S1x1024x1408 .bf16) (i : S1024x1024.Idx) : EReal :=
  ∑ j : Fin 1408, u (ix3 (0 : Fin 1) (i 0) j) * w (ix3 (0 : Fin 1) (i 1) j)
def part (c : Dev nD) (t : Fin cfg0.N) : S1024x1024.Idx → EReal := prod (iblk m c 0 t) (iblk m c 1 t)

/-- The accumulator at the last column block of a row tile. -/
theorem acc_eq (c : Dev nD) (t : Fin cfg0.N) (ht : t.val % 4 = 3) (r d : Fin 1024) :
    (outsAt0 m c t.val t.isLt).2.2 (ix2 r d) = ∑ s : Fin 4, part m c ⟨4 * (t.val / 4) + s.val, Pipeline.run_point_lt_of_flush t ht s⟩ (ix2 r d) := by
  have h := Pipeline.eq_sum_fin_of_reset_step_apply_of_flush (M := EReal) (fun n h => ((outsAt0 m c n h).2.2 : S1024x1024.Idx → EReal)) 4 (fun _ => 0) (part m c)
    (fun t h i => by
      obtain ⟨r, d, rfl⟩ : ∃ (r d : Fin 1024), i = ix2 r d := ⟨i 0, i 1, eq_ix2 i⟩
      show (outsAt0 m c t.val t.isLt).2.2 (ix2 r d) = _
      by_cases h1 : t.val % 16 = 0
      · rw [outsAt0_A m c t h h1 (by omega)]; frame_out
        exact (step_apply _ _ _ r d).trans (congrArg (· + part m c t (ix2 r d)) (zero_apply _))
      · rw [outsAt0_D m c t h h1 (by omega)]; frame_out
        exact (step_apply _ _ _ r d).trans (congrArg (· + part m c t (ix2 r d)) (zero_apply _)))
    (fun t h i => by
      obtain ⟨r, d, rfl⟩ : ∃ (r d : Fin 1024), i = ix2 r d := ⟨i 0, i 1, eq_ix2 i⟩
      show (outsAt0 m c t.val t.isLt).2.2 (ix2 r d) = _
      by_cases h3 : t.val % 4 = 3
      · rw [outsAt0_C m c t h (by omega) h3]; frame_out
        exact (step_apply _ _ _ r d).trans (congrArg (· + part m c t (ix2 r d)) (congrFun ((Memref.isWhole_whole cc0_scratch0).read_unread _) _))
      · rw [outsAt0_B m c t h (by omega) h3]; frame_out
        exact (step_apply _ _ _ r d).trans (congrArg (· + part m c t (ix2 r d)) (congrFun ((Memref.isWhole_whole cc0_scratch0).read_unread _) _)))
    t ht (ix2 r d)
  exact h.trans (zero_add _)

/-- The input's gradient at the last column block. -/
theorem out_eq (c : Dev nD) (t : Fin cfg0.N) (ht : t.val % 4 = 3) :
    (outsAt0 m c t.val t.isLt).1 = k0_pay7 (outsAt0 m c t.val t.isLt).2.2 (iblk m c 2 t) (iblk m c 3 t) (iblk m c 4 t) := by
  rw [outsAt0_C m c t (by omega) (by omega) ht]
  frame_out

/-- The gain's gradient at the last column block. -/
theorem gain_eq (c : Dev nD) (t : Fin cfg0.N) (ht : t.val % 4 = 3) :
    (outsAt0 m c t.val t.isLt).2.1 = k0_pay6 (outsAt0 m c t.val t.isLt).2.2 (iblk m c 2 t) (outsAt0 m c (t.val - 1) (Nat.lt_of_le_of_lt (Nat.sub_le _ _) t.isLt)).2.1 := by
  rw [outsAt0_C m c t (by omega) (by omega) ht]
  frame_out

/-! ## The two results -/

/-- The product's gradient: the rows of every column block by the rows of the same block of weights. -/
def dxn (u : FVec Ideal S4x4096x1408 .bf16) (w : FVec Ideal S4x1024x1408 .bf16) (r : Fin 4096) (d : Fin 1024) : EReal :=
  ∑ b : Fin 4, ∑ j : Fin 1408, u (ix3 b r j) * w (ix3 b d j)

/-- A row of the block's input. -/
def row (h : FVec Ideal S4096x1024 .f32) (r : Fin 4096) : Fin 1024 → EReal := fun k => h (ix2 r k)

/-- The gain's gradient, from the product's gradient `D`. -/
def resultG (D : Fin 4096 → Fin 1024 → EReal) (h : FVec Ideal S4096x1024 .f32) : FVec Ideal S1x1024 .f32 :=
  fun i => ∑ r : Fin 4096, D r (i 1) * (h (ix2 r (i 1)) * root (row h r))

/-- The input's gradient, from the product's gradient `D`. -/
def resultX (D : Fin 4096 → Fin 1024 → EReal) (h : FVec Ideal S4096x1024 .f32) (g : FVec Ideal S1x1024 .f32)
    (dh : FVec Ideal S4096x1024 .f32) : FVec Ideal S4096x1024 .f32 :=
  fun i => dh i + root (row h (i 0)) * (D (i 0) (i 1) * g (ix2 0 (i 1)) - row h (i 0) (i 1) * root (row h (i 0)) *
    Ideal.div (∑ k : Fin 1024, D (i 0) k * g (ix2 0 k) * (row h (i 0) k * root (row h (i 0)))) (Ideal.ofBits .f32 0x44800000#32))

/-- One entry of a tile's gradient from a tile's rows. -/
theorem tile_input (D : Fin 4096 → Fin 1024 → EReal) (h : FVec Ideal S4096x1024 .f32) (g : FVec Ideal S1x1024 .f32)
    (dh : FVec Ideal S4096x1024 .f32) (acc hb : Vec Ideal S1024x1024 .f32) (gb : Vec Ideal S1x1024 .f32) (db : Vec Ideal S1024x1024 .f32) (R : Fin 4096) (r d : Fin 1024)
    (ha : ∀ k, acc (ix2 r k) = D R k) (hh : ∀ k, hb (ix2 r k) = h (ix2 R k)) (hg : ∀ k, gb (ix2 0 k) = g (ix2 0 k)) (hd : db (ix2 r d) = dh (ix2 R d)) :
    k0_pay7 acc hb gb db (ix2 r d) = resultX D h g dh (ix2 R d) := by
  rw [input_apply, hd, show (fun k => hb (ix2 r k)) = row h R from funext hh, ha, hg, hh]
  unfold resultX
  refine congrArg (fun e : EReal => dh (ix2 R d) + root (row h R) * (D R d * g (ix2 0 d) - row h R d * root (row h R) *
    Ideal.div e (Ideal.ofBits .f32 0x44800000#32))) (Finset.sum_congr rfl fun k _ => ?_)
  rw [ha, hg, hh]; rfl

/-- What a row tile adds to the gain's gradient. -/
def gtile (D : Fin 4096 → Fin 1024 → EReal) (h : FVec Ideal S4096x1024 .f32) (R : Fin 1024 → Fin 4096) (d : Fin 1024) : EReal :=
  ∑ r : Fin 1024, D (R r) d * (h (ix2 (R r) d) * root (row h (R r)))

theorem tile_gain (D : Fin 4096 → Fin 1024 → EReal) (h : FVec Ideal S4096x1024 .f32)
    (acc hb : Vec Ideal S1024x1024 .f32) (dg : Vec Ideal S1x1024 .f32) (R : Fin 1024 → Fin 4096) (d : Fin 1024)
    (ha : ∀ r, acc (ix2 r d) = D (R r) d) (hh : ∀ r k, hb (ix2 r k) = h (ix2 (R r) k)) :
    k0_pay6 acc hb dg (ix2 0 d) = dg (ix2 0 d) + gtile D h R d := by
  rw [gain_apply]
  refine congrArg (dg (ix2 0 d) + ·) (Finset.sum_congr rfl fun r _ => ?_)
  rw [ha, hh, show (fun k => hb (ix2 r k)) = row h (R r) from funext (hh r)]

/-! ## Blocks of the arguments -/

/-- A row of the whole arrays from a row of tile `a`. -/
def at4 (a : Fin 4) (r : Fin 1024) : Fin 4096 := ⟨1024 * a.val + r.val, by have := a.isLt; have := r.isLt; omega⟩
theorem tile_lt (t : Fin cfg0.N) : t.val / 4 < 4 := by have h : t.val < 16 := t.isLt; omega
def tile (t : Fin cfg0.N) : Fin 4 := ⟨t.val / 4, tile_lt t⟩

theorem u_at (c : Dev nD) (t : Fin cfg0.N) (r : Fin 1024) (j : Fin 1408) :
    (iblk m c 0 t : Vec Ideal S1x1024x1408 .bf16) (ix3 (0 : Fin 1) r j)
      = (m ((c : Thread nD τ).loc main_arg0) : FVec Ideal S4x4096x1408 .bf16) (ix3 ⟨t.val % 4, Nat.mod_lt _ (by decide)⟩ (at4 (tile t) r) j) := by
  blk_simp [iblk, V]
  refine congrArg (m ((c : Thread nD τ).loc main_arg0)) ?_
  blk_ext [e0]
  all_goals first | rfl | (show t.val / 4 * 1024 + r.val = 1024 * (t.val / 4) + r.val; omega)

theorem w_at (c : Dev nD) (t : Fin cfg0.N) (d : Fin 1024) (j : Fin 1408) :
    (iblk m c 1 t : Vec Ideal S1x1024x1408 .bf16) (ix3 (0 : Fin 1) d j)
      = (m ((c : Thread nD τ).loc main_arg1) : FVec Ideal S4x1024x1408 .bf16) (ix3 ⟨t.val % 4, Nat.mod_lt _ (by decide)⟩ d j) := by
  blk_simp [iblk, V]
  refine congrArg (m ((c : Thread nD τ).loc main_arg1)) ?_
  blk_ext [e1]
  all_goals first | rfl | (show _ = _ ; omega)

theorem h_at (c : Dev nD) (t : Fin cfg0.N) (r d : Fin 1024) :
    (iblk m c 2 t : Vec Ideal S1024x1024 .f32) (ix2 r d)
      = (m ((c : Thread nD τ).loc main_arg2) : FVec Ideal S4096x1024 .f32) (ix2 (at4 (tile t) r) d) := by
  blk_simp [iblk, V]
  refine congrArg (m ((c : Thread nD τ).loc main_arg2)) ?_
  blk_ext [e2]
  all_goals first | rfl | (show t.val / 4 * 1024 + r.val = 1024 * (t.val / 4) + r.val; omega)

theorem g_at (c : Dev nD) (t : Fin cfg0.N) (d : Fin 1024) :
    (iblk m c 3 t : Vec Ideal S1x1024 .f32) (ix2 0 d) = (m ((c : Thread nD τ).loc main_arg3) : FVec Ideal S1x1024 .f32) (ix2 0 d) := by
  blk_simp [iblk, V]
  refine congrArg (m ((c : Thread nD τ).loc main_arg3)) ?_
  blk_ext [e3]
  all_goals first | rfl | (show _ = _ ; omega)

theorem dh_at (c : Dev nD) (t : Fin cfg0.N) (r d : Fin 1024) :
    (iblk m c 4 t : Vec Ideal S1024x1024 .f32) (ix2 r d)
      = (m ((c : Thread nD τ).loc main_arg4) : FVec Ideal S4096x1024 .f32) (ix2 (at4 (tile t) r) d) := by
  blk_simp [iblk, V]
  refine congrArg (m ((c : Thread nD τ).loc main_arg4)) ?_
  blk_ext [e4]
  all_goals first | rfl | (show t.val / 4 * 1024 + r.val = 1024 * (t.val / 4) + r.val; omega)

/-- The accumulator at the last column block holds the tile's rows of the product's gradient. -/
theorem acc_at (c : Dev nD) (t : Fin cfg0.N) (ht : t.val % 4 = 3) (r d : Fin 1024) :
    (outsAt0 m c t.val t.isLt).2.2 (ix2 r d)
      = dxn (m ((c : Thread nD τ).loc main_arg0)) (m ((c : Thread nD τ).loc main_arg1)) (at4 (tile t) r) d := by
  rw [acc_eq m c t ht r d]
  unfold dxn part prod
  refine Finset.sum_congr rfl fun s _ => Finset.sum_congr rfl fun j _ => ?_
  have hs := s.isLt
  have ha : (⟨(4 * (t.val / 4) + s.val) % 4, Nat.mod_lt _ (by decide)⟩ : Fin 4) = s := Fin.ext (by show (4 * (t.val / 4) + s.val) % 4 = s.val; omega)
  have hb : tile ⟨4 * (t.val / 4) + s.val, Pipeline.run_point_lt_of_flush t ht s⟩ = tile t := Fin.ext (by show (4 * (t.val / 4) + s.val) / 4 = t.val / 4; omega)
  refine congrArg₂ (· * ·) ((u_at m c _ r j).trans ?_) ((w_at m c _ d j).trans ?_)
  · exact congrArg (m ((c : Thread nD τ).loc main_arg0)) (by rw [hb]; exact congrArg (fun b => ix3 b (at4 (tile t) r) j) ha)
  · exact congrArg (m ((c : Thread nD τ).loc main_arg1)) (congrArg (fun b => ix3 b d j) ha)

/-- The input's gradient after the whole grid. -/
theorem finalX (c : Dev nD) : (dats m 0 c).arrAt 5 cfg0.N = resultX (dxn (m ((c : Thread nD τ).loc main_arg0)) (m ((c : Thread nD τ).loc main_arg1)))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  blk_simp
  rw [after0_5, out_eq m c t ht]
  obtain ⟨r, d, rfl⟩ : ∃ (r d : Fin 1024), y = ix2 r d := ⟨y 0, y 1, eq_ix2 y⟩
  have hy : (win0_5.blk t).view.emb (ix2 r d) = ix2 (at4 (tile t) r) d := by
    blk_ext [e5]
    all_goals first | rfl | (show t.val / 4 * 1024 + r.val = 1024 * (t.val / 4) + r.val; omega)
  refine Eq.trans ?_ (congrArg (resultX _ _ _ _) hy).symm
  exact tile_input _ _ _ _ _ _ _ _ (at4 (tile t) r) r d (fun k => acc_at m c t ht r k) (fun k => h_at m c t r k) (fun k => g_at m c t k) (dh_at m c t r d)

/-- What a point adds to the gain's gradient: a row tile's products at the tile's last column block. -/
def gpart (c : Dev nD) (t : Fin cfg0.N) : S1x1024.Idx → EReal := fun i =>
  if t.val % 4 = 3 then gtile (dxn (m ((c : Thread nD τ).loc main_arg0)) (m ((c : Thread nD τ).loc main_arg1))) (m ((c : Thread nD τ).loc main_arg2)) (at4 (tile t)) (i 1) else 0

theorem gzero_apply (i : S1x1024.Idx) : k0_pay3 (F := Ideal) i = (0 : EReal) := zero_f32

/-- The gain's gradient at the last point. -/
theorem gain_all (c : Dev nD) (t : Fin cfg0.N) (ht : t.val % 16 = 15) (d : Fin 1024) :
    (outsAt0 m c t.val t.isLt).2.1 (ix2 0 d) = ∑ s : Fin 16, gpart m c ⟨16 * (t.val / 16) + s.val, Pipeline.run_point_lt_of_flush t ht s⟩ (ix2 0 d) := by
  have h := Pipeline.eq_sum_fin_of_reset_step_apply_of_flush (M := EReal) (fun n h => ((outsAt0 m c n h).2.1 : S1x1024.Idx → EReal)) 16 (fun _ => 0) (gpart m c)
    (fun t h i => by
      show (outsAt0 m c t.val t.isLt).2.1 i = _
      rw [outsAt0_A m c t (by omega) h (by omega)]; frame_out
      rw [gzero_apply, gpart, if_neg (by omega), zero_add])
    (fun t h i => by
      obtain ⟨a, d, rfl⟩ : ∃ (a : Fin 1) (d : Fin 1024), i = ix2 a d := ⟨i 0, i 1, eq_ix2 i⟩
      obtain rfl : a = 0 := Subsingleton.elim _ _
      show (outsAt0 m c t.val t.isLt).2.1 (ix2 0 d) = _
      by_cases h3 : t.val % 4 = 3
      · rw [gain_eq m c t h3]
        refine (tile_gain (dxn (m ((c : Thread nD τ).loc main_arg0)) (m ((c : Thread nD τ).loc main_arg1))) (m ((c : Thread nD τ).loc main_arg2)) _ _ _ (at4 (tile t)) d
          (fun r => acc_at m c t h3 r d) (fun r k => h_at m c t r k)).trans ?_
        rw [gpart, if_pos h3]
      · rw [gpart, if_neg h3, add_zero]
        by_cases h0 : t.val % 4 = 0
        · rw [outsAt0_D m c t h0 h h3]; frame_out; rfl
        · rw [outsAt0_B m c t h0 h h3]; frame_out; rfl)
    t ht (ix2 0 d)
  exact h.trans (zero_add _)

/-- The gain's gradient after the whole grid. -/
theorem finalG (c : Dev nD) : (dats m 0 c).arrAt 6 cfg0.N = resultG (dxn (m ((c : Thread nD τ).loc main_arg0)) (m ((c : Thread nD τ).loc main_arg1)))
    (m ((c : Thread nD τ).loc main_arg2)) := by
  refine (dats m 0 c).arrAt_eq_of_covers 6 _ (by decide +kernel) fun t hf y => ?_
  have ht := (flush0_6 t).mp hf
  blk_simp
  rw [after0_6]
  obtain ⟨a, d, rfl⟩ : ∃ (a : Fin 1) (d : Fin 1024), y = ix2 a d := ⟨y 0, y 1, eq_ix2 y⟩
  obtain rfl : a = 0 := Subsingleton.elim _ _
  have hy : (win0_6.blk t).view.emb (ix2 0 d) = ix2 0 d := by
    blk_ext [e6]
    all_goals first | rfl | (show _ = _ ; omega)
  refine (gain_all m c t ht d).trans ?_
  refine Eq.trans ?_ (congrArg (resultG _ _) hy).symm
  unfold resultG
  refine (sum_blocks 4 4 fun s : Fin 16 => _).trans ?_
  refine Eq.trans ?_ (sum_blocks 4 1024 fun r : Fin 4096 => _).symm
  have h15 : t.val = 15 := by have h : t.val < 16 := t.isLt; omega
  refine Finset.sum_congr rfl fun a _ => ?_
  have ha := a.isLt
  rw [Fin.sum_univ_four]
  have hz : ∀ (n : ℕ) (hn : n < cfg0.N), n % 4 ≠ 3 → gpart m c ⟨n, hn⟩ (ix2 0 d) = 0 := fun n hn h => by rw [gpart, if_neg h]
  rw [hz _ _ (by show (16 * (t.val / 16) + (4 * a.val + 0)) % 4 ≠ 3; omega), hz _ _ (by show (16 * (t.val / 16) + (4 * a.val + 1)) % 4 ≠ 3; omega),
    hz _ _ (by show (16 * (t.val / 16) + (4 * a.val + 2)) % 4 ≠ 3; omega), zero_add, zero_add, zero_add, gpart,
    if_pos (by show (16 * (t.val / 16) + (4 * a.val + 3)) % 4 = 3; omega)]
  have hb : ∀ h, tile ⟨16 * (t.val / 16) + (4 * a.val + 3), h⟩ = a := fun h => Fin.ext (by show (16 * (t.val / 16) + (4 * a.val + 3)) / 4 = a.val; omega)
  exact congrArg (fun b => gtile (dxn (m ((c : Thread nD τ).loc main_arg0)) (m ((c : Thread nD τ).loc main_arg1))) (m ((c : Thread nD τ).loc main_arg2)) (at4 b) d) (hb _)

/-- The kernel's run: its results hold the two gradients, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = resultX (dxn (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
      ∧ r.2.mem ((c.tc : Thread nD τ).loc main_v0_1) = resultG (dxn (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (finalX m c), (h c).2.1.trans (finalG m c), (h c).2.2⟩) (Value.run_blocks m g)

end Cert.Kernel2Ideal.Dxn

end
-- ==== Proof.FfnUp.lean ====
module

public import proofs.«01_k».proof.Proof.Gen.Kernel6Ideal.Value
public import proofs.«01_k».proof.Proof.Gen.Reference6Ideal.Read
public import proofs.«01_k».proof.Proof.Gen.Reference6Ideal.Run
public import proofs.«01_k».proof.Proof.FfnDxn

@[expose] public section

set_option maxRecDepth 16384

noncomputable section

/-! # The feed-forward block's first product, of the normed stream -/

namespace Cert.Kernel6Ideal.Up

open Cert.Kernel6Ideal Cert.Kernel6Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products Cert.RmsRow
open Idealize.ShloMosaic.Pipeline (Dat Cfg Window)
open Cert.Kernel2Ideal.Dxn (row)

/-- One entry of a normed tile. -/
theorem normed_apply (h : FVec Ideal S1024x1024 .f32) (g : FVec Ideal S1x1024 .f32) (r k : Fin 1024) :
    mulf (Cert.Kernel2Ideal.Gen.k0_pay5 (F := Ideal) h) (broadcastTo S1024x1024 g broadcasts_S1x1024_S1024x1024) (ix2 r k)
      = h (ix2 r k) * root (fun l => h (ix2 r l)) * g (ix2 0 k) :=
  congrArg₂ (· * ·) (Cert.Kernel2Ideal.Dxn.xhat_apply h r k) (Cert.Kernel2Ideal.Dxn.tall_apply g r k)

/-- One entry of the block. -/
theorem pay_apply (h : Vec Ideal S1024x1024 .f32) (g : Vec Ideal S1x1024 .f32) (w : Vec Ideal S1x1024x1408 .bf16) (r : Fin 1024) (n : Fin 1408) :
    k0_pay1 h g w (ix2 r n) = ∑ k : Fin 1024, h (ix2 r k) * root (fun l => h (ix2 r l)) * g (ix2 0 k) * w (ix3 (0 : Fin 1) k n) := by
  refine (rows_cols (M := 1024) (K := 1024) (N := 1408) none
    (truncf .bf16 (mulf (Cert.Kernel2Ideal.Gen.k0_pay5 (F := Ideal) h) (broadcastTo S1024x1024 g broadcasts_S1x1024_S1024x1024)) bitsLt_bf16_f32)
    (shapeCast S1024x1408 w shapeCasts_S1x1024x1408_S1024x1408) r n).trans ?_
  refine Finset.sum_congr rfl fun k _ => congrArg₂ (· * ·) (normed_apply h g r k) ?_
  exact Cert.Kernel2Ideal.Dxn.drop_apply w k n

variable (m : (ℓ : Loc nD τ sig) → Buf (Elt Ideal) ℓ)

theorem e0 : ∀ t : Fin cfg0.N, win0_0.index t = ![t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val / 4, t.val % 4] := (by decide +kernel : ∀ t : Fin grid0.N, _)

/-- The weights' blocks side by side. -/
def side (w : FVec Ideal S4x1024x1408 .bf16) (k : Fin 1024) (n : Fin 5632) : EReal :=
  w (ix3 ⟨n.val / 1408, by have := n.isLt; omega⟩ k ⟨n.val % 1408, Nat.mod_lt _ (by decide)⟩)

/-- The result array: the normed rows times the columns of the weights. -/
def result (h : FVec Ideal S4096x1024 .f32) (w : FVec Ideal S4x1024x1408 .bf16) (g : FVec Ideal S1x1024 .f32) : FVec Ideal S4096x5632 .bf16 :=
  fun i => ∑ k : Fin 1024, h (ix2 (i 0) k) * root (row h (i 0)) * g (ix2 0 k) * side w k (i 1)

/-- A row of a tile is a row of the array. -/
def rowOf (t : Fin cfg0.N) (r : Fin 1024) : Fin 4096 := ⟨1024 * (t.val / 4) + r.val, by have h : t.val < 16 := t.isLt; have := r.isLt; omega⟩
/-- A column of a tile is a column of the array. -/
def colOf (t : Fin cfg0.N) (n : Fin 1408) : Fin 5632 := ⟨1408 * (t.val % 4) + n.val, by have := n.isLt; omega⟩

theorem h_at (c : Dev nD) (t : Fin cfg0.N) (r k : Fin 1024) :
    (iblk m c 0 t : Vec Ideal S1024x1024 .f32) (ix2 r k) = (m ((c : Thread nD τ).loc main_arg0) : FVec Ideal S4096x1024 .f32) (ix2 (rowOf t r) k) := by
  blk_simp [iblk, V]
  refine congrArg (m ((c : Thread nD τ).loc main_arg0)) ?_
  blk_ext [e0]
  all_goals first | rfl | (show t.val / 4 * 1024 + r.val = 1024 * (t.val / 4) + r.val; omega)

theorem w_at (c : Dev nD) (t : Fin cfg0.N) (k : Fin 1024) (n : Fin 1408) :
    (iblk m c 1 t : Vec Ideal S1x1024x1408 .bf16) (ix3 (0 : Fin 1) k n)
      = (m ((c : Thread nD τ).loc main_arg1) : FVec Ideal S4x1024x1408 .bf16) (ix3 ⟨t.val % 4, Nat.mod_lt _ (by decide)⟩ k n) := by
  blk_simp [iblk, V]
  refine congrArg (m ((c : Thread nD τ).loc main_arg1)) ?_
  blk_ext [e1]
  all_goals first | rfl | (show _ = _ ; omega)

theorem g_at (c : Dev nD) (t : Fin cfg0.N) (k : Fin 1024) :
    (iblk m c 2 t : Vec Ideal S1x1024 .f32) (ix2 0 k) = (m ((c : Thread nD τ).loc main_arg2) : FVec Ideal S1x1024 .f32) (ix2 0 k) := by
  blk_simp [iblk, V]
  refine congrArg (m ((c : Thread nD τ).loc main_arg2)) ?_
  blk_ext [e2]
  all_goals first | rfl | (show _ = _ ; omega)

/-- A tile's column of the weights is a column of the blocks laid side by side. -/
theorem side_at (w : FVec Ideal S4x1024x1408 .bf16) (t : Fin cfg0.N) (k : Fin 1024) (n : Fin 1408) :
    side w k (colOf t n) = w (ix3 ⟨t.val % 4, Nat.mod_lt _ (by decide)⟩ k n) := by
  have hn := n.isLt
  unfold side colOf
  refine congrArg w (funext fun a => Fin.ext ?_)
  match a with
  | ⟨0, _⟩ => show (1408 * (t.val % 4) + n.val) / 1408 = t.val % 4; omega
  | ⟨1, _⟩ => rfl
  | ⟨2, _⟩ => show (1408 * (t.val % 4) + n.val) % 1408 = n.val; omega

/-- A tile of the result, from tiles that agree with the arrays. -/
theorem tile_result (h : FVec Ideal S4096x1024 .f32) (w : FVec Ideal S4x1024x1408 .bf16) (g : FVec Ideal S1x1024 .f32)
    (hb : Vec Ideal S1024x1024 .f32) (wb : Vec Ideal S1x1024x1408 .bf16) (gb : Vec Ideal S1x1024 .f32) (R : Fin 4096) (N : Fin 5632) (r : Fin 1024) (n : Fin 1408)
    (hh : ∀ k, hb (ix2 r k) = h (ix2 R k)) (hw : ∀ k, wb (ix3 0 k n) = side w k N) (hg : ∀ k, gb (ix2 0 k) = g (ix2 0 k)) :
    k0_pay1 hb gb wb (ix2 r n) = result h w g (ix2 R N) := by
  refine (pay_apply hb gb wb r n).trans (Finset.sum_congr rfl fun k _ => ?_)
  rw [hw k, hg k, hh k, show (fun l => hb (ix2 r l)) = row h R from funext hh]

theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  obtain ⟨r, n, rfl⟩ : ∃ (r : Fin 1024) (n : Fin 1408), y = ix2 r n := ⟨y 0, y 1, eq_ix2 y⟩
  have hy : (win0_3.blk t).view.emb (ix2 r n) = ix2 (rowOf t r) (colOf t n) := by
    blk_ext [e3]
    · show t.val / 4 * 1024 + r.val = 1024 * (t.val / 4) + r.val; omega
    · show t.val % 4 * 1408 + n.val = 1408 * (t.val % 4) + n.val; omega
  refine Eq.trans ?_ (congrArg (result _ _ _) hy).symm
  exact tile_result _ _ _ _ _ _ (rowOf t r) (colOf t n) r n (fun k => h_at m c t r k) (fun k => (w_at m c t k n).trans (side_at _ t k n).symm) (fun k => g_at m c t k)

/-- The kernel's run: its result holds the products, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Value.run_blocks m g)

end Cert.Kernel6Ideal.Up

namespace Cert.Reference6Ideal.Up

open Cert.Reference6Ideal Cert.Reference6Ideal.Gen Cert.Reference6Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Products Cert.RmsRow
open Cert.Kernel2Ideal.Dxn (row)
open Cert.Kernel6Ideal.Up (result side)

variable (h : FVec Ideal S4096x1024 .f32) (w : FVec Ideal S4x1024x1408 .bf16) (g : FVec Ideal S1x1024 .f32)

/-- The mean square of a row. -/
theorem ms_at (r : Fin 4096) : val_main_v6 (F := Ideal) h (ix2 r 0) = ms (row h r) := by
  refine congrArg (· + Ideal.ofBits .f32 0x358637BD#32) (congrArg (Ideal.div · (Ideal.ofBits .f32 0x44800000#32)) ?_)
  rw [val_main_v2_apply]
  refine (val_main_v1_apply h _).trans ?_
  rw [show (val_main_cst (F := Ideal)) (Shape.Idx.first h_S_) = (0 : EReal) from zero_f32, zero_add]
  exact Finset.sum_congr rfl fun k _ => congrArg (fun i => h i * h i) (funext fun a => by match a with | ⟨0, _⟩ => rfl | ⟨1, _⟩ => rfl)

theorem root_at (r : Fin 4096) : val_main_v7 (F := Ideal) h (ix2 r 0) = root (row h r) := congrArg Ideal.rsqrt (ms_at h r)

/-- The normed row. -/
theorem normed_at (r : Fin 4096) (k : Fin 1024) : val_main_v11 (F := Ideal) h g (ix2 r k) = h (ix2 r k) * root (row h r) * g (ix2 0 k) := by
  have hi : idx_main_v8 (ix2 r k) = ix2 r 0 := funext fun a => by match a with | ⟨0, _⟩ => rfl | ⟨1, _⟩ => rfl
  have hj : idx_main_v10 (ix2 r k) = ix2 0 k := funext fun a => by match a with | ⟨0, _⟩ => rfl | ⟨1, _⟩ => rfl
  rw [val_main_v11_apply, val_main_v9_apply, val_main_v8_apply, val_main_v10_apply, hi, hj, root_at]; rfl

/-- The weights laid side by side. -/
theorem side_at (k : Fin 1024) (n : Fin 5632) : val_main_v14 (F := Ideal) w (ix2 k n) = side w k n := by
  rw [val_main_v14_apply, val_main_v13_apply, val_main_v12_apply]
  unfold side
  refine congrArg w (funext fun a => Fin.ext ?_)
  have hk := k.isLt; have hn := n.isLt
  match a with
  | ⟨0, _⟩ => show (k.val * 5632 + n.val) / 1408 % 4 = n.val / 1408; omega
  | ⟨1, _⟩ => show (k.val * 5632 + n.val) / 5632 = k.val; omega
  | ⟨2, _⟩ => show (k.val * 5632 + n.val) % 1408 = n.val % 1408; omega

/-- The reference's entry. -/
theorem at_entry (r : Fin 4096) (n : Fin 5632) : val_main_v16 (F := Ideal) h w g (ix2 r n) = result h w g (ix2 r n) := by
  rw [val_main_v16_apply]
  refine (val_main_v15_apply h w g _).trans (Finset.sum_congr rfl fun k _ => congrArg₂ (· * ·) ?_ ?_)
  · exact (congrArg (val_main_v11 (F := Ideal) h g) (funext fun a => by match a with | ⟨0, _⟩ => rfl | ⟨1, _⟩ => rfl)).trans (normed_at h g r k)
  · exact (congrArg (val_main_v14 (F := Ideal) w) (funext fun a => by match a with | ⟨0, _⟩ => rfl | ⟨1, _⟩ => rfl)).trans (side_at w k n)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Value.run (F := Ideal) m g)

/-- The reference's run: its result holds the same products. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v16) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ⟨(h c).1.trans ((val_main_v16_eq _ _ _).trans (funext fun y => ?_)), (h c).2⟩) (Value.run (F := Ideal) m g)
  obtain ⟨a, b, rfl⟩ : ∃ (a : Fin 4096) (b : Fin 5632), y = ix2 a b := ⟨y 0, y 1, eq_ix2 y⟩
  exact at_entry _ _ _ a b

end Cert.Reference6Ideal.Up

end
-- ==== Proof.FfnDown.lean ====
module

public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.Value
public import Idealize.ShloMosaic.Lib.Pipeline.ValueKit
public import proofs.«01_k».proof.Proof.Products
public import Idealize.ShloMosaic.Lib.Tactic

@[expose] public section

set_option maxRecDepth 16384

noncomputable section

/-! # The feed-forward block's second product, added to the residual stream -/

namespace Cert.Kernel7Ideal.Down

open Cert.Kernel7Ideal Cert.Kernel7Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products
open Idealize.ShloMosaic.Pipeline (Dat Cfg Window)

/-- One entry of the block. -/
theorem pay_apply (x : Vec Ideal S1024x2816 .bf16) (w : Vec Ideal S1x2816x1024 .bf16) (h : Vec Ideal S1024x1024 .f32) (r d : Fin 1024) :
    k0_pay1 x w h (ix2 r d) = h (ix2 r d) + ∑ f : Fin 2816, x (ix2 r f) * w (ix3 (0 : Fin 1) f d) := by
  unfold k0_pay1
  rw [addf_apply]
  refine (add_comm _ _).trans (congrArg (h (ix2 r d) + ·) ((rows_cols (M := 1024) (K := 2816) (N := 1024) none x
    (shapeCast S2816x1024 w shapeCasts_S1x2816x1024_S2816x1024) r d).trans (Finset.sum_congr rfl fun f _ => congrArg (x (ix2 r f) * ·) ?_)))
  exact shapeCast_apply w shapeCasts_S1x2816x1024_S2816x1024 (ix2 f d) (ix3 0 f d) (by
    rw [Shape.rowMajor_val_three, Shape.rowMajor_val_two]; show (0 * 2816 + f.val) * 1024 + d.val = f.val * 1024 + d.val; omega)

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- The result array: the residual stream plus rows of the activations times columns of the weights. -/
def result (x : FVec Ideal S4096x2816 .bf16) (w : FVec Ideal S1x2816x1024 .bf16) (h : FVec Ideal S4096x1024 .f32) : FVec Ideal S4096x1024 .f32 :=
  fun i => h i + ∑ f : Fin 2816, x (ix2 (i 0) f) * w (ix3 (0 : Fin 1) f (i 1))

/-- A row of a tile is a row of the array. -/
def at4 (t : Fin cfg0.N) (r : Fin 1024) : Fin 4096 := ⟨1024 * t.val + r.val, by have h : t.val < 4 := t.isLt; have := r.isLt; omega⟩

theorem x_at (c : Dev nD) (t : Fin cfg0.N) (r : Fin 1024) (f : Fin 2816) :
    (iblk m c 0 t : Vec Ideal S1024x2816 .bf16) (ix2 r f) = (m ((c : Thread nD τ).loc main_arg0) : FVec Ideal S4096x2816 .bf16) (ix2 (at4 t r) f) := by
  blk_simp [iblk, V]
  refine congrArg (m ((c : Thread nD τ).loc main_arg0)) ?_
  blk_ext [e0]
  all_goals first | rfl | (show t.val * 1024 + r.val = 1024 * t.val + r.val; omega)

theorem w_at (c : Dev nD) (t : Fin cfg0.N) (f : Fin 2816) (d : Fin 1024) :
    (iblk m c 1 t : Vec Ideal S1x2816x1024 .bf16) (ix3 (0 : Fin 1) f d) = (m ((c : Thread nD τ).loc main_arg1) : FVec Ideal S1x2816x1024 .bf16) (ix3 0 f d) := by
  blk_simp [iblk, V]
  refine congrArg (m ((c : Thread nD τ).loc main_arg1)) ?_
  blk_ext [e1]
  all_goals first | rfl | (show _ = _ ; omega)

theorem h_at (c : Dev nD) (t : Fin cfg0.N) (r d : Fin 1024) :
    (iblk m c 2 t : Vec Ideal S1024x1024 .f32) (ix2 r d) = (m ((c : Thread nD τ).loc main_arg2) : FVec Ideal S4096x1024 .f32) (ix2 (at4 t r) d) := by
  blk_simp [iblk, V]
  refine congrArg (m ((c : Thread nD τ).loc main_arg2)) ?_
  blk_ext [e2]
  all_goals first | rfl | (show t.val * 1024 + r.val = 1024 * t.val + r.val; omega)

/-- A tile of the result, from tiles that agree with the arrays. -/
theorem tile_result (x : FVec Ideal S4096x2816 .bf16) (w : FVec Ideal S1x2816x1024 .bf16) (h : FVec Ideal S4096x1024 .f32)
    (xb : Vec Ideal S1024x2816 .bf16) (wb : Vec Ideal S1x2816x1024 .bf16) (hb : Vec Ideal S1024x1024 .f32) (R : Fin 4096) (r d : Fin 1024)
    (hx : ∀ f, xb (ix2 r f) = x (ix2 R f)) (hw : ∀ f, wb (ix3 0 f d) = w (ix3 0 f d)) (hh : hb (ix2 r d) = h (ix2 R d)) :
    k0_pay1 xb wb hb (ix2 r d) = result x w h (ix2 R d) :=
  (pay_apply xb wb hb r d).trans (congrArg₂ (· + ·) hh (Finset.sum_congr rfl fun f _ => congrArg₂ (· * ·) (hx f) (hw f)))

theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  obtain ⟨r, d, rfl⟩ : ∃ (r d : Fin 1024), y = ix2 r d := ⟨y 0, y 1, eq_ix2 y⟩
  have hy : (win0_3.blk t).view.emb (ix2 r d) = ix2 (at4 t r) d := by
    blk_ext [e3]
    all_goals first | rfl | (show t.val * 1024 + r.val = 1024 * t.val + r.val; omega)
  refine Eq.trans ?_ (congrArg (result _ _ _) hy).symm
  exact tile_result _ _ _ _ _ _ (at4 t r) r d (fun f => x_at m c t r f) (fun f => w_at m c t f d) (h_at m c t r d)

/-- The kernel's run: its result holds the sums, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Value.run_blocks m g)

end Cert.Kernel7Ideal.Down

namespace Cert.Reference7Ideal.Down

open Cert.Reference7Ideal Cert.Reference7Ideal.Gen Cert.Reference7Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Kernel7Ideal.Down (result)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Value.run (F := Ideal) m g)

/-- The reference's entry. -/
theorem at_entry (x : FVec Ideal S4096x2816 .bf16) (w : FVec Ideal S1x2816x1024 .bf16) (h : FVec Ideal S4096x1024 .f32) (r : Fin 4096) (d : Fin 1024) :
    val_main_v4 (F := Ideal) x w h (ix2 r d) = result x w h (ix2 r d) := by
  rw [val_main_v4_apply]
  refine congrArg (h (ix2 r d) + ·) ((val_main_v3_apply x w _).trans (Finset.sum_congr rfl fun f _ => congrArg₂ (· * ·) (congrArg x ?_) ?_))
  · funext a; match a with | ⟨0, _⟩ => rfl | ⟨1, _⟩ => rfl
  · rw [val_main_v2_apply, val_main_v1_apply]
    refine congrArg w (funext fun a => Fin.ext ?_)
    have hd := d.isLt
    have hf := f.isLt
    match a with
    | ⟨0, _⟩ => rfl
    | ⟨1, _⟩ => show (f.val * 1024 + d.val) / 1024 % 2816 = f.val; omega
    | ⟨2, _⟩ => show (f.val * 1024 + d.val) % 1024 = d.val; omega

/-- The reference's run: its result holds the same sums. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v4) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ⟨(h c).1.trans ((val_main_v4_eq _ _ _).trans (funext fun y => ?_)), (h c).2⟩) (Value.run (F := Ideal) m g)
  obtain ⟨a, b, rfl⟩ : ∃ (a : Fin 4096) (b : Fin 1024), y = ix2 a b := ⟨y 0, y 1, eq_ix2 y⟩
  exact at_entry _ _ _ a b

end Cert.Reference7Ideal.Down

end
-- ==== Proof.DwupPlane.lean ====
module

public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import Idealize.ShloMosaic.Lib.Claim
public import Idealize.ShloMosaic.Lib.Pipeline.Value
public import Idealize.ShloMosaic.Lib.VecWindow
public import Idealize.ShloMosaic.Lib.WholeRead
public import Idealize.ShloMosaic.Lib.ValueIdxCore

@[expose] public section

set_option maxRecDepth 16384

noncomputable section

/-! # The gradient of the first weight: one grid point's run

A point of the first column block norms a row tile and keeps it in a plane of the scratch; every point multiplies the
plane of its row tile, and a sum over the row tiles is kept in the other scratch. -/

namespace Cert.Kernel3Ideal.Dwup

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is in the first column block. -/
abbrev isNew (i : grid0.Coords) : Prop := k0_cond1 i = 1#1
/-- The point is of the first row tile. -/
abbrev isFirst (i : grid0.Coords) : Prop := (Scalar.cmpi .ne (Scalar.extui (Scalar.cmpi .eq (BitVec.ofNat 32 (i 2).val) 0#32)) 0#32) = 1#1
/-- The point is of the last row tile. -/
abbrev isLast (i : grid0.Coords) : Prop := k0_cond3 i = 1#1

instance (i : grid0.Coords) : Decidable (isNew i) := inferInstanceAs (Decidable (_ = _))
instance (i : grid0.Coords) : Decidable (isFirst i) := inferInstanceAs (Decidable (_ = _))
instance (i : grid0.Coords) : Decidable (isLast i) := inferInstanceAs (Decidable (_ = _))

/-- The planes after the point. -/
def keep (i : grid0.Coords) (x0 : Vec F S1024x1024 .f32) (x2 : Vec F S1x1024 .f32) (d8 : Vec F S4x1024x1024 .bf16) : Vec F S4x1024x1024 .bf16 :=
  if isNew i then VecWindow.put (s := S4x1024x1024) d8 (k0_off1 i) S1x1024x1024.size (k0_pay1 x0 x2) else d8

/-- The plane of the point's row tile. -/
def plane (i : grid0.Coords) (d8 : Vec F S4x1024x1024 .bf16) : Vec F S1x1024x1024 .bf16 :=
  fun y => d8 ((Rect.unit (s := S4x1024x1024) (k0_off2 i) S1x1024x1024.size (k0_off2_inb i)).toLoadRect.idx y)

/-- The sum after the point. -/
def step (i : grid0.Coords) (x0 : Vec F S1024x1024 .f32) (x1 : Vec F S1x1024x1408 .bf16) (x2 : Vec F S1x1024 .f32) (d7 : Vec F S1024x1408 .f32) (d8 : Vec F S4x1024x1024 .bf16) : Vec F S1024x1408 .f32 :=
  k0_pay3 (plane i (keep i x0 x2 d8)) (if isFirst i then k0_pay2 else d7) x1

/-- The result block after the point. -/
def give (i : grid0.Coords) (d6 : Vec F S1x1024x1408 .f32) (a : Vec F S1024x1408 .f32) : Vec F S1x1024x1408 .f32 :=
  if isLast i then k0_pay4 a else d6

/-- A whole load of a whole buffer reads its contents. -/
theorem readAt_all {sg : RefSig} {s : Shape} {e : EltTy} {sp : Space} (arg : Memref sg .tc sp s e) (h : arg.IsWhole) (x : Vec F s e) {off : Fin s.rank → ℕ} (inb : ∀ a, off a + s.size a ≤ s.size a) :
    View.readAt (Elt F) arg.view (Rect.unit off s.size inb).toLoadRect (h.unread x) = x := by
  rw [View.readAt_full]; exact h.read_unread x

/-- A read of the part just written, whatever lies under it. -/
theorem readCov_part {sg : RefSig} {κ : Kind} {sp : Space} {s : Shape} {e : EltTy} (v : View sg κ sp s e) {off off' size : Fin s.rank → ℕ} (h : off' = off)
    (inb : ∀ a, off a + size a ≤ s.size a) (inb' : ∀ a, off' a + size a ≤ s.size a) (w : (Rect.unit off size inb).shape.Idx → Elt F e) :
    v.readCov (Val := Elt F) [⟨Rect.unit off size inb, w⟩] (Rect.unit off' size inb').toLoadRect = w := by
  subst h
  funext y
  unfold View.readCov
  rw [View.readAt_apply]
  refine View.read_writes_cons_unit_of_mem _ _ inb w [] _ y rfl fun a => ?_
  show off' a + 1 * (y a).val = off' a + (y a).val
  rw [Nat.one_mul]

theorem window_part {α : Type} {s : Shape} (x : s.Idx → α) {off off' size : Fin s.rank → ℕ} (h : off' = off)
    (inb : ∀ a, off a + size a ≤ s.size a) (inb' : ∀ a, off' a + size a ≤ s.size a) (w : (Rect.unit off size inb).shape.Idx → α) :
    VecWindow.window (VecWindow.put x off size w) off' size inb' = w := by
  subst h
  exact VecWindow.window_put_same x off' size inb w

theorem off_eq (i : grid0.Coords) : k0_off2 i = k0_off1 i := rfl

/-- The plane just kept is the one read back. -/
theorem plane_put (i : grid0.Coords) (inb : ∀ a, k0_off1 i a + S1x1024x1024.size a ≤ S4x1024x1024.size a) (d8 : Vec F S4x1024x1024 .bf16) (w : Vec F S1x1024x1024 .bf16) :
    plane i (VecWindow.put (s := S4x1024x1024) d8 (k0_off1 i) S1x1024x1024.size w) = w :=
  window_part (s := S4x1024x1024) d8 (off_eq i) inb (k0_off2_inb i) w

theorem plane_cov (i : grid0.Coords) (arg8 : Memref sig .tc .vmem S4x1024x1024 .bf16) (inb : ∀ a, k0_off1 i a + S1x1024x1024.size a ≤ S4x1024x1024.size a) (w : Vec F S1x1024x1024 .bf16) :
    arg8.view.readCov (Val := Elt F) [⟨Rect.unit (s := S4x1024x1024) (k0_off1 i) S1x1024x1024.size inb, w⟩] (Rect.unit (s := S4x1024x1024) (k0_off2 i) S1x1024x1024.size (k0_off2_inb i)).toLoadRect
      = w :=
  readCov_part arg8.view (off_eq i) inb (k0_off2_inb i) w

theorem plane_old (i : grid0.Coords) (arg8 : Memref sig .tc .vmem S4x1024x1024 .bf16) (harg8 : arg8.IsWhole) (d8 : Vec F S4x1024x1024 .bf16) :
    View.readAt (Elt F) arg8.view (Rect.unit (s := S4x1024x1024) (k0_off2 i) S1x1024x1024.size (k0_off2_inb i)).toLoadRect (harg8.unread d8) = plane i d8 :=
  funext fun y => Memref.IsWhole.readAt_unread harg8 d8 _ y

theorem sum3 {p p' : Vec F S1x1024x1024 .bf16} {a a' : Vec F S1024x1408 .f32} {x x' : Vec F S1x1024x1408 .bf16} (hp : p = p') (ha : a = a') (hx : x = x') :
    k0_pay3 p a x = k0_pay3 p' a' x' := by subst hp ha hx; rfl

theorem keep_new {i : grid0.Coords} (h : isNew i) (x0 : Vec F S1024x1024 .f32) (x2 : Vec F S1x1024 .f32) (d8 : Vec F S4x1024x1024 .bf16) :
    keep i x0 x2 d8 = VecWindow.put (s := S4x1024x1024) d8 (k0_off1 i) S1x1024x1024.size (k0_pay1 x0 x2) := if_pos h

theorem keep_old {i : grid0.Coords} (h : ¬isNew i) (x0 : Vec F S1024x1024 .f32) (x2 : Vec F S1x1024 .f32) (d8 : Vec F S4x1024x1024 .bf16) :
    keep i x0 x2 d8 = d8 := if_neg h

theorem step_new {i : grid0.Coords} (h : isNew i) (inb : ∀ a, k0_off1 i a + S1x1024x1024.size a ≤ S4x1024x1024.size a) (x0 : Vec F S1024x1024 .f32) (x1 : Vec F S1x1024x1408 .bf16) (x2 : Vec F S1x1024 .f32) (d7 : Vec F S1024x1408 .f32) (d8 : Vec F S4x1024x1024 .bf16) :
    step i x0 x1 x2 d7 d8 = k0_pay3 (k0_pay1 x0 x2) (if isFirst i then k0_pay2 else d7) x1 := by
  unfold step
  rw [keep_new h, plane_put i inb]

theorem step_old {i : grid0.Coords} (h : ¬isNew i) (x0 : Vec F S1024x1024 .f32) (x1 : Vec F S1x1024x1408 .bf16) (x2 : Vec F S1x1024 .f32) (d7 : Vec F S1024x1408 .f32) (d8 : Vec F S4x1024x1024 .bf16) :
    step i x0 x1 x2 d7 d8 = k0_pay3 (plane i d8) (if isFirst i then k0_pay2 else d7) x1 := by
  unfold step
  rw [keep_old h]

theorem give_last {i : grid0.Coords} (h : isLast i) (d6 : Vec F S1x1024x1408 .f32) (a : Vec F S1024x1408 .f32) : give i d6 a = k0_pay4 a := if_pos h
theorem give_not {i : grid0.Coords} (h : ¬isLast i) (d6 : Vec F S1x1024x1408 .f32) (a : Vec F S1024x1408 .f32) : give i d6 a = d6 := if_neg h

end Cert.Kernel3Ideal.Dwup

end
-- ==== Proof.DwupRun.lean ====
module

public import proofs.«01_k».proof.Proof.DwupPlane
public import Idealize.ShloMosaic.Lib.Claim
public import Idealize.ShloMosaic.Lib.Pipeline.Value
public import Idealize.ShloMosaic.Lib.VecWindow
public import Idealize.ShloMosaic.Lib.WholeRead
public import Idealize.ShloMosaic.Lib.ValueIdxCore

@[expose] public section

set_option maxRecDepth 16384

noncomputable section

namespace Cert.Kernel3Ideal.Dwup

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at any point. -/
theorem body_run (c : Dev nD) (i : grid0.Coords) (arg3 : Memref sig .tc .vmem S1024x1024 .f32) (harg3 : arg3.IsWhole) (arg4 : Memref sig .tc .vmem S1x1024x1408 .bf16) (harg4 : arg4.IsWhole) (arg5 : Memref sig .tc .vmem S1x1024 .f32) (harg5 : arg5.IsWhole)
    (arg6 : Memref sig .tc .vmem S1x1024x1408 .f32) (harg6 : arg6.IsWhole) (arg7 : Memref sig .tc .vmem S1024x1408 .f32) (harg7 : arg7.IsWhole) (arg8 : Memref sig .tc .vmem S4x1024x1024 .bf16) (harg8 : arg8.IsWhole)
    (x0 : Vec F S1024x1024 .f32) (x1 : Vec F S1x1024x1408 .bf16) (x2 : Vec F S1x1024 .f32) (d6 : Vec F S1x1024x1408 .f32) (d7 : Vec F S1024x1408 .f32) (d8 : Vec F S4x1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare d7 ∗ owns (c : Thread nD τ) arg8 fullShare d8
        ∗ (iprop(owns (c : Thread nD τ) arg3 fullShare x0 ∗ owns (c : Thread nD τ) arg4 fullShare x1 ∗ owns (c : Thread nD τ) arg5 fullShare x2
          ∗ owns (c : Thread nD τ) arg6 fullShare (give i d6 (step i x0 x1 x2 d7 d8)) ∗ owns (c : Thread nD τ) arg7 fullShare (step i x0 x1 x2 d7 d8)
          ∗ owns (c : Thread nD τ) arg8 fullShare (keep i x0 x2 d8)) -∗ K ⟨⟩))
      ⊢ wp frame (wpE (defs₀ (F := F)) Variants.none c none) E (cc0_ffn_dwup i arg3 harg3 arg4 harg4 arg5 harg5 arg6 harg6 arg7 harg7 arg8 harg8) K := by
  simp only [cc0_ffn_dwup_eq_skeleton]; unfold cc0_ffn_dwup_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf6
  obtain rfl := harg7.eq_unread hf7
  obtain rfl := harg8.eq_unread hf8
  by_cases hc0 : isNew i <;> by_cases hc1 : isFirst i <;> by_cases hc2 : isLast i <;>
    (sl_exec (disch := first | sl_exact hc0 | sl_exact hc1 | sl_exact hc2)
     sl_step
     iapply Hk
     isplitl [H0]
     · iexists _; isplitr
       swap; · iexact H0
       ipureintro; exact harg3.read_unread _
     isplitl [H1]
     · iexists _; isplitr
       swap; · iexact H1
       ipureintro; exact harg4.read_unread _
     isplitl [H2]
     · iexists _; isplitr
       swap; · iexact H2
       ipureintro; exact harg5.read_unread _
     isplitl [H6]
     · iexists _; isplitr
       swap; · iexact H6
       ipureintro
       first
       | (rw [give_not hc2]; exact harg6.read_unread _)
       | (rw [give_last hc2]
          refine (View.read_writes_full _ _ _ _ _).trans (congrArg k0_pay4 ?_)
          first
          | (rw [step_old hc0]
             refine (View.readCov_full _ _ _ _ _).trans (sum3 (plane_old i arg8 harg8 d8) ?_ (readAt_all arg4 harg4 x1 _)))
          | (rw [step_new hc0 (k0_off1_inb i hc0)]
             refine (View.readCov_full _ _ _ _ _).trans (sum3 ((plane_cov i arg8 (k0_off1_inb i hc0) _).trans (congrArg₂ k0_pay1 (readAt_all arg3 harg3 x0 _) (readAt_all arg5 harg5 x2 _))) ?_ (readAt_all arg4 harg4 x1 _)))
          first
          | (rw [if_neg hc1]; exact readAt_all arg7 harg7 d7 _)
          | (rw [if_pos hc1]; exact View.readCov_full _ _ _ _ _))
     isplitl [H7]
     · iexists _; isplitr
       swap; · iexact H7
       ipureintro
       first
       | (rw [step_old hc0]
          refine (View.read_writes_full _ _ _ _ _).trans (sum3 (plane_old i arg8 harg8 d8) ?_ (readAt_all arg4 harg4 x1 _)))
       | (rw [step_new hc0 (k0_off1_inb i hc0)]
          refine (View.read_writes_full _ _ _ _ _).trans (sum3 ((plane_cov i arg8 (k0_off1_inb i hc0) _).trans (congrArg₂ k0_pay1 (readAt_all arg3 harg3 x0 _) (readAt_all arg5 harg5 x2 _))) ?_ (readAt_all arg4 harg4 x1 _)))
       first
       | (rw [if_neg hc1]; exact readAt_all arg7 harg7 d7 _)
       | (rw [if_pos hc1]; exact View.readCov_full _ _ _ _ _)
     · iexists _; isplitr
       swap; · iexact H8
       ipureintro
       first
       | (rw [keep_old hc0]; exact harg8.read_unread _)
       | (rw [keep_new hc0]
          refine (View.read_writes_cons_put _ _ _ _ _ rfl).trans ?_
          rw [View.writes_nil, harg8.read_unread, readAt_all, readAt_all]))

end Cert.Kernel3Ideal.Dwup

end
-- ==== Proof.HgDwinPlane.lean ====
module

public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.DwupPlane
public import Idealize.ShloMosaic.Lib.Claim
public import Idealize.ShloMosaic.Lib.Pipeline.Value
public import Idealize.ShloMosaic.Lib.VecWindow
public import Idealize.ShloMosaic.Lib.WholeRead
public import Idealize.ShloMosaic.Lib.ValueIdxCore

@[expose] public section

set_option maxRecDepth 16384

noncomputable section

/-! # The gradient of the recurrent mixer's input weight: one grid point's run

The programs of this call and of the first weight's gradient differ by the width of a column block. A point of the first column block norms a row tile and keeps it in a plane of the scratch; every point multiplies the
plane of its row tile, and a sum over the row tiles is kept in the other scratch. -/

namespace Cert.Kernel10Ideal.HgDwin

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Dwup (readCov_part window_part)

variable {F : FTy → Type} [FloatOps F]

local notation "𝕄" => MT nD τ sig Unit (Elt F) ℕ (UR sig nD τ) ℕ

/-- The point is in the first column block. -/
abbrev isNew (i : grid0.Coords) : Prop := k0_cond1 i = 1#1
/-- The point is of the first row tile. -/
abbrev isFirst (i : grid0.Coords) : Prop := (Scalar.cmpi .ne (Scalar.extui (Scalar.cmpi .eq (BitVec.ofNat 32 (i 2).val) 0#32)) 0#32) = 1#1
/-- The point is of the last row tile. -/
abbrev isLast (i : grid0.Coords) : Prop := k0_cond3 i = 1#1

instance (i : grid0.Coords) : Decidable (isNew i) := inferInstanceAs (Decidable (_ = _))
instance (i : grid0.Coords) : Decidable (isFirst i) := inferInstanceAs (Decidable (_ = _))
instance (i : grid0.Coords) : Decidable (isLast i) := inferInstanceAs (Decidable (_ = _))

/-- The planes after the point. -/
def keep (i : grid0.Coords) (x0 : Vec F S1024x1024 .f32) (x2 : Vec F S1x1024 .f32) (d8 : Vec F S4x1024x1024 .bf16) : Vec F S4x1024x1024 .bf16 :=
  if isNew i then VecWindow.put (s := S4x1024x1024) d8 (k0_off1 i) S1x1024x1024.size (k0_pay1 x0 x2) else d8

/-- The plane of the point's row tile. -/
def plane (i : grid0.Coords) (d8 : Vec F S4x1024x1024 .bf16) : Vec F S1x1024x1024 .bf16 :=
  fun y => d8 ((Rect.unit (s := S4x1024x1024) (k0_off2 i) S1x1024x1024.size (k0_off2_inb i)).toLoadRect.idx y)

/-- The sum after the point. -/
def step (i : grid0.Coords) (x0 : Vec F S1024x1024 .f32) (x1 : Vec F S1x1024x1024 .bf16) (x2 : Vec F S1x1024 .f32) (d7 : Vec F S1024x1024 .f32) (d8 : Vec F S4x1024x1024 .bf16) : Vec F S1024x1024 .f32 :=
  k0_pay3 (plane i (keep i x0 x2 d8)) (if isFirst i then k0_pay2 else d7) x1

/-- The result block after the point. -/
def give (i : grid0.Coords) (d6 : Vec F S1x1024x1024 .f32) (a : Vec F S1024x1024 .f32) : Vec F S1x1024x1024 .f32 :=
  if isLast i then k0_pay4 a else d6

theorem off_eq (i : grid0.Coords) : k0_off2 i = k0_off1 i := rfl

/-- The plane just kept is the one read back. -/
theorem plane_put (i : grid0.Coords) (inb : ∀ a, k0_off1 i a + S1x1024x1024.size a ≤ S4x1024x1024.size a) (d8 : Vec F S4x1024x1024 .bf16) (w : Vec F S1x1024x1024 .bf16) :
    plane i (VecWindow.put (s := S4x1024x1024) d8 (k0_off1 i) S1x1024x1024.size w) = w :=
  window_part (s := S4x1024x1024) d8 (off_eq i) inb (k0_off2_inb i) w

theorem plane_cov (i : grid0.Coords) (arg8 : Memref sig .tc .vmem S4x1024x1024 .bf16) (inb : ∀ a, k0_off1 i a + S1x1024x1024.size a ≤ S4x1024x1024.size a) (w : Vec F S1x1024x1024 .bf16) :
    arg8.view.readCov (Val := Elt F) [⟨Rect.unit (s := S4x1024x1024) (k0_off1 i) S1x1024x1024.size inb, w⟩] (Rect.unit (s := S4x1024x1024) (k0_off2 i) S1x1024x1024.size (k0_off2_inb i)).toLoadRect
      = w :=
  readCov_part arg8.view (off_eq i) inb (k0_off2_inb i) w

theorem plane_old (i : grid0.Coords) (arg8 : Memref sig .tc .vmem S4x1024x1024 .bf16) (harg8 : arg8.IsWhole) (d8 : Vec F S4x1024x1024 .bf16) :
    View.readAt (Elt F) arg8.view (Rect.unit (s := S4x1024x1024) (k0_off2 i) S1x1024x1024.size (k0_off2_inb i)).toLoadRect (harg8.unread d8) = plane i d8 :=
  funext fun y => Memref.IsWhole.readAt_unread harg8 d8 _ y

theorem sum3 {p p' : Vec F S1x1024x1024 .bf16} {a a' : Vec F S1024x1024 .f32} {x x' : Vec F S1x1024x1024 .bf16} (hp : p = p') (ha : a = a') (hx : x = x') :
    k0_pay3 p a x = k0_pay3 p' a' x' := by subst hp ha hx; rfl

theorem keep_new {i : grid0.Coords} (h : isNew i) (x0 : Vec F S1024x1024 .f32) (x2 : Vec F S1x1024 .f32) (d8 : Vec F S4x1024x1024 .bf16) :
    keep i x0 x2 d8 = VecWindow.put (s := S4x1024x1024) d8 (k0_off1 i) S1x1024x1024.size (k0_pay1 x0 x2) := if_pos h

theorem keep_old {i : grid0.Coords} (h : ¬isNew i) (x0 : Vec F S1024x1024 .f32) (x2 : Vec F S1x1024 .f32) (d8 : Vec F S4x1024x1024 .bf16) :
    keep i x0 x2 d8 = d8 := if_neg h

theorem step_new {i : grid0.Coords} (h : isNew i) (inb : ∀ a, k0_off1 i a + S1x1024x1024.size a ≤ S4x1024x1024.size a) (x0 : Vec F S1024x1024 .f32) (x1 : Vec F S1x1024x1024 .bf16) (x2 : Vec F S1x1024 .f32) (d7 : Vec F S1024x1024 .f32) (d8 : Vec F S4x1024x1024 .bf16) :
    step i x0 x1 x2 d7 d8 = k0_pay3 (k0_pay1 x0 x2) (if isFirst i then k0_pay2 else d7) x1 := by
  unfold step
  rw [keep_new h, plane_put i inb]

theorem step_old {i : grid0.Coords} (h : ¬isNew i) (x0 : Vec F S1024x1024 .f32) (x1 : Vec F S1x1024x1024 .bf16) (x2 : Vec F S1x1024 .f32) (d7 : Vec F S1024x1024 .f32) (d8 : Vec F S4x1024x1024 .bf16) :
    step i x0 x1 x2 d7 d8 = k0_pay3 (plane i d8) (if isFirst i then k0_pay2 else d7) x1 := by
  unfold step
  rw [keep_old h]

theorem give_last {i : grid0.Coords} (h : isLast i) (d6 : Vec F S1x1024x1024 .f32) (a : Vec F S1024x1024 .f32) : give i d6 a = k0_pay4 a := if_pos h
theorem give_not {i : grid0.Coords} (h : ¬isLast i) (d6 : Vec F S1x1024x1024 .f32) (a : Vec F S1024x1024 .f32) : give i d6 a = d6 := if_neg h

end Cert.Kernel10Ideal.HgDwin

end
-- ==== Proof.HgDwinRun.lean ====
module

public import proofs.«01_k».proof.Proof.HgDwinPlane
public import Idealize.ShloMosaic.Lib.Claim
public import Idealize.ShloMosaic.Lib.Pipeline.Value
public import Idealize.ShloMosaic.Lib.VecWindow
public import Idealize.ShloMosaic.Lib.WholeRead
public import Idealize.ShloMosaic.Lib.ValueIdxCore

@[expose] public section

set_option maxRecDepth 16384

noncomputable section

namespace Cert.Kernel10Ideal.HgDwin

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Dwup (readAt_all)

variable {F : FTy → Type} [FloatOps F]

local notation "𝕄" => MT nD τ sig Unit (Elt F) ℕ (UR sig nD τ) ℕ

/-- The body at any point. -/
theorem body_run (c : Dev nD) (i : grid0.Coords) (arg3 : Memref sig .tc .vmem S1024x1024 .f32) (harg3 : arg3.IsWhole) (arg4 : Memref sig .tc .vmem S1x1024x1024 .bf16) (harg4 : arg4.IsWhole) (arg5 : Memref sig .tc .vmem S1x1024 .f32) (harg5 : arg5.IsWhole)
    (arg6 : Memref sig .tc .vmem S1x1024x1024 .f32) (harg6 : arg6.IsWhole) (arg7 : Memref sig .tc .vmem S1024x1024 .f32) (harg7 : arg7.IsWhole) (arg8 : Memref sig .tc .vmem S4x1024x1024 .bf16) (harg8 : arg8.IsWhole)
    (x0 : Vec F S1024x1024 .f32) (x1 : Vec F S1x1024x1024 .bf16) (x2 : Vec F S1x1024 .f32) (d6 : Vec F S1x1024x1024 .f32) (d7 : Vec F S1024x1024 .f32) (d8 : Vec F S4x1024x1024 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d6 ∗ owns (c : Thread nD τ) arg7 fullShare d7 ∗ owns (c : Thread nD τ) arg8 fullShare d8
        ∗ (iprop(owns (c : Thread nD τ) arg3 fullShare x0 ∗ owns (c : Thread nD τ) arg4 fullShare x1 ∗ owns (c : Thread nD τ) arg5 fullShare x2
          ∗ owns (c : Thread nD τ) arg6 fullShare (give i d6 (step i x0 x1 x2 d7 d8)) ∗ owns (c : Thread nD τ) arg7 fullShare (step i x0 x1 x2 d7 d8)
          ∗ owns (c : Thread nD τ) arg8 fullShare (keep i x0 x2 d8)) -∗ K ⟨⟩))
      ⊢ wp frame (wpE (defs₀ (F := F)) Variants.none c none) E (cc0_hg_dwin i arg3 harg3 arg4 harg4 arg5 harg5 arg6 harg6 arg7 harg7 arg8 harg8) K := by
  simp only [cc0_hg_dwin_eq_skeleton]; unfold cc0_hg_dwin_skel
  unfold owns
  iintro ⟨⟨%f0, %hf0, H0⟩, ⟨%f1, %hf1, H1⟩, ⟨%f2, %hf2, H2⟩, ⟨%f6, %hf6, H6⟩, ⟨%f7, %hf7, H7⟩, ⟨%f8, %hf8, H8⟩, Hk⟩
  obtain rfl := harg3.eq_unread hf0
  obtain rfl := harg4.eq_unread hf1
  obtain rfl := harg5.eq_unread hf2
  obtain rfl := harg6.eq_unread hf6
  obtain rfl := harg7.eq_unread hf7
  obtain rfl := harg8.eq_unread hf8
  by_cases hc0 : isNew i <;> by_cases hc1 : isFirst i <;> by_cases hc2 : isLast i <;>
    (sl_exec (disch := first | sl_exact hc0 | sl_exact hc1 | sl_exact hc2)
     sl_step
     iapply Hk
     isplitl [H0]
     · iexists _; isplitr
       swap; · iexact H0
       ipureintro; exact harg3.read_unread _
     isplitl [H1]
     · iexists _; isplitr
       swap; · iexact H1
       ipureintro; exact harg4.read_unread _
     isplitl [H2]
     · iexists _; isplitr
       swap; · iexact H2
       ipureintro; exact harg5.read_unread _
     isplitl [H6]
     · iexists _; isplitr
       swap; · iexact H6
       ipureintro
       first
       | (rw [give_not hc2]; exact harg6.read_unread _)
       | (rw [give_last hc2]
          refine (View.read_writes_full _ _ _ _ _).trans (congrArg k0_pay4 ?_)
          first
          | (rw [step_old hc0]
             refine (View.readCov_full _ _ _ _ _).trans (sum3 (plane_old i arg8 harg8 d8) ?_ (readAt_all arg4 harg4 x1 _)))
          | (rw [step_new hc0 (k0_off1_inb i hc0)]
             refine (View.readCov_full _ _ _ _ _).trans (sum3 ((plane_cov i arg8 (k0_off1_inb i hc0) _).trans (congrArg₂ k0_pay1 (readAt_all arg3 harg3 x0 _) (readAt_all arg5 harg5 x2 _))) ?_ (readAt_all arg4 harg4 x1 _)))
          first
          | (rw [if_neg hc1]; exact readAt_all arg7 harg7 d7 _)
          | (rw [if_pos hc1]; exact View.readCov_full _ _ _ _ _))
     isplitl [H7]
     · iexists _; isplitr
       swap; · iexact H7
       ipureintro
       first
       | (rw [step_old hc0]
          refine (View.read_writes_full _ _ _ _ _).trans (sum3 (plane_old i arg8 harg8 d8) ?_ (readAt_all arg4 harg4 x1 _)))
       | (rw [step_new hc0 (k0_off1_inb i hc0)]
          refine (View.read_writes_full _ _ _ _ _).trans (sum3 ((plane_cov i arg8 (k0_off1_inb i hc0) _).trans (congrArg₂ k0_pay1 (readAt_all arg3 harg3 x0 _) (readAt_all arg5 harg5 x2 _))) ?_ (readAt_all arg4 harg4 x1 _)))
       first
       | (rw [if_neg hc1]; exact readAt_all arg7 harg7 d7 _)
       | (rw [if_pos hc1]; exact View.readCov_full _ _ _ _ _)
     · iexists _; isplitr
       swap; · iexact H8
       ipureintro
       first
       | (rw [keep_old hc0]; exact harg8.read_unread _)
       | (rw [keep_new hc0]
          refine (View.read_writes_cons_put _ _ _ _ _ rfl).trans ?_
          rw [View.writes_nil, harg8.read_unread, readAt_all, readAt_all]))

end Cert.Kernel10Ideal.HgDwin

end
-- ==== Proof.HgDwinFrame.lean ====
module

public import proofs.«01_k».proof.Proof.DwupFrame
public import proofs.«01_k».proof.Proof.HgDwinRun
public import Idealize.ShloMosaic.Lib.Claim
public import Idealize.ShloMosaic.Lib.Pipeline.Value
public import Idealize.ShloMosaic.Lib.VecWindow
public import Idealize.ShloMosaic.Lib.WholeRead
public import Idealize.ShloMosaic.Lib.ValueIdxCore

@[expose] public section

set_option maxRecDepth 16384

noncomputable section

/-! # The gradient of the recurrent mixer's input weight: the run of the grid and the frame

What the sum and the kept planes hold after each point, the body's run at each point against it, and from these the run
of the whole grid. -/

namespace Cert.Kernel10Ideal.HgDwin

open Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Dwup (window_off)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem new_iff : ∀ t : Fin cfg0.N, isNew (grid0.coords t) ↔ t.val < 4 :=
  (by decide +kernel : ∀ t : Fin grid0.N, k0_cond1 (grid0.coords t) = 1#1 ↔ t.val < 4)
theorem first_iff : ∀ t : Fin cfg0.N, isFirst (grid0.coords t) ↔ t.val % 4 = 0 :=
  (by decide +kernel : ∀ t : Fin grid0.N, (Scalar.cmpi .ne (Scalar.extui (Scalar.cmpi .eq (BitVec.ofNat 32 (grid0.coords t 2).val) 0#32)) 0#32) = 1#1 ↔ t.val % 4 = 0)
theorem last_iff : ∀ t : Fin cfg0.N, isLast (grid0.coords t) ↔ t.val % 4 = 3 :=
  (by decide +kernel : ∀ t : Fin grid0.N, k0_cond3 (grid0.coords t) = 1#1 ↔ t.val % 4 = 3)
theorem off_at : ∀ t : Fin cfg0.N, k0_off1 (grid0.coords t) = ![t.val % 4, 0, 0] :=
  (by decide +kernel : ∀ t : Fin grid0.N, k0_off1 (grid0.coords t) = ![t.val % 4, 0, 0])
theorem idle_out : ∀ t : Fin cfg0.N, ¬t.val % 4 = 3 → cfg0.idle 3 (grid0.coords t) = true := by decide +kernel
theorem live_out : ∀ t : Fin cfg0.N, t.val % 4 = 3 → cfg0.idle 3 (grid0.coords t) = false := by decide +kernel
theorem points : cfg0.N = 16 := N_0

/-! ## The kept planes -/

/-- Points of one row tile read one plane. -/
theorem plane_congr (t s : Fin cfg0.N) (h : t.val % 4 = s.val % 4) (d8 : Vec F S4x1024x1024 .bf16) :
    plane (grid0.coords t) d8 = plane (grid0.coords s) d8 :=
  window_off (s := S4x1024x1024) d8 (by rw [off_eq, off_eq, off_at, off_at, h]) (k0_off2_inb _) (k0_off2_inb _)

/-- A plane kept at another row tile is not touched. -/
theorem plane_keep (t s : Fin cfg0.N) (h : s.val % 4 < t.val % 4) (d8 : Vec F S4x1024x1024 .bf16) (w : Vec F S1x1024x1024 .bf16) :
    plane (grid0.coords s) (VecWindow.put (s := S4x1024x1024) d8 (k0_off1 (grid0.coords t)) S1x1024x1024.size w) = plane (grid0.coords s) d8 :=
  VecWindow.window_put_of_disjoint (s := S4x1024x1024) d8 (k0_off1 (grid0.coords t)) S1x1024x1024.size (k0_off2 (grid0.coords s)) S1x1024x1024.size (k0_off2_inb _) w (0 : Fin 3)
    (Or.inl (by rw [off_eq, off_at, off_at]; show s.val % 4 + 1 ≤ t.val % 4; omega))

/-- The normed row tile a point of the first column block keeps. -/
def pl (c : Dev nD) (s : Fin cfg0.N) : Vec F S1x1024x1024 .bf16 := k0_pay1 (iblk m c 0 s) (iblk m c 2 s)

/-- The point of the first column block with a point's row tile. -/
def tile (t : Fin cfg0.N) : Fin cfg0.N := ⟨t.val % 4, Nat.lt_of_le_of_lt (Nat.mod_le _ _) t.isLt⟩

/-- The sum after each point. -/
def accAt (c : Dev nD) : (n : ℕ) → n < cfg0.N → Vec F S1024x1024 .f32
  | 0, h => k0_pay3 (pl m c (tile ⟨0, h⟩)) k0_pay2 (iblk m c 1 ⟨0, h⟩)
  | n + 1, h => k0_pay3 (pl m c (tile ⟨n + 1, h⟩)) (if (n + 1) % 4 = 0 then k0_pay2 else accAt c n (Nat.lt_of_succ_lt h)) (iblk m c 1 ⟨n + 1, h⟩)

/-- The planes kept up to a point. -/
def planes (c : Dev nD) (n : ℕ) (d8 : Vec F S4x1024x1024 .bf16) : Prop :=
  ∀ s : Fin cfg0.N, s.val < 4 → s.val ≤ n → plane (grid0.coords s) d8 = pl m c s

/-- What the scratches hold before position `n`. -/
def held (c : Dev nD) (n : ℕ) (d7 : Vec F S1024x1024 .f32) (d8 : Vec F S4x1024x1024 .bf16) : Prop :=
  ∀ (k : ℕ) (hk : k < cfg0.N), n = k + 1 → d7 = accAt m c k hk ∧ planes m c k d8

theorem acc_step (c : Dev nD) (t : Fin cfg0.N) (d7 : Vec F S1024x1024 .f32) (d8 : Vec F S4x1024x1024 .bf16) (h : held m c t.val d7 d8) :
    k0_pay3 (pl m c (tile t)) (if t.val % 4 = 0 then k0_pay2 else d7) (iblk m c 1 t) = accAt m c t.val t.isLt := by
  obtain ⟨n, hn⟩ := t
  cases n with
  | zero => rfl
  | succ n => rw [(h n (Nat.lt_of_succ_lt hn) rfl).1]; rfl

theorem step_eq (c : Dev nD) (t : Fin cfg0.N) (d7 : Vec F S1024x1024 .f32) (d8 : Vec F S4x1024x1024 .bf16) (h : held m c t.val d7 d8) :
    step (grid0.coords t) (iblk m c 0 t) (iblk m c 1 t) (iblk m c 2 t) d7 d8 = accAt m c t.val t.isLt := by
  refine Eq.trans ?_ (acc_step m c t d7 d8 h)
  have hN := points
  have hf : (if isFirst (grid0.coords t) then k0_pay2 else d7) = (if t.val % 4 = 0 then (k0_pay2 : Vec F S1024x1024 .f32) else d7) := if_congr (first_iff t) rfl rfl
  by_cases hn : t.val < 4
  · have e : tile t = t := Fin.ext (Nat.mod_eq_of_lt hn)
    rw [step_new ((new_iff t).mpr hn) (k0_off1_inb _ ((new_iff t).mpr hn)), hf, e]
    rfl
  · have ht := t.isLt
    rw [step_old (fun h => hn ((new_iff t).mp h)), hf, plane_congr t (tile t) (by show t.val % 4 = t.val % 4 % 4; omega),
      (h (t.val - 1) (by omega) (by omega)).2 (tile t) (by show t.val % 4 < 4; omega) (by show t.val % 4 ≤ t.val - 1; omega)]

theorem held_step (c : Dev nD) (t : Fin cfg0.N) (d7 : Vec F S1024x1024 .f32) (d8 : Vec F S4x1024x1024 .bf16) (h : held m c t.val d7 d8) :
    held m c (t.val + 1) (step (grid0.coords t) (iblk m c 0 t) (iblk m c 1 t) (iblk m c 2 t) d7 d8) (keep (grid0.coords t) (iblk m c 0 t) (iblk m c 2 t) d8) := by
  intro k hk e
  obtain rfl : k = t.val := by omega
  refine ⟨step_eq m c t d7 d8 h, fun s hs hst => ?_⟩
  have hN := points
  by_cases hn : t.val < 4
  · rw [keep_new ((new_iff t).mpr hn)]
    by_cases he : s.val = t.val
    · obtain rfl : s = t := Fin.ext he
      exact plane_put _ (k0_off1_inb _ ((new_iff s).mpr hn)) _ _
    · rw [plane_keep t s (by omega)]
      exact (h (t.val - 1) (by omega) (by omega)).2 s hs (by omega)
  · rw [keep_old (fun h => hn ((new_iff t).mp h))]
    exact (h (t.val - 1) (by omega) (by omega)).2 s hs (by omega)

/-! ## The pipeline's proof data -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev scM0_0 : Memref sig .tc .vmem S1024x1024 .f32 := Memref.whole cc0_scratch0
abbrev scM0_1 : Memref sig .tc .vmem S4x1024x1024 .bf16 := Memref.whole cc0_scratch1

/-- The scratches owned at some contents, as memrefs. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before position `n`: the scratches hold what the points before left. -/
def PhiS (c : Dev nD) (n : ℕ) (_ : n ≤ cfg0.N) : sProp 𝕄 :=
  iprop((∃ d7, ∃ d8, ⌜held m c n d7 d8⌝ ∗ owns (c : Thread nD τ) scM0_0 fullShare d7 ∗ owns (c : Thread nD τ) scM0_1 fullShare d8) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (accAt m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay4 (accAt m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at each point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The result's buffer after a point. -/
theorem leaves_out (c : Dev nD) (t : Fin cfg0.N) (d : _) :
    owns (c : Thread nD τ) (ms0_3 t) fullShare (give (grid0.coords t) ((dats m 0 c).before 3 t d) (accAt m c t.val t.isLt))
      ⊢ (dats m 0 c).leavesExact 3 t := by
  by_cases h : t.val % 4 = 3
  · rw [give_last ((last_iff t).mpr h)]
    rw [show (dats m 0 c).leavesExact 3 t = owns (c : Thread nD τ) (ms0_3 t) fullShare ((dats m 0 c).after 3 t) from by
      unfold Dat.leavesExact; rw [live_out t h], after0_3]
  · rw [give_not (fun h' => h ((last_iff t).mp h'))]
    rw [Dat.leavesExact_idle (dats m 0 c) 3 t (idle_out t h) (by
      cases hf : (cfg0.win 3).flush t
      · rfl
      · exact absurd ((flush0_3 t).mp hf) h)]
    iintro H
    iexists _; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_castSucc m c t]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  unfold PhiS
  iintro ⟨⟨⟨%d7, %d8, %hh, HS0, HS1⟩, Hg⟩, Ho, ⟨%d0, H0⟩, ⟨%d1, H1⟩, ⟨%d2, H2⟩, ⟨%d3, H3⟩⟩
  iapply (body_run c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) _ d7 d8 Set.univ _)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  isplitl [HS0 HS1 Hg]
  · isplitl [HS0 HS1]
    · iexists _; iexists _; isplitr
      swap
      · isplitl [HS0]; · iexact HS0
        iexact HS1
      ipureintro; exact held_step m c t d7 d8 hh
    iexact Hg
  isplitl [Ho]; · iexact Ho
  isplitl [H0]; · iexact H0
  isplitl [H1]; · iexact H1
  isplitl [H2]; · iexact H2
  rw [step_eq m c t d7 d8 hh]
  iapply (leaves_out m c t d3)
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨⟨%d7, HS0⟩, ⟨%d8, HS1⟩⟩, Hg⟩
  isplitl [HS0 HS1]
  · iexists d7; iexists d8; isplitr
    swap
    · isplitl [HS0]; · iexact HS0
      iexact HS1
    ipureintro; exact fun k hk e => absurd e (Nat.succ_ne_zero k).symm
  iexact Hg

theorem hout (c : Dev nD) : (dats m 0 c).Φ (Fin.last cfg0.N) ⊢ Pipeline.ΦA spec0 c := by
  rw [show (dats m 0 c).Φ (Fin.last cfg0.N) = PhiS m c cfg0.N (Nat.le_refl _) from rfl, PhiA0_eq]
  unfold PhiS
  iintro ⟨⟨%d7, %d8, %hh, HS0, HS1⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel10Ideal.HgDwin

end
-- ==== Proof.FfnDwup.lean ====
module

public import proofs.«01_k».proof.Proof.DwupFrame
public import proofs.«01_k».proof.Proof.FfnUp

@[expose] public section

set_option maxRecDepth 16384

noncomputable section

/-! # The gradient of the first weight: columns of the normed stream times columns of the gradient -/

namespace Cert.Kernel3Ideal.Dwup

open Cert.Kernel3Ideal Cert.Kernel3Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products Cert.RmsRow
open Idealize.ShloMosaic.Pipeline (Dat Cfg Window)
open Cert.Kernel2Ideal.Dxn (row)

/-- A plane as a matrix. -/
theorem flat_apply (p : Vec Ideal S1x1024x1024 .bf16) (r k : Fin 1024) :
    shapeCast S1024x1024 p shapeCasts_S1x1024x1024_S1024x1024 (ix2 r k) = p (ix3 (0 : Fin 1) r k) :=
  shapeCast_apply p shapeCasts_S1x1024x1024_S1024x1024 (ix2 r k) (ix3 0 r k) (by
    rw [Shape.rowMajor_val_three, Shape.rowMajor_val_two]; show (0 * 1024 + r.val) * 1024 + k.val = r.val * 1024 + k.val; omega)

/-- One entry of a step: the sum before and one row tile's products. -/
theorem pay3_apply (p : Vec Ideal S1x1024x1024 .bf16) (acc : Vec Ideal S1024x1408 .f32) (x : Vec Ideal S1x1024x1408 .bf16) (k : Fin 1024) (n : Fin 1408) :
    k0_pay3 p acc x (ix2 k n) = acc (ix2 k n) + ∑ r : Fin 1024, p (ix3 (0 : Fin 1) r k) * x (ix3 (0 : Fin 1) r n) := by
  unfold k0_pay3
  rw [shapeCast_self, addf_apply]
  refine congrArg (acc (ix2 k n) + ·) ((cols_cols (M := 1024) (K := 1024) (N := 1408) none _ _ k n).trans ?_)
  exact Finset.sum_congr rfl fun r _ => congrArg₂ (· * ·) (flat_apply p r k) (Cert.Kernel2Ideal.Dxn.drop_apply x r n)

theorem zero_apply (i : S1024x1408.Idx) : k0_pay2 (F := Ideal) i = (0 : EReal) := by
  unfold k0_pay2
  rw [shapeCast_self]
  exact zero_f32

theorem lift_apply (x : Vec Ideal S1024x1408 .f32) (k : Fin 1024) (n : Fin 1408) : k0_pay4 x (ix3 (0 : Fin 1) k n) = x (ix2 k n) := by
  unfold k0_pay4
  exact shapeCast_apply x shapeCasts_S1024x1408_S1x1024x1408 (ix3 0 k n) (ix2 k n) (by
    rw [Shape.rowMajor_val_three, Shape.rowMajor_val_two]; show k.val * 1408 + n.val = (0 * 1024 + k.val) * 1408 + n.val; omega)

/-- One entry of a kept plane: the normed row times its gain. -/
theorem pay1_apply (h : Vec Ideal S1024x1024 .f32) (g : Vec Ideal S1x1024 .f32) (r k : Fin 1024) :
    k0_pay1 h g (ix3 (0 : Fin 1) r k) = h (ix2 r k) * root (fun l => h (ix2 r l)) * g (ix2 0 k) := by
  refine (shapeCast_apply (truncf .bf16 (mulf (Cert.Kernel2Ideal.Gen.k0_pay5 (F := Ideal) h) (broadcastTo S1024x1024 g broadcasts_S1x1024_S1024x1024)) bitsLt_bf16_f32)
    shapeCasts_S1024x1024_S1x1024x1024 (ix3 0 r k) (ix2 r k) (by
      rw [Shape.rowMajor_val_three, Shape.rowMajor_val_two]; show r.val * 1024 + k.val = (0 * 1024 + r.val) * 1024 + k.val; omega)).trans ?_
  exact Cert.Kernel6Ideal.Up.normed_apply h g r k

variable (m : (ℓ : Loc nD τ sig) → Buf (Elt Ideal) ℓ)

theorem e0 : ∀ t : Fin cfg0.N, t.val < 4 → win0_0.index t = ![t.val, 0] := (by decide +kernel : ∀ t : Fin grid0.N, _)
theorem e1 : ∀ t : Fin cfg0.N, win0_1.index t = ![t.val / 4, t.val % 4, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val / 4, 0, 0] := (by decide +kernel : ∀ t : Fin grid0.N, _)

/-- A row of a tile is a row of the array. -/
def rowOf (s : Fin 4) (r : Fin 1024) : Fin 4096 := ⟨1024 * s.val + r.val, by have := s.isLt; have := r.isLt; omega⟩

theorem h_at (c : Dev nD) (t : Fin cfg0.N) (ht : t.val < 4) (r k : Fin 1024) :
    (iblk m c 0 t : Vec Ideal S1024x1024 .f32) (ix2 r k) = (m ((c : Thread nD τ).loc main_arg0) : FVec Ideal S4096x1024 .f32) (ix2 (rowOf ⟨t.val, ht⟩ r) k) := by
  blk_simp [iblk, V]
  refine congrArg (m ((c : Thread nD τ).loc main_arg0)) ?_
  blk_ext [e0 t ht]
  all_goals first | rfl | (show t.val * 1024 + r.val = 1024 * t.val + r.val; omega)

theorem d_at (c : Dev nD) (t : Fin cfg0.N) (j s : Fin 4) (hj : t.val / 4 = j.val) (hs : t.val % 4 = s.val) (r : Fin 1024) (n : Fin 1408) :
    (iblk m c 1 t : Vec Ideal S1x1024x1408 .bf16) (ix3 (0 : Fin 1) r n)
      = (m ((c : Thread nD τ).loc main_arg1) : FVec Ideal S4x4096x1408 .bf16) (ix3 j (rowOf s r) n) := by
  blk_simp [iblk, V]
  refine congrArg (m ((c : Thread nD τ).loc main_arg1)) ?_
  blk_ext [e1]
  all_goals first | rfl | (show t.val / 4 * 1 + 0 = j.val; omega) | (show t.val % 4 * 1024 + r.val = 1024 * s.val + r.val; omega)

theorem g_at (c : Dev nD) (t : Fin cfg0.N) (k : Fin 1024) :
    (iblk m c 2 t : Vec Ideal S1x1024 .f32) (ix2 0 k) = (m ((c : Thread nD τ).loc main_arg2) : FVec Ideal S1x1024 .f32) (ix2 0 k) := by
  blk_simp [iblk, V]
  refine congrArg (m ((c : Thread nD τ).loc main_arg2)) ?_
  blk_ext [e2]
  all_goals first | rfl | (show _ = _ ; omega)

/-- An entry of the normed stream. -/
def normed (h : FVec Ideal S4096x1024 .f32) (g : FVec Ideal S1x1024 .f32) (R : Fin 4096) (k : Fin 1024) : EReal :=
  h (ix2 R k) * root (row h R) * g (ix2 0 k)

/-- The result array: the normed stream's columns times the gradient's columns. -/
def result (h : FVec Ideal S4096x1024 .f32) (d : FVec Ideal S4x4096x1408 .bf16) (g : FVec Ideal S1x1024 .f32) : FVec Ideal S4x1024x1408 .f32 :=
  fun i => ∑ R : Fin 4096, normed h g R (i 1) * d (ix3 (i 0) R (i 2))

/-- A kept plane holds the normed stream's rows. -/
theorem pl_apply (c : Dev nD) (t : Fin cfg0.N) (s : Fin 4) (hs : t.val % 4 = s.val) (r k : Fin 1024) :
    pl m c (tile t) (ix3 (0 : Fin 1) r k) = normed (m ((c : Thread nD τ).loc main_arg0)) (m ((c : Thread nD τ).loc main_arg2)) (rowOf s r) k := by
  have h4 : (tile t).val < 4 := by show t.val % 4 < 4; omega
  have e : (⟨(tile t).val, h4⟩ : Fin 4) = s := Fin.ext hs
  have hh := fun l => (h_at m c (tile t) h4 r l).trans (by rw [e])
  refine (pay1_apply _ _ r k).trans ?_
  refine congrArg₂ (· * ·) (congrArg₂ (· * ·) (hh k) (congrArg root (funext hh))) (g_at m c (tile t) k)

/-- One row tile's products at a point. -/
def part (c : Dev nD) (t : Fin cfg0.N) (i : S1024x1408.Idx) : EReal :=
  ∑ r : Fin 1024, pl m c (tile t) (ix3 (0 : Fin 1) r (i 0)) * (iblk m c 1 t : Vec Ideal S1x1024x1408 .bf16) (ix3 (0 : Fin 1) r (i 1))

/-- The sum starts over at the first row tile, -/
theorem acc_first (c : Dev nD) (t : Fin cfg0.N) (h : t.val % 4 = 0) : accAt m c t.val t.isLt = k0_pay3 (pl m c (tile t)) (k0_pay2 (F := Ideal)) (iblk m c 1 t) := by
  obtain ⟨n, hn⟩ := t
  cases n with
  | zero => rfl
  | succ n => exact congrArg (fun a => k0_pay3 (pl m c (tile ⟨n + 1, hn⟩)) a (iblk m c 1 ⟨n + 1, hn⟩)) (if_pos h)

/-- and goes on at the others. -/
theorem acc_next (c : Dev nD) (t : Fin cfg0.N) (h : ¬t.val % 4 = 0) :
    accAt m c t.val t.isLt = k0_pay3 (pl m c (tile t)) (accAt m c (t.val - 1) (Nat.lt_of_le_of_lt (Nat.sub_le _ _) t.isLt)) (iblk m c 1 t) := by
  obtain ⟨n, hn⟩ := t
  cases n with
  | zero => exact absurd rfl h
  | succ n => exact congrArg (fun a => k0_pay3 (pl m c (tile ⟨n + 1, hn⟩)) a (iblk m c 1 ⟨n + 1, hn⟩)) (if_neg h)

/-- The sum at the last row tile of a column block. -/
theorem acc_eq (c : Dev nD) (t : Fin cfg0.N) (ht : t.val % 4 = 3) (k : Fin 1024) (n : Fin 1408) :
    accAt m c t.val t.isLt (ix2 k n) = ∑ s : Fin 4, part m c ⟨4 * (t.val / 4) + s.val, Pipeline.run_point_lt_of_flush t ht s⟩ (ix2 k n) := by
  have h := Pipeline.eq_sum_fin_of_reset_step_apply_of_flush (M := EReal) (fun n h => (accAt m c n h : S1024x1408.Idx → EReal)) 4 (fun _ => 0) (part m c)
    (fun t h i => by
      obtain ⟨k, n, rfl⟩ : ∃ (k : Fin 1024) (n : Fin 1408), i = ix2 k n := ⟨i 0, i 1, eq_ix2 i⟩
      exact (congrFun (acc_first m c t h) _).trans ((pay3_apply _ _ _ k n).trans (congrArg (· + part m c t (ix2 k n)) (zero_apply _))))
    (fun t h i => by
      obtain ⟨k, n, rfl⟩ : ∃ (k : Fin 1024) (n : Fin 1408), i = ix2 k n := ⟨i 0, i 1, eq_ix2 i⟩
      exact (congrFun (acc_next m c t h) _).trans (pay3_apply _ _ _ k n))
    t ht (ix2 k n)
  exact h.trans (zero_add _)

/-- One row tile's products, of the arrays. -/
theorem part_eq (c : Dev nD) (t : Fin cfg0.N) (j s : Fin 4) (hj : t.val / 4 = j.val) (hs : t.val % 4 = s.val) (k : Fin 1024) (n : Fin 1408) :
    part m c t (ix2 k n) = ∑ r : Fin 1024, normed (m ((c : Thread nD τ).loc main_arg0)) (m ((c : Thread nD τ).loc main_arg2)) (rowOf s r) k
      * (m ((c : Thread nD τ).loc main_arg1) : FVec Ideal S4x4096x1408 .bf16) (ix3 j (rowOf s r) n) :=
  Finset.sum_congr rfl fun r _ => congrArg₂ (· * ·) (pl_apply m c t s hs r k) (d_at m c t j s hj hs r n)

theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  have hN : t.val < 16 := lt_of_lt_of_eq t.isLt points
  blk_simp
  rw [after0_3]
  obtain ⟨a, k, n, rfl⟩ : ∃ (a : Fin 1) (k : Fin 1024) (n : Fin 1408), y = ix3 a k n := ⟨y 0, y 1, y 2, eq_ix3 y⟩
  obtain rfl : a = 0 := Subsingleton.elim _ _
  have hy : (win0_3.blk t).view.emb (ix3 (0 : Fin 1) k n) = ix3 (⟨t.val / 4, by omega⟩ : Fin 4) k n := by
    blk_ext [e3]
    all_goals first | rfl | (show t.val / 4 * 1 + 0 = t.val / 4; omega)
  refine Eq.trans ?_ (congrArg (result _ _ _) hy).symm
  refine (lift_apply _ k n).trans ((acc_eq m c t ht k n).trans ?_)
  refine Eq.trans ?_ (sum_blocks 4 1024 fun R : Fin 4096 => _).symm
  exact Finset.sum_congr rfl fun s _ => part_eq m c ⟨4 * (t.val / 4) + s.val, Pipeline.run_point_lt_of_flush t ht s⟩ ⟨t.val / 4, by omega⟩ s (by have := s.isLt; show (4 * (t.val / 4) + s.val) / 4 = t.val / 4; omega)
    (by have := s.isLt; show (4 * (t.val / 4) + s.val) % 4 = s.val; omega) k n

/-- The kernel's run: its result holds the products, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m g) (unchanged m g))

end Cert.Kernel3Ideal.Dwup

end
-- ==== Proof.RefDwup.lean ====
module

public import proofs.«01_k».proof.Proof.Gen.Reference3Ideal.Read
public import proofs.«01_k».proof.Proof.Gen.Reference3Ideal.Run
public import proofs.«01_k».proof.Proof.FfnDwup

@[expose] public section

set_option maxRecDepth 16384

noncomputable section

/-! # The gradient of the first weight: the reference -/

namespace Cert.Reference3Ideal.Dwup

open Cert.Reference3Ideal Cert.Reference3Ideal.Gen Cert.Reference3Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Products Cert.RmsRow
open Cert.Kernel2Ideal.Dxn (row)
open Cert.Kernel3Ideal.Dwup (result normed)

variable (h : FVec Ideal S4096x1024 .f32) (d : FVec Ideal S4x4096x1408 .bf16) (g : FVec Ideal S1x1024 .f32)

/-- The mean square of a row. -/
theorem ms_at (r : Fin 4096) : val_main_v6 (F := Ideal) h (ix2 r 0) = ms (row h r) := by
  refine congrArg (· + Ideal.ofBits .f32 0x358637BD#32) (congrArg (Ideal.div · (Ideal.ofBits .f32 0x44800000#32)) ?_)
  rw [val_main_v2_apply]
  refine (val_main_v1_apply h _).trans ?_
  rw [show (val_main_cst (F := Ideal)) (Shape.Idx.first h_S_) = (0 : EReal) from zero_f32, zero_add]
  exact Finset.sum_congr rfl fun k _ => congrArg (fun i => h i * h i) (funext fun a => by match a with | ⟨0, _⟩ => rfl | ⟨1, _⟩ => rfl)

theorem root_at (r : Fin 4096) : val_main_v7 (F := Ideal) h (ix2 r 0) = root (row h r) := congrArg Ideal.rsqrt (ms_at h r)

/-- The normed row. -/
theorem normed_at (r : Fin 4096) (k : Fin 1024) : val_main_v11 (F := Ideal) h g (ix2 r k) = h (ix2 r k) * root (row h r) * g (ix2 0 k) := by
  have hi : idx_main_v8 (ix2 r k) = ix2 r 0 := funext fun a => by match a with | ⟨0, _⟩ => rfl | ⟨1, _⟩ => rfl
  have hj : idx_main_v10 (ix2 r k) = ix2 0 k := funext fun a => by match a with | ⟨0, _⟩ => rfl | ⟨1, _⟩ => rfl
  rw [val_main_v11_apply, val_main_v9_apply, val_main_v8_apply, val_main_v10_apply, hi, hj, root_at]; rfl

/-- The gradient's blocks laid side by side. -/
theorem side_at (R : Fin 4096) (j : Fin 4) (n : Fin 1408) (N : Fin 5632) (hN : N.val = j.val * 1408 + n.val) :
    val_main_v16 (F := Ideal) d (ix2 R N) = d (ix3 j R n) := by
  rw [val_main_v16_apply, val_main_v15_apply]
  refine congrArg d (funext fun a => Fin.ext ?_)
  have hR := R.isLt; have hj := j.isLt; have hn := n.isLt
  match a with
  | ⟨0, _⟩ => show (R.val * 5632 + N.val) / 1408 % 4 = j.val; omega
  | ⟨1, _⟩ => show (R.val * 5632 + N.val) / 5632 = R.val; omega
  | ⟨2, _⟩ => show (R.val * 5632 + N.val) % 1408 = n.val; omega

/-- The reference's entry. -/
theorem at_entry (j : Fin 4) (k : Fin 1024) (n : Fin 1408) : val_main_v20 (F := Ideal) h d g (ix3 j k n) = result h d g (ix3 j k n) := by
  have hj := j.isLt; have hk := k.isLt; have hn := n.isLt
  have hi : idx_main_v18 (idx_main_v19 (idx_main_v20 (ix3 j k n))) = ix2 (⟨j.val * 1408 + n.val, by omega⟩ : Fin 5632) k := funext fun a => Fin.ext (by
    match a with
    | ⟨0, _⟩ => show ((k.val * 4 + j.val) * 1408 + n.val) % 5632 = j.val * 1408 + n.val; omega
    | ⟨1, _⟩ => show ((k.val * 4 + j.val) * 1408 + n.val) / 5632 = k.val; omega)
  rw [val_main_v20_apply, val_main_v19_apply, val_main_v18_apply, hi]
  refine (val_main_v17_apply h d g _).trans (Finset.sum_congr rfl fun R _ => (mul_comm _ _).trans (congrArg₂ (· * ·) ?_ ?_))
  · exact (congrArg (val_main_v11 (F := Ideal) h g) (funext fun a => by match a with | ⟨0, _⟩ => rfl | ⟨1, _⟩ => rfl)).trans (normed_at h g R k)
  · exact (congrArg (val_main_v16 (F := Ideal) d) (funext fun a => by match a with | ⟨0, _⟩ => rfl | ⟨1, _⟩ => rfl)).trans (side_at d R j n ⟨j.val * 1408 + n.val, _⟩ rfl)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Value.run (F := Ideal) m g)

/-- The reference's run: its result holds the same products. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v20) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ⟨(h c).1.trans ((val_main_v20_eq _ _ _).trans (funext fun y => ?_)), (h c).2⟩) (Value.run (F := Ideal) m g)
  obtain ⟨j, k, n, rfl⟩ : ∃ (j : Fin 4) (k : Fin 1024) (n : Fin 1408), y = ix3 j k n := ⟨y 0, y 1, y 2, eq_ix3 y⟩
  exact at_entry _ _ _ j k n

end Cert.Reference3Ideal.Dwup

end
-- ==== Proof.HgDwin.lean ====
module

public import proofs.«01_k».proof.Proof.HgDwinFrame
public import proofs.«01_k».proof.Proof.RefDwup
public import proofs.«01_k».proof.Proof.Gen.Reference10Ideal.Read
public import proofs.«01_k».proof.Proof.Gen.Reference10Ideal.Run

@[expose] public section

set_option maxRecDepth 16384

noncomputable section

/-! # The gradient of the recurrent mixer's input weight: columns of the normed stream times columns of the gradient -/

namespace Cert.Kernel10Ideal.HgDwin

open Cert.Kernel10Ideal Cert.Kernel10Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products Cert.RmsRow
open Idealize.ShloMosaic.Pipeline (Dat Cfg Window)
open Cert.Kernel2Ideal.Dxn (row)
open Cert.Kernel3Ideal.Dwup (rowOf normed flat_apply)

/-- One entry of a step: the sum before and one row tile's products. -/
theorem pay3_apply (p : Vec Ideal S1x1024x1024 .bf16) (acc : Vec Ideal S1024x1024 .f32) (x : Vec Ideal S1x1024x1024 .bf16) (k : Fin 1024) (n : Fin 1024) :
    k0_pay3 p acc x (ix2 k n) = acc (ix2 k n) + ∑ r : Fin 1024, p (ix3 (0 : Fin 1) r k) * x (ix3 (0 : Fin 1) r n) := by
  unfold k0_pay3
  rw [shapeCast_self, addf_apply]
  refine congrArg (acc (ix2 k n) + ·) ((cols_cols (M := 1024) (K := 1024) (N := 1024) none _ _ k n).trans ?_)
  exact Finset.sum_congr rfl fun r _ => congrArg₂ (· * ·) (flat_apply p r k) (flat_apply x r n)

theorem zero_apply (i : S1024x1024.Idx) : k0_pay2 (F := Ideal) i = (0 : EReal) := by
  unfold k0_pay2
  rw [shapeCast_self]
  exact zero_f32

theorem lift_apply (x : Vec Ideal S1024x1024 .f32) (k : Fin 1024) (n : Fin 1024) : k0_pay4 x (ix3 (0 : Fin 1) k n) = x (ix2 k n) := by
  unfold k0_pay4
  exact shapeCast_apply x shapeCasts_S1024x1024_S1x1024x1024 (ix3 0 k n) (ix2 k n) (by
    rw [Shape.rowMajor_val_three, Shape.rowMajor_val_two]; show k.val * 1024 + n.val = (0 * 1024 + k.val) * 1024 + n.val; omega)

/-- One entry of a kept plane: the normed row times its gain. -/
theorem pay1_apply (h : Vec Ideal S1024x1024 .f32) (g : Vec Ideal S1x1024 .f32) (r k : Fin 1024) :
    k0_pay1 h g (ix3 (0 : Fin 1) r k) = h (ix2 r k) * root (fun l => h (ix2 r l)) * g (ix2 0 k) := Cert.Kernel3Ideal.Dwup.pay1_apply h g r k

variable (m : (ℓ : Loc nD τ sig) → Buf (Elt Ideal) ℓ)

theorem e0 : ∀ t : Fin cfg0.N, t.val < 4 → win0_0.index t = ![t.val, 0] := (by decide +kernel : ∀ t : Fin grid0.N, _)
theorem e1 : ∀ t : Fin cfg0.N, win0_1.index t = ![t.val / 4, t.val % 4, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val / 4, 0, 0] := (by decide +kernel : ∀ t : Fin grid0.N, _)

theorem h_at (c : Dev nD) (t : Fin cfg0.N) (ht : t.val < 4) (r k : Fin 1024) :
    (iblk m c 0 t : Vec Ideal S1024x1024 .f32) (ix2 r k) = (m ((c : Thread nD τ).loc main_arg0) : FVec Ideal S4096x1024 .f32) (ix2 (rowOf ⟨t.val, ht⟩ r) k) := by
  blk_simp [iblk, V]
  refine congrArg (m ((c : Thread nD τ).loc main_arg0)) ?_
  blk_ext [e0 t ht]
  all_goals first | rfl | (show t.val * 1024 + r.val = 1024 * t.val + r.val; omega)

theorem d_at (c : Dev nD) (t : Fin cfg0.N) (j s : Fin 4) (hj : t.val / 4 = j.val) (hs : t.val % 4 = s.val) (r : Fin 1024) (n : Fin 1024) :
    (iblk m c 1 t : Vec Ideal S1x1024x1024 .bf16) (ix3 (0 : Fin 1) r n)
      = (m ((c : Thread nD τ).loc main_arg1) : FVec Ideal S4x4096x1024 .bf16) (ix3 j (rowOf s r) n) := by
  blk_simp [iblk, V]
  refine congrArg (m ((c : Thread nD τ).loc main_arg1)) ?_
  blk_ext [e1]
  all_goals first | rfl | (show t.val / 4 * 1 + 0 = j.val; omega) | (show t.val % 4 * 1024 + r.val = 1024 * s.val + r.val; omega)

theorem g_at (c : Dev nD) (t : Fin cfg0.N) (k : Fin 1024) :
    (iblk m c 2 t : Vec Ideal S1x1024 .f32) (ix2 0 k) = (m ((c : Thread nD τ).loc main_arg2) : FVec Ideal S1x1024 .f32) (ix2 0 k) := by
  blk_simp [iblk, V]
  refine congrArg (m ((c : Thread nD τ).loc main_arg2)) ?_
  blk_ext [e2]
  all_goals first | rfl | (show _ = _ ; omega)

/-- The result array: the normed stream's columns times the gradient's columns. -/
def result (h : FVec Ideal S4096x1024 .f32) (d : FVec Ideal S4x4096x1024 .bf16) (g : FVec Ideal S1x1024 .f32) : FVec Ideal S4x1024x1024 .f32 :=
  fun i => ∑ R : Fin 4096, normed h g R (i 1) * d (ix3 (i 0) R (i 2))

/-- A kept plane holds the normed stream's rows. -/
theorem pl_apply (c : Dev nD) (t : Fin cfg0.N) (s : Fin 4) (hs : t.val % 4 = s.val) (r k : Fin 1024) :
    pl m c (tile t) (ix3 (0 : Fin 1) r k) = normed (m ((c : Thread nD τ).loc main_arg0)) (m ((c : Thread nD τ).loc main_arg2)) (rowOf s r) k := by
  have h4 : (tile t).val < 4 := by show t.val % 4 < 4; omega
  have e : (⟨(tile t).val, h4⟩ : Fin 4) = s := Fin.ext hs
  have hh := fun l => (h_at m c (tile t) h4 r l).trans (by rw [e])
  refine (pay1_apply _ _ r k).trans ?_
  refine congrArg₂ (· * ·) (congrArg₂ (· * ·) (hh k) (congrArg root (funext hh))) (g_at m c (tile t) k)

/-- One row tile's products at a point. -/
def part (c : Dev nD) (t : Fin cfg0.N) (i : S1024x1024.Idx) : EReal :=
  ∑ r : Fin 1024, pl m c (tile t) (ix3 (0 : Fin 1) r (i 0)) * (iblk m c 1 t : Vec Ideal S1x1024x1024 .bf16) (ix3 (0 : Fin 1) r (i 1))

/-- The sum starts over at the first row tile, -/
theorem acc_first (c : Dev nD) (t : Fin cfg0.N) (h : t.val % 4 = 0) : accAt m c t.val t.isLt = k0_pay3 (pl m c (tile t)) (k0_pay2 (F := Ideal)) (iblk m c 1 t) := by
  obtain ⟨n, hn⟩ := t
  cases n with
  | zero => rfl
  | succ n => exact congrArg (fun a => k0_pay3 (pl m c (tile ⟨n + 1, hn⟩)) a (iblk m c 1 ⟨n + 1, hn⟩)) (if_pos h)

/-- and goes on at the others. -/
theorem acc_next (c : Dev nD) (t : Fin cfg0.N) (h : ¬t.val % 4 = 0) :
    accAt m c t.val t.isLt = k0_pay3 (pl m c (tile t)) (accAt m c (t.val - 1) (Nat.lt_of_le_of_lt (Nat.sub_le _ _) t.isLt)) (iblk m c 1 t) := by
  obtain ⟨n, hn⟩ := t
  cases n with
  | zero => exact absurd rfl h
  | succ n => exact congrArg (fun a => k0_pay3 (pl m c (tile ⟨n + 1, hn⟩)) a (iblk m c 1 ⟨n + 1, hn⟩)) (if_neg h)

/-- The sum at the last row tile of a column block. -/
theorem acc_eq (c : Dev nD) (t : Fin cfg0.N) (ht : t.val % 4 = 3) (k : Fin 1024) (n : Fin 1024) :
    accAt m c t.val t.isLt (ix2 k n) = ∑ s : Fin 4, part m c ⟨4 * (t.val / 4) + s.val, Pipeline.run_point_lt_of_flush t ht s⟩ (ix2 k n) := by
  have h := Pipeline.eq_sum_fin_of_reset_step_apply_of_flush (M := EReal) (fun n h => (accAt m c n h : S1024x1024.Idx → EReal)) 4 (fun _ => 0) (part m c)
    (fun t h i => by
      obtain ⟨k, n, rfl⟩ : ∃ (k : Fin 1024) (n : Fin 1024), i = ix2 k n := ⟨i 0, i 1, eq_ix2 i⟩
      exact (congrFun (acc_first m c t h) _).trans ((pay3_apply _ _ _ k n).trans (congrArg (· + part m c t (ix2 k n)) (zero_apply _))))
    (fun t h i => by
      obtain ⟨k, n, rfl⟩ : ∃ (k : Fin 1024) (n : Fin 1024), i = ix2 k n := ⟨i 0, i 1, eq_ix2 i⟩
      exact (congrFun (acc_next m c t h) _).trans (pay3_apply _ _ _ k n))
    t ht (ix2 k n)
  exact h.trans (zero_add _)

/-- One row tile's products, of the arrays. -/
theorem part_eq (c : Dev nD) (t : Fin cfg0.N) (j s : Fin 4) (hj : t.val / 4 = j.val) (hs : t.val % 4 = s.val) (k : Fin 1024) (n : Fin 1024) :
    part m c t (ix2 k n) = ∑ r : Fin 1024, normed (m ((c : Thread nD τ).loc main_arg0)) (m ((c : Thread nD τ).loc main_arg2)) (rowOf s r) k
      * (m ((c : Thread nD τ).loc main_arg1) : FVec Ideal S4x4096x1024 .bf16) (ix3 j (rowOf s r) n) :=
  Finset.sum_congr rfl fun r _ => congrArg₂ (· * ·) (pl_apply m c t s hs r k) (d_at m c t j s hj hs r n)

theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht := (flush0_3 t).mp hf
  have hN : t.val < 16 := lt_of_lt_of_eq t.isLt points
  blk_simp
  rw [after0_3]
  obtain ⟨a, k, n, rfl⟩ : ∃ (a : Fin 1) (k : Fin 1024) (n : Fin 1024), y = ix3 a k n := ⟨y 0, y 1, y 2, eq_ix3 y⟩
  obtain rfl : a = 0 := Subsingleton.elim _ _
  have hy : (win0_3.blk t).view.emb (ix3 (0 : Fin 1) k n) = ix3 (⟨t.val / 4, by omega⟩ : Fin 4) k n := by
    blk_ext [e3]
    all_goals first | rfl | (show t.val / 4 * 1 + 0 = t.val / 4; omega)
  refine Eq.trans ?_ (congrArg (result _ _ _) hy).symm
  refine (lift_apply _ k n).trans ((acc_eq m c t ht k n).trans ?_)
  refine Eq.trans ?_ (sum_blocks 4 1024 fun R : Fin 4096 => _).symm
  exact Finset.sum_congr rfl fun s _ => part_eq m c ⟨4 * (t.val / 4) + s.val, Pipeline.run_point_lt_of_flush t ht s⟩ ⟨t.val / 4, by omega⟩ s (by have := s.isLt; show (4 * (t.val / 4) + s.val) / 4 = t.val / 4; omega)
    (by have := s.isLt; show (4 * (t.val / 4) + s.val) % 4 = s.val; omega) k n

/-- The kernel's run: its result holds the products, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2 c⟩) (θ_run_and (run_main m g) (unchanged m g))

end Cert.Kernel10Ideal.HgDwin

namespace Cert.Reference10Ideal.HgDwin

open Cert.Reference10Ideal Cert.Reference10Ideal.Gen Cert.Reference10Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Products Cert.RmsRow
open Cert.Kernel2Ideal.Dxn (row)
open Cert.Kernel3Ideal.Dwup (normed)
open Cert.Kernel10Ideal.HgDwin (result)

variable (h : FVec Ideal S4096x1024 .f32) (d : FVec Ideal S4x4096x1024 .bf16) (g : FVec Ideal S1x1024 .f32)

/-- The normed row, as in the feed-forward block. -/
theorem normed_at (r : Fin 4096) (k : Fin 1024) : val_main_v11 (F := Ideal) h g (ix2 r k) = h (ix2 r k) * root (row h r) * g (ix2 0 k) :=
  Cert.Reference3Ideal.Dwup.normed_at h g r k

/-- The gradient's blocks laid side by side. -/
theorem side_at (R : Fin 4096) (j : Fin 4) (n : Fin 1024) (N : Fin 4096) (hN : N.val = j.val * 1024 + n.val) :
    val_main_v16 (F := Ideal) d (ix2 R N) = d (ix3 j R n) := by
  rw [val_main_v16_apply, val_main_v15_apply]
  refine congrArg d (funext fun a => Fin.ext ?_)
  have hR := R.isLt; have hj := j.isLt; have hn := n.isLt
  match a with
  | ⟨0, _⟩ => show (R.val * 4096 + N.val) / 1024 % 4 = j.val; omega
  | ⟨1, _⟩ => show (R.val * 4096 + N.val) / 4096 = R.val; omega
  | ⟨2, _⟩ => show (R.val * 4096 + N.val) % 1024 = n.val; omega

/-- The reference's entry. -/
theorem at_entry (j : Fin 4) (k : Fin 1024) (n : Fin 1024) : val_main_v20 (F := Ideal) h d g (ix3 j k n) = result h d g (ix3 j k n) := by
  have hj := j.isLt; have hk := k.isLt; have hn := n.isLt
  have hi : idx_main_v18 (idx_main_v19 (idx_main_v20 (ix3 j k n))) = ix2 (⟨j.val * 1024 + n.val, by omega⟩ : Fin 4096) k := funext fun a => Fin.ext (by
    match a with
    | ⟨0, _⟩ => show ((k.val * 4 + j.val) * 1024 + n.val) % 4096 = j.val * 1024 + n.val; omega
    | ⟨1, _⟩ => show ((k.val * 4 + j.val) * 1024 + n.val) / 4096 = k.val; omega)
  rw [val_main_v20_apply, val_main_v19_apply, val_main_v18_apply, hi]
  refine (val_main_v17_apply h d g _).trans (Finset.sum_congr rfl fun R _ => (mul_comm _ _).trans (congrArg₂ (· * ·) ?_ ?_))
  · exact (congrArg (val_main_v11 (F := Ideal) h g) (funext fun a => by match a with | ⟨0, _⟩ => rfl | ⟨1, _⟩ => rfl)).trans (normed_at h g R k)
  · exact (congrArg (val_main_v16 (F := Ideal) d) (funext fun a => by match a with | ⟨0, _⟩ => rfl | ⟨1, _⟩ => rfl)).trans (side_at d R j n ⟨j.val * 1024 + n.val, _⟩ rfl)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Value.run (F := Ideal) m g)

/-- The reference's run: its result holds the same products. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v20) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ⟨(h c).1.trans ((val_main_v20_eq _ _ _).trans (funext fun y => ?_)), (h c).2⟩) (Value.run (F := Ideal) m g)
  obtain ⟨j, k, n, rfl⟩ : ∃ (j : Fin 4) (k : Fin 1024) (n : Fin 1024), y = ix3 j k n := ⟨y 0, y 1, y 2, eq_ix3 y⟩
  exact at_entry _ _ _ j k n

end Cert.Reference10Ideal.HgDwin

end
-- ==== Proof.HgIn.lean ====
module

public import proofs.«01_k».proof.Proof.Gen.Kernel8Ideal.Value
public import proofs.«01_k».proof.Proof.Gen.Reference8Ideal.Read
public import proofs.«01_k».proof.Proof.Gen.Reference8Ideal.Run
public import proofs.«01_k».proof.Proof.FfnUp

@[expose] public section

set_option maxRecDepth 16384

noncomputable section

/-! # The recurrent mixer's input product, of the normed stream: the norm is that of the feed-forward block's first product -/

namespace Cert.Kernel8Ideal.HgIn

open Cert.Kernel8Ideal Cert.Kernel8Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products Cert.RmsRow
open Idealize.ShloMosaic.Pipeline (Dat Cfg Window)
open Cert.Kernel2Ideal.Dxn (row at4)

/-- A block of weights without its leading axis. -/
theorem flat_apply (x : FVec Ideal S1x1024x1024 .bf16) (k n : Fin 1024) :
    shapeCast S1024x1024 x shapeCasts_S1x1024x1024_S1024x1024 (ix2 k n) = x (ix3 (0 : Fin 1) k n) :=
  shapeCast_apply x shapeCasts_S1x1024x1024_S1024x1024 (ix2 k n) (ix3 0 k n) (by
    rw [Shape.rowMajor_val_three, Shape.rowMajor_val_two]; show (0 * 1024 + k.val) * 1024 + n.val = k.val * 1024 + n.val; omega)

/-- One entry of the block. -/
theorem pay_apply (h : Vec Ideal S1024x1024 .f32) (g : Vec Ideal S1x1024 .f32) (w : Vec Ideal S1x1024x1024 .bf16) (r n : Fin 1024) :
    k0_pay1 h g w (ix2 r n) = ∑ k : Fin 1024, h (ix2 r k) * root (fun l => h (ix2 r l)) * g (ix2 0 k) * w (ix3 (0 : Fin 1) k n) := by
  refine (rows_cols (M := 1024) (K := 1024) (N := 1024) none
    (truncf .bf16 (mulf (Cert.Kernel2Ideal.Gen.k0_pay5 (F := Ideal) h) (broadcastTo S1024x1024 g broadcasts_S1x1024_S1024x1024)) bitsLt_bf16_f32)
    (shapeCast S1024x1024 w shapeCasts_S1x1024x1024_S1024x1024) r n).trans ?_
  exact Finset.sum_congr rfl fun k _ => congrArg₂ (· * ·) (Cert.Kernel6Ideal.Up.normed_apply h g r k) (flat_apply w k n)

variable (m : (ℓ : Loc nD τ sig) → Buf (Elt Ideal) ℓ)

theorem e0 : ∀ t : Fin cfg0.N, win0_0.index t = ![t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val / 4, t.val % 4] := (by decide +kernel : ∀ t : Fin grid0.N, _)

/-- The weights' blocks side by side. -/
def side (w : FVec Ideal S4x1024x1024 .bf16) (k : Fin 1024) (n : Fin 4096) : EReal :=
  w (ix3 ⟨n.val / 1024, by have := n.isLt; omega⟩ k ⟨n.val % 1024, Nat.mod_lt _ (by decide)⟩)

/-- The result array: the normed rows times the columns of the weights. -/
def result (h : FVec Ideal S4096x1024 .f32) (w : FVec Ideal S4x1024x1024 .bf16) (g : FVec Ideal S1x1024 .f32) : FVec Ideal S4096x4096 .f32 :=
  fun i => ∑ k : Fin 1024, h (ix2 (i 0) k) * root (row h (i 0)) * g (ix2 0 k) * side w k (i 1)

/-- The row tile and the column block of a point. -/
def tile (t : Fin cfg0.N) : Fin 4 := ⟨t.val / 4, by have h : t.val < 16 := t.isLt; omega⟩
def block (t : Fin cfg0.N) : Fin 4 := ⟨t.val % 4, Nat.mod_lt _ (by decide)⟩

/-- A column of block `b` is a column of the blocks laid side by side. -/
theorem side_at (w : FVec Ideal S4x1024x1024 .bf16) (b : Fin 4) (k n : Fin 1024) : side w k (at4 b n) = w (ix3 b k n) := by
  have hn := n.isLt; have hb := b.isLt
  refine congrArg w (funext fun a => Fin.ext ?_)
  match a with
  | ⟨0, _⟩ => show (1024 * b.val + n.val) / 1024 = b.val; omega
  | ⟨1, _⟩ => rfl
  | ⟨2, _⟩ => show (1024 * b.val + n.val) % 1024 = n.val; omega

theorem h_at (c : Dev nD) (t : Fin cfg0.N) (r k : Fin 1024) :
    (iblk m c 0 t : Vec Ideal S1024x1024 .f32) (ix2 r k) = (m ((c : Thread nD τ).loc main_arg0) : FVec Ideal S4096x1024 .f32) (ix2 (at4 (tile t) r) k) := by
  blk_simp [iblk, V]
  refine congrArg (m ((c : Thread nD τ).loc main_arg0)) ?_
  blk_ext [e0]
  all_goals first | rfl | (show t.val / 4 * 1024 + r.val = 1024 * (t.val / 4) + r.val; omega)

theorem w_at (c : Dev nD) (t : Fin cfg0.N) (k n : Fin 1024) :
    (iblk m c 1 t : Vec Ideal S1x1024x1024 .bf16) (ix3 (0 : Fin 1) k n)
      = (m ((c : Thread nD τ).loc main_arg1) : FVec Ideal S4x1024x1024 .bf16) (ix3 (block t) k n) := by
  blk_simp [iblk, V]
  refine congrArg (m ((c : Thread nD τ).loc main_arg1)) ?_
  blk_ext [e1]
  all_goals first | rfl | (show _ = _ ; omega)

theorem g_at (c : Dev nD) (t : Fin cfg0.N) (k : Fin 1024) :
    (iblk m c 2 t : Vec Ideal S1x1024 .f32) (ix2 0 k) = (m ((c : Thread nD τ).loc main_arg2) : FVec Ideal S1x1024 .f32) (ix2 0 k) := by
  blk_simp [iblk, V]
  refine congrArg (m ((c : Thread nD τ).loc main_arg2)) ?_
  blk_ext [e2]
  all_goals first | rfl | (show _ = _ ; omega)

/-- A tile of the result, from tiles that agree with the arrays. -/
theorem tile_result (h : FVec Ideal S4096x1024 .f32) (w : FVec Ideal S4x1024x1024 .bf16) (g : FVec Ideal S1x1024 .f32)
    (hb : Vec Ideal S1024x1024 .f32) (wb : Vec Ideal S1x1024x1024 .bf16) (gb : Vec Ideal S1x1024 .f32) (R N : Fin 4096) (r n : Fin 1024)
    (hh : ∀ k, hb (ix2 r k) = h (ix2 R k)) (hw : ∀ k, wb (ix3 0 k n) = side w k N) (hg : ∀ k, gb (ix2 0 k) = g (ix2 0 k)) :
    k0_pay1 hb gb wb (ix2 r n) = result h w g (ix2 R N) := by
  refine (pay_apply hb gb wb r n).trans (Finset.sum_congr rfl fun k _ => ?_)
  rw [hw k, hg k, hh k, show (fun l => hb (ix2 r l)) = row h R from funext hh]

theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  obtain ⟨r, n, rfl⟩ : ∃ (r n : Fin 1024), y = ix2 r n := ⟨y 0, y 1, eq_ix2 y⟩
  have hy : (win0_3.blk t).view.emb (ix2 r n) = ix2 (at4 (tile t) r) (at4 (block t) n) := by
    blk_ext [e3]
    · show t.val / 4 * 1024 + r.val = 1024 * (t.val / 4) + r.val; omega
    · show t.val % 4 * 1024 + n.val = 1024 * (t.val % 4) + n.val; omega
  refine Eq.trans ?_ (congrArg (result _ _ _) hy).symm
  exact tile_result _ _ _ _ _ _ _ _ r n (fun k => h_at m c t r k) (fun k => (w_at m c t k n).trans (side_at _ (block t) k n).symm) (fun k => g_at m c t k)

/-- The kernel's run: its result holds the products, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (Value.run_blocks m g)

end Cert.Kernel8Ideal.HgIn

namespace Cert.Reference8Ideal.HgIn

open Cert.Reference8Ideal Cert.Reference8Ideal.Gen Cert.Reference8Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Products Cert.RmsRow
open Cert.Kernel2Ideal.Dxn (row)
open Cert.Kernel8Ideal.HgIn (result side)

variable (h : FVec Ideal S4096x1024 .f32) (w : FVec Ideal S4x1024x1024 .bf16) (g : FVec Ideal S1x1024 .f32)

/-- The normed row, as in the feed-forward block. -/
theorem normed_at (r : Fin 4096) (k : Fin 1024) : val_main_v11 (F := Ideal) h g (ix2 r k) = h (ix2 r k) * root (row h r) * g (ix2 0 k) :=
  Cert.Reference6Ideal.Up.normed_at h g r k

/-- The weights laid side by side. -/
theorem side_at (k : Fin 1024) (n : Fin 4096) : val_main_v14 (F := Ideal) w (ix2 k n) = side w k n := by
  rw [val_main_v14_apply, val_main_v13_apply, val_main_v12_apply]
  refine congrArg w (funext fun a => Fin.ext ?_)
  have hk := k.isLt; have hn := n.isLt
  match a with
  | ⟨0, _⟩ => show (k.val * 4096 + n.val) / 1024 % 4 = n.val / 1024; omega
  | ⟨1, _⟩ => show (k.val * 4096 + n.val) / 4096 = k.val; omega
  | ⟨2, _⟩ => show (k.val * 4096 + n.val) % 1024 = n.val % 1024; omega

/-- The reference's entry. -/
theorem at_entry (r n : Fin 4096) : val_main_v15 (F := Ideal) h w g (ix2 r n) = result h w g (ix2 r n) := by
  refine (val_main_v15_apply h w g _).trans (Finset.sum_congr rfl fun k _ => congrArg₂ (· * ·) ?_ ?_)
  · exact (congrArg (val_main_v11 (F := Ideal) h g) (funext fun a => by match a with | ⟨0, _⟩ => rfl | ⟨1, _⟩ => rfl)).trans (normed_at h g r k)
  · exact (congrArg (val_main_v14 (F := Ideal) w) (funext fun a => by match a with | ⟨0, _⟩ => rfl | ⟨1, _⟩ => rfl)).trans (side_at w k n)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems rfl r.2⟩) (Value.run (F := Ideal) m g)

/-- The reference's run: its result holds the same products. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v15) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ⟨(h c).1.trans ((val_main_v15_eq _ _ _).trans (funext fun y => ?_)), (h c).2⟩) (Value.run (F := Ideal) m g)
  obtain ⟨a, b, rfl⟩ : ∃ (a b : Fin 4096), y = ix2 a b := ⟨y 0, y 1, eq_ix2 y⟩
  exact at_entry _ _ _ a b

end Cert.Reference8Ideal.HgIn

end
-- ==== Proof.RefDxn.lean ====
module

public import proofs.«01_k».proof.Proof.Gen.Reference2Ideal.Read
public import proofs.«01_k».proof.Proof.Gen.Reference2Ideal.Run
public import proofs.«01_k».proof.Proof.FfnDxn

@[expose] public section

set_option maxRecDepth 16384

noncomputable section

/-! # What the reference computes for the gradient of the feed-forward block's input -/

namespace Cert.Reference2Ideal.Dxn

open Cert.Reference2Ideal Cert.Reference2Ideal.Gen Cert.Reference2Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Products Cert.RmsRow
open Cert.Kernel2Ideal.Dxn (dxn row resultX resultG)

variable (u : FVec Ideal S4x4096x1408 .bf16) (w : FVec Ideal S4x1024x1408 .bf16) (h : FVec Ideal S4096x1024 .f32) (g : FVec Ideal S1x1024 .f32)
  (dh : FVec Ideal S4096x1024 .f32)

/-- The mean square of a row. -/
theorem ms_at (r : Fin 4096) : val_main_v9 (F := Ideal) h (ix2 r 0) = ms (row h r) := by
  refine congrArg (· + Ideal.ofBits .f32 0x358637BD#32) (congrArg (Ideal.div · (Ideal.ofBits .f32 0x44800000#32)) ?_)
  rw [val_main_v5_apply]
  refine (val_main_v4_apply h _).trans ?_
  rw [show (val_main_cst (F := Ideal)) (Shape.Idx.first h_S_) = (0 : EReal) from zero_f32, zero_add]
  exact Finset.sum_congr rfl fun k _ => congrArg (fun i => h i * h i) (funext fun a => by match a with | ⟨0, _⟩ => rfl | ⟨1, _⟩ => rfl)

theorem root_at (r : Fin 4096) : val_main_v10 (F := Ideal) h (ix2 r 0) = root (row h r) := congrArg Ideal.rsqrt (ms_at h r)

/-- The product's gradient. -/
theorem dxn_at (r : Fin 4096) (d : Fin 1024) : val_main_v22 (F := Ideal) u w (ix2 r d) = dxn u w r d := by
  refine (val_main_v22_apply u w _).trans ((sum_blocks 4 1408 fun k : Fin 5632 => _).trans ?_)
  unfold dxn
  refine Finset.sum_congr rfl fun b _ => Finset.sum_congr rfl fun j _ => congrArg₂ (· * ·) ?_ ?_
  · rw [val_main_v21_apply, val_main_v20_apply]
    refine congrArg u (funext fun a => Fin.ext ?_)
    have hb := b.isLt; have hj := j.isLt
    match a with
    | ⟨0, _⟩ => show (r.val * 5632 + (1408 * b.val + j.val)) / 1408 % 4 = b.val; omega
    | ⟨1, _⟩ => show (r.val * 5632 + (1408 * b.val + j.val)) / 5632 = r.val; omega
    | ⟨2, _⟩ => show (r.val * 5632 + (1408 * b.val + j.val)) % 1408 = j.val; omega
  · rw [val_main_v2_apply, val_main_v1_apply]
    refine congrArg w (funext fun a => Fin.ext ?_)
    have hb := b.isLt; have hj := j.isLt
    match a with
    | ⟨0, _⟩ => show (d.val * 5632 + (1408 * b.val + j.val)) / 1408 % 4 = b.val; omega
    | ⟨1, _⟩ => show (d.val * 5632 + (1408 * b.val + j.val)) / 5632 = d.val; omega
    | ⟨2, _⟩ => show (d.val * 5632 + (1408 * b.val + j.val)) % 1408 = j.val; omega

/-- The normalised row. -/
theorem xhat_at (r : Fin 4096) (d : Fin 1024) : val_main_v15 (F := Ideal) h (ix2 r d) = h (ix2 r d) * root (row h r) := by
  have hi : idx_main_v14 (ix2 r d) = ix2 r 0 := funext fun a => by match a with | ⟨0, _⟩ => rfl | ⟨1, _⟩ => rfl
  rw [val_main_v15_apply, val_main_v14_apply, hi, root_at]; rfl

/-- The gain's gradient. -/
theorem gain_at (d : Fin 1024) : val_main_v25 (F := Ideal) u w h (ix2 0 d) = resultG (dxn u w) h (ix2 0 d) := by
  rw [val_main_v25_apply, val_main_v24_apply, show (val_main_cst_3 (F := Ideal)) (Shape.Idx.first h_S_) = (0 : EReal) from zero_f32, zero_add]
  unfold resultG
  refine Finset.sum_congr rfl fun r _ => ?_
  have hi : idx_main_v24 (idx_main_v25 (ix2 0 d)) r = ix2 r d := funext fun a => Fin.ext (by
    match a with | ⟨0, _⟩ => rfl | ⟨1, _⟩ => show 0 * 1024 + d.val = d.val; omega)
  rw [hi, val_main_v23_apply, xhat_at, dxn_at]
  exact mul_comm _ _

/-- The gradient that enters the norm. -/
theorem gd_at (r : Fin 4096) (d : Fin 1024) : val_main_v27 (F := Ideal) u w g (ix2 r d) = dxn u w r d * g (ix2 0 d) := by
  have hi : idx_main_v26 (ix2 r d) = ix2 0 d := funext fun a => by match a with | ⟨0, _⟩ => rfl | ⟨1, _⟩ => rfl
  rw [val_main_v27_apply, val_main_v26_apply, hi, dxn_at]; rfl

/-- The weight the mean square's derivative puts on a row. -/
theorem pull_at (r : Fin 4096) (d : Fin 1024) : val_main_v38 (F := Ideal) u w h g (ix2 r d) = pull (row h r) fun k => dxn u w r k * g (ix2 0 k) := by
  rw [val_main_v38_apply, val_main_v37_apply, show (val_main_cst_6 (F := Ideal)) (Shape.Idx.first h_S_) = (0 : EReal) from zero_f32, zero_add, Fin.sum_univ_one]
  have hi : idx_main_v37 (idx_main_v38 (ix2 r d)) 0 = ix2 r 0 := funext fun a => by match a with | ⟨0, _⟩ => rfl | ⟨1, _⟩ => rfl
  have h30 : val_main_v30 (F := Ideal) u w h g (ix2 r 0) = ∑ k, row h r k * (dxn u w r k * g (ix2 0 k)) := by
    rw [val_main_v30_apply, val_main_v29_apply, show (val_main_cst_4 (F := Ideal)) (Shape.Idx.first h_S_) = (0 : EReal) from zero_f32, zero_add]
    refine Finset.sum_congr rfl fun k _ => ?_
    have hk : idx_main_v29 (idx_main_v30 (ix2 r 0)) k = ix2 r k := funext fun a => Fin.ext (by
      match a with | ⟨0, _⟩ => show r.val * 1 + 0 = r.val; omega | ⟨1, _⟩ => rfl)
    rw [hk, val_main_v28_apply, gd_at]; rfl
  rw [hi, val_main_v36_apply, val_main_v34_apply, val_main_v13_apply, val_main_v11_apply, h30, root_at, ms_at]
  rfl

/-- The input's gradient. -/
theorem input_at (r : Fin 4096) (d : Fin 1024) : val_main_v42 (F := Ideal) u w h g dh (ix2 r d) = resultX (dxn u w) h g dh (ix2 r d) := by
  refine Eq.trans ?_ (grad_eq (row h r) (fun k => dxn u w r k * g (ix2 0 k)) (dh (ix2 r d)) d).symm
  have hi : idx_main_v31 (ix2 r d) = ix2 r 0 := funext fun a => by match a with | ⟨0, _⟩ => rfl | ⟨1, _⟩ => rfl
  rw [val_main_v42_apply, val_main_v40_apply, val_main_v33_apply, val_main_v32_apply, val_main_v39_apply, val_main_v41_apply,
    val_main_v31_apply, hi, root_at, gd_at, pull_at]
  rfl

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems rfl r.2⟩) (Value.run (F := Ideal) m g)

/-- The reference's run: its results hold the same two gradients. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v42) = resultX (dxn (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
      ∧ r.2.mem ((c.tc : Thread nD τ).loc main_v25) = resultG (dxn (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ⟨(h c).1.trans ((val_main_v42_eq m c).trans (funext fun y => ?_)),
    (h c).2.1.trans ((val_main_v25_eq _ _ _).trans (funext fun y => ?_)), (h c).2.2⟩) (Value.run (F := Ideal) m g)
  · obtain ⟨a, b, rfl⟩ : ∃ (a : Fin 4096) (b : Fin 1024), y = ix2 a b := ⟨y 0, y 1, eq_ix2 y⟩
    exact input_at _ _ _ _ _ a b
  · obtain ⟨a, b, rfl⟩ : ∃ (a : Fin 1) (b : Fin 1024), y = ix2 a b := ⟨y 0, y 1, eq_ix2 y⟩
    obtain rfl : a = 0 := Subsingleton.elim _ _
    exact gain_at _ _ _ b

end Cert.Reference2Ideal.Dxn

end
-- ==== Proof.HgDxn.lean ====
module

public import proofs.«01_k».proof.Proof.Gen.Kernel9Ideal.Value
public import proofs.«01_k».proof.Proof.Gen.Reference9Ideal.Read
public import proofs.«01_k».proof.Proof.Gen.Reference9Ideal.Run
public import proofs.«01_k».proof.Proof.RefDxn
public import proofs.«01_k».proof.Proof.HgIn

@[expose] public section

set_option maxRecDepth 16384

noncomputable section

/-! # The gradient at the recurrent mixer's input product: the norm's backward is that of the feed-forward block's first product -/

namespace Cert.Kernel9Ideal.HgDxn

open Cert.Kernel9Ideal Cert.Kernel9Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products Cert.RmsRow
open Idealize.ShloMosaic.Pipeline (Dat Cfg Window)
open Cert.Kernel2Ideal.Dxn (row at4 resultX resultG gtile tile_gain tile_input zero_apply gzero_apply)
open Cert.Kernel8Ideal.HgIn (flat_apply)

/-- One entry of a step: the accumulator and one column block's products. -/
theorem step_apply (acc : Vec Ideal S1024x1024 .f32) (u w : Vec Ideal S1x1024x1024 .bf16) (r d : Fin 1024) :
    k0_pay2 acc u w (ix2 r d) = acc (ix2 r d) + ∑ j : Fin 1024, u (ix3 (0 : Fin 1) r j) * w (ix3 (0 : Fin 1) d j) := by
  unfold k0_pay2
  rw [shapeCast_self, addf_apply]
  refine congrArg (acc (ix2 r d) + ·) ((rows_rows none _ _ r d).trans ?_)
  exact Finset.sum_congr rfl fun j _ => congrArg₂ (· * ·) (flat_apply u r j) (flat_apply w d j)

/-- The product's gradient: the rows of every column block by the rows of the same block of weights. -/
def dxn (u : FVec Ideal S4x4096x1024 .bf16) (w : FVec Ideal S4x1024x1024 .bf16) (r : Fin 4096) (d : Fin 1024) : EReal :=
  ∑ b : Fin 4, ∑ j : Fin 1024, u (ix3 b r j) * w (ix3 b d j)

variable (m : (ℓ : Loc nD τ sig) → Buf (Elt Ideal) ℓ)

theorem e0 : ∀ t : Fin cfg0.N, win0_0.index t = ![t.val % 4, t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val / 4, 0] := (by decide +kernel : ∀ t : Fin grid0.N, _)
theorem e5 : ∀ t : Fin cfg0.N, win0_5.index t = ![t.val / 4, 0] := (by decide +kernel : ∀ t : Fin grid0.N, _)
theorem e6 : ∀ t : Fin cfg0.N, win0_6.index t = ![0, 0] := (by decide +kernel : ∀ t : Fin grid0.N, _)

/-! ## The accumulator -/

/-- One column block's products. -/
def prod (u w : Vec Ideal S1x1024x1024 .bf16) (i : S1024x1024.Idx) : EReal :=
  ∑ j : Fin 1024, u (ix3 (0 : Fin 1) (i 0) j) * w (ix3 (0 : Fin 1) (i 1) j)
def part (c : Dev nD) (t : Fin cfg0.N) : S1024x1024.Idx → EReal := prod (iblk m c 0 t) (iblk m c 1 t)

/-- The accumulator at the last column block of a row tile. -/
theorem acc_eq (c : Dev nD) (t : Fin cfg0.N) (ht : t.val % 4 = 3) (r d : Fin 1024) :
    (outsAt0 m c t.val t.isLt).2.2 (ix2 r d) = ∑ s : Fin 4, part m c ⟨4 * (t.val / 4) + s.val, Pipeline.run_point_lt_of_flush t ht s⟩ (ix2 r d) := by
  have h := Pipeline.eq_sum_fin_of_reset_step_apply_of_flush (M := EReal) (fun n h => ((outsAt0 m c n h).2.2 : S1024x1024.Idx → EReal)) 4 (fun _ => 0) (part m c)
    (fun t h i => by
      obtain ⟨r, d, rfl⟩ : ∃ (r d : Fin 1024), i = ix2 r d := ⟨i 0, i 1, eq_ix2 i⟩
      show (outsAt0 m c t.val t.isLt).2.2 (ix2 r d) = _
      by_cases h1 : t.val % 16 = 0
      · rw [outsAt0_A m c t h h1 (by omega)]; frame_out
        exact (step_apply _ _ _ r d).trans (congrArg (· + part m c t (ix2 r d)) (zero_apply _))
      · rw [outsAt0_D m c t h h1 (by omega)]; frame_out
        exact (step_apply _ _ _ r d).trans (congrArg (· + part m c t (ix2 r d)) (zero_apply _)))
    (fun t h i => by
      obtain ⟨r, d, rfl⟩ : ∃ (r d : Fin 1024), i = ix2 r d := ⟨i 0, i 1, eq_ix2 i⟩
      show (outsAt0 m c t.val t.isLt).2.2 (ix2 r d) = _
      by_cases h3 : t.val % 4 = 3
      · rw [outsAt0_C m c t h (by omega) h3]; frame_out
        exact (step_apply _ _ _ r d).trans (congrArg (· + part m c t (ix2 r d)) (congrFun ((Memref.isWhole_whole cc0_scratch0).read_unread _) _))
      · rw [outsAt0_B m c t h (by omega) h3]; frame_out
        exact (step_apply _ _ _ r d).trans (congrArg (· + part m c t (ix2 r d)) (congrFun ((Memref.isWhole_whole cc0_scratch0).read_unread _) _)))
    t ht (ix2 r d)
  exact h.trans (zero_add _)

/-- The input's gradient at the last column block. -/
theorem out_eq (c : Dev nD) (t : Fin cfg0.N) (ht : t.val % 4 = 3) :
    (outsAt0 m c t.val t.isLt).1 = k0_pay7 (outsAt0 m c t.val t.isLt).2.2 (iblk m c 2 t) (iblk m c 3 t) (iblk m c 4 t) := by
  rw [outsAt0_C m c t (by omega) (by omega) ht]
  frame_out

/-- The gain's gradient at the last column block. -/
theorem gain_eq (c : Dev nD) (t : Fin cfg0.N) (ht : t.val % 4 = 3) :
    (outsAt0 m c t.val t.isLt).2.1 = k0_pay6 (outsAt0 m c t.val t.isLt).2.2 (iblk m c 2 t) (outsAt0 m c (t.val - 1) (Nat.lt_of_le_of_lt (Nat.sub_le _ _) t.isLt)).2.1 := by
  rw [outsAt0_C m c t (by omega) (by omega) ht]
  frame_out

/-! ## Blocks of the arguments -/

theorem tile_lt (t : Fin cfg0.N) : t.val / 4 < 4 := by have h : t.val < 16 := t.isLt; omega
def tile (t : Fin cfg0.N) : Fin 4 := ⟨t.val / 4, tile_lt t⟩

theorem u_at (c : Dev nD) (t : Fin cfg0.N) (r : Fin 1024) (j : Fin 1024) :
    (iblk m c 0 t : Vec Ideal S1x1024x1024 .bf16) (ix3 (0 : Fin 1) r j)
      = (m ((c : Thread nD τ).loc main_arg0) : FVec Ideal S4x4096x1024 .bf16) (ix3 ⟨t.val % 4, Nat.mod_lt _ (by decide)⟩ (at4 (tile t) r) j) := by
  blk_simp [iblk, V]
  refine congrArg (m ((c : Thread nD τ).loc main_arg0)) ?_
  blk_ext [e0]
  all_goals first | rfl | (show t.val / 4 * 1024 + r.val = 1024 * (t.val / 4) + r.val; omega)

theorem w_at (c : Dev nD) (t : Fin cfg0.N) (d : Fin 1024) (j : Fin 1024) :
    (iblk m c 1 t : Vec Ideal S1x1024x1024 .bf16) (ix3 (0 : Fin 1) d j)
      = (m ((c : Thread nD τ).loc main_arg1) : FVec Ideal S4x1024x1024 .bf16) (ix3 ⟨t.val % 4, Nat.mod_lt _ (by decide)⟩ d j) := by
  blk_simp [iblk, V]
  refine congrArg (m ((c : Thread nD τ).loc main_arg1)) ?_
  blk_ext [e1]
  all_goals first | rfl | (show _ = _ ; omega)

theorem h_at (c : Dev nD) (t : Fin cfg0.N) (r d : Fin 1024) :
    (iblk m c 2 t : Vec Ideal S1024x1024 .f32) (ix2 r d)
      = (m ((c : Thread nD τ).loc main_arg2) : FVec Ideal S4096x1024 .f32) (ix2 (at4 (tile t) r) d) := by
  blk_simp [iblk, V]
  refine congrArg (m ((c : Thread nD τ).loc main_arg2)) ?_
  blk_ext [e2]
  all_goals first | rfl | (show t.val / 4 * 1024 + r.val = 1024 * (t.val / 4) + r.val; omega)

theorem g_at (c : Dev nD) (t : Fin cfg0.N) (d : Fin 1024) :
    (iblk m c 3 t : Vec Ideal S1x1024 .f32) (ix2 0 d) = (m ((c : Thread nD τ).loc main_arg3) : FVec Ideal S1x1024 .f32) (ix2 0 d) := by
  blk_simp [iblk, V]
  refine congrArg (m ((c : Thread nD τ).loc main_arg3)) ?_
  blk_ext [e3]
  all_goals first | rfl | (show _ = _ ; omega)

theorem dh_at (c : Dev nD) (t : Fin cfg0.N) (r d : Fin 1024) :
    (iblk m c 4 t : Vec Ideal S1024x1024 .f32) (ix2 r d)
      = (m ((c : Thread nD τ).loc main_arg4) : FVec Ideal S4096x1024 .f32) (ix2 (at4 (tile t) r) d) := by
  blk_simp [iblk, V]
  refine congrArg (m ((c : Thread nD τ).loc main_arg4)) ?_
  blk_ext [e4]
  all_goals first | rfl | (show t.val / 4 * 1024 + r.val = 1024 * (t.val / 4) + r.val; omega)

/-- The accumulator at the last column block holds the tile's rows of the product's gradient. -/
theorem acc_at (c : Dev nD) (t : Fin cfg0.N) (ht : t.val % 4 = 3) (r d : Fin 1024) :
    (outsAt0 m c t.val t.isLt).2.2 (ix2 r d)
      = dxn (m ((c : Thread nD τ).loc main_arg0)) (m ((c : Thread nD τ).loc main_arg1)) (at4 (tile t) r) d := by
  rw [acc_eq m c t ht r d]
  unfold dxn part prod
  refine Finset.sum_congr rfl fun s _ => Finset.sum_congr rfl fun j _ => ?_
  have hs := s.isLt
  have ha : (⟨(4 * (t.val / 4) + s.val) % 4, Nat.mod_lt _ (by decide)⟩ : Fin 4) = s := Fin.ext (by show (4 * (t.val / 4) + s.val) % 4 = s.val; omega)
  have hb : tile ⟨4 * (t.val / 4) + s.val, Pipeline.run_point_lt_of_flush t ht s⟩ = tile t := Fin.ext (by show (4 * (t.val / 4) + s.val) / 4 = t.val / 4; omega)
  refine congrArg₂ (· * ·) ((u_at m c _ r j).trans ?_) ((w_at m c _ d j).trans ?_)
  · exact congrArg (m ((c : Thread nD τ).loc main_arg0)) (by rw [hb]; exact congrArg (fun b => ix3 b (at4 (tile t) r) j) ha)
  · exact congrArg (m ((c : Thread nD τ).loc main_arg1)) (congrArg (fun b => ix3 b d j) ha)

/-- The input's gradient after the whole grid. -/
theorem finalX (c : Dev nD) : (dats m 0 c).arrAt 5 cfg0.N = resultX (dxn (m ((c : Thread nD τ).loc main_arg0)) (m ((c : Thread nD τ).loc main_arg1)))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := (flush0_5 t).mp hf
  blk_simp
  rw [after0_5, out_eq m c t ht]
  obtain ⟨r, d, rfl⟩ : ∃ (r d : Fin 1024), y = ix2 r d := ⟨y 0, y 1, eq_ix2 y⟩
  have hy : (win0_5.blk t).view.emb (ix2 r d) = ix2 (at4 (tile t) r) d := by
    blk_ext [e5]
    all_goals first | rfl | (show t.val / 4 * 1024 + r.val = 1024 * (t.val / 4) + r.val; omega)
  refine Eq.trans ?_ (congrArg (resultX _ _ _ _) hy).symm
  exact tile_input _ _ _ _ _ _ _ _ (at4 (tile t) r) r d (fun k => acc_at m c t ht r k) (fun k => h_at m c t r k) (fun k => g_at m c t k) (dh_at m c t r d)

/-- What a point adds to the gain's gradient: a row tile's products at the tile's last column block. -/
def gpart (c : Dev nD) (t : Fin cfg0.N) : S1x1024.Idx → EReal := fun i =>
  if t.val % 4 = 3 then gtile (dxn (m ((c : Thread nD τ).loc main_arg0)) (m ((c : Thread nD τ).loc main_arg1))) (m ((c : Thread nD τ).loc main_arg2)) (at4 (tile t)) (i 1) else 0

/-- The gain's gradient at the last point. -/
theorem gain_all (c : Dev nD) (t : Fin cfg0.N) (ht : t.val % 16 = 15) (d : Fin 1024) :
    (outsAt0 m c t.val t.isLt).2.1 (ix2 0 d) = ∑ s : Fin 16, gpart m c ⟨16 * (t.val / 16) + s.val, Pipeline.run_point_lt_of_flush t ht s⟩ (ix2 0 d) := by
  have h := Pipeline.eq_sum_fin_of_reset_step_apply_of_flush (M := EReal) (fun n h => ((outsAt0 m c n h).2.1 : S1x1024.Idx → EReal)) 16 (fun _ => 0) (gpart m c)
    (fun t h i => by
      show (outsAt0 m c t.val t.isLt).2.1 i = _
      rw [outsAt0_A m c t (by omega) h (by omega)]; frame_out
      exact (gzero_apply i).trans (by rw [gpart, if_neg (by omega), zero_add]))
    (fun t h i => by
      obtain ⟨a, d, rfl⟩ : ∃ (a : Fin 1) (d : Fin 1024), i = ix2 a d := ⟨i 0, i 1, eq_ix2 i⟩
      obtain rfl : a = 0 := Subsingleton.elim _ _
      show (outsAt0 m c t.val t.isLt).2.1 (ix2 0 d) = _
      by_cases h3 : t.val % 4 = 3
      · rw [gain_eq m c t h3]
        refine (tile_gain (dxn (m ((c : Thread nD τ).loc main_arg0)) (m ((c : Thread nD τ).loc main_arg1))) (m ((c : Thread nD τ).loc main_arg2)) _ _ _ (at4 (tile t)) d
          (fun r => acc_at m c t h3 r d) (fun r k => h_at m c t r k)).trans ?_
        rw [gpart, if_pos h3]
      · rw [gpart, if_neg h3, add_zero]
        by_cases h0 : t.val % 4 = 0
        · rw [outsAt0_D m c t h0 h h3]; frame_out; rfl
        · rw [outsAt0_B m c t h0 h h3]; frame_out; rfl)
    t ht (ix2 0 d)
  exact h.trans (zero_add _)

/-- The gain's gradient after the whole grid. -/
theorem finalG (c : Dev nD) : (dats m 0 c).arrAt 6 cfg0.N = resultG (dxn (m ((c : Thread nD τ).loc main_arg0)) (m ((c : Thread nD τ).loc main_arg1)))
    (m ((c : Thread nD τ).loc main_arg2)) := by
  refine (dats m 0 c).arrAt_eq_of_covers 6 _ (by decide +kernel) fun t hf y => ?_
  have ht := (flush0_6 t).mp hf
  blk_simp
  rw [after0_6]
  obtain ⟨a, d, rfl⟩ : ∃ (a : Fin 1) (d : Fin 1024), y = ix2 a d := ⟨y 0, y 1, eq_ix2 y⟩
  obtain rfl : a = 0 := Subsingleton.elim _ _
  have hy : (win0_6.blk t).view.emb (ix2 0 d) = ix2 0 d := by
    blk_ext [e6]
    all_goals first | rfl | (show _ = _ ; omega)
  refine (gain_all m c t ht d).trans ?_
  refine Eq.trans ?_ (congrArg (resultG _ _) hy).symm
  unfold resultG
  refine (sum_blocks 4 4 fun s : Fin 16 => _).trans ?_
  refine Eq.trans ?_ (sum_blocks 4 1024 fun r : Fin 4096 => _).symm
  have h15 : t.val = 15 := by have h : t.val < 16 := t.isLt; omega
  refine Finset.sum_congr rfl fun a _ => ?_
  have ha := a.isLt
  rw [Fin.sum_univ_four]
  have hz : ∀ (n : ℕ) (hn : n < cfg0.N), n % 4 ≠ 3 → gpart m c ⟨n, hn⟩ (ix2 0 d) = 0 := fun n hn h => by rw [gpart, if_neg h]
  rw [hz _ _ (by show (16 * (t.val / 16) + (4 * a.val + 0)) % 4 ≠ 3; omega), hz _ _ (by show (16 * (t.val / 16) + (4 * a.val + 1)) % 4 ≠ 3; omega),
    hz _ _ (by show (16 * (t.val / 16) + (4 * a.val + 2)) % 4 ≠ 3; omega), zero_add, zero_add, zero_add, gpart,
    if_pos (by show (16 * (t.val / 16) + (4 * a.val + 3)) % 4 = 3; omega)]
  have hb : ∀ h, tile ⟨16 * (t.val / 16) + (4 * a.val + 3), h⟩ = a := fun h => Fin.ext (by show (16 * (t.val / 16) + (4 * a.val + 3)) / 4 = a.val; omega)
  exact congrArg (fun b => gtile (dxn (m ((c : Thread nD τ).loc main_arg0)) (m ((c : Thread nD τ).loc main_arg1))) (m ((c : Thread nD τ).loc main_arg2)) (at4 b) d) (hb _)

/-- The kernel's run: its results hold the two gradients, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = resultX (dxn (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
      ∧ r.2.mem ((c.tc : Thread nD τ).loc main_v0_1) = resultG (dxn (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (finalX m c), (h c).2.1.trans (finalG m c), (h c).2.2⟩) (Value.run_blocks m g)

end Cert.Kernel9Ideal.HgDxn

namespace Cert.Reference9Ideal.HgDxn

open Cert.Reference9Ideal Cert.Reference9Ideal.Gen Cert.Reference9Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Products Cert.RmsRow
open Cert.Kernel2Ideal.Dxn (row resultX resultG)
open Cert.Kernel9Ideal.HgDxn (dxn)

variable (u : FVec Ideal S4x4096x1024 .bf16) (w : FVec Ideal S4x1024x1024 .bf16) (h : FVec Ideal S4096x1024 .f32) (g : FVec Ideal S1x1024 .f32)
  (dh : FVec Ideal S4096x1024 .f32)

/-- The mean square of a row and its root, as in the feed-forward block. -/
theorem ms_at (r : Fin 4096) : val_main_v9 (F := Ideal) h (ix2 r 0) = ms (row h r) := Cert.Reference2Ideal.Dxn.ms_at h r
theorem root_at (r : Fin 4096) : val_main_v10 (F := Ideal) h (ix2 r 0) = root (row h r) := Cert.Reference2Ideal.Dxn.root_at h r
/-- The normalised row. -/
theorem xhat_at (r : Fin 4096) (d : Fin 1024) : val_main_v15 (F := Ideal) h (ix2 r d) = h (ix2 r d) * root (row h r) := Cert.Reference2Ideal.Dxn.xhat_at h r d

/-- The product's gradient. -/
theorem dxn_at (r : Fin 4096) (d : Fin 1024) : val_main_v22 (F := Ideal) u w (ix2 r d) = dxn u w r d := by
  refine (val_main_v22_apply u w _).trans ((sum_blocks 4 1024 fun k : Fin 4096 => _).trans ?_)
  unfold dxn
  refine Finset.sum_congr rfl fun b _ => Finset.sum_congr rfl fun j _ => congrArg₂ (· * ·) ?_ ?_
  · rw [val_main_v21_apply, val_main_v20_apply]
    refine congrArg u (funext fun a => Fin.ext ?_)
    have hb := b.isLt; have hj := j.isLt
    match a with
    | ⟨0, _⟩ => show (r.val * 4096 + (1024 * b.val + j.val)) / 1024 % 4 = b.val; omega
    | ⟨1, _⟩ => show (r.val * 4096 + (1024 * b.val + j.val)) / 4096 = r.val; omega
    | ⟨2, _⟩ => show (r.val * 4096 + (1024 * b.val + j.val)) % 1024 = j.val; omega
  · rw [val_main_v2_apply, val_main_v1_apply]
    refine congrArg w (funext fun a => Fin.ext ?_)
    have hb := b.isLt; have hj := j.isLt
    match a with
    | ⟨0, _⟩ => show (d.val * 4096 + (1024 * b.val + j.val)) / 1024 % 4 = b.val; omega
    | ⟨1, _⟩ => show (d.val * 4096 + (1024 * b.val + j.val)) / 4096 = d.val; omega
    | ⟨2, _⟩ => show (d.val * 4096 + (1024 * b.val + j.val)) % 1024 = j.val; omega

/-- The gain's gradient. -/
theorem gain_at (d : Fin 1024) : val_main_v25 (F := Ideal) u w h (ix2 0 d) = resultG (dxn u w) h (ix2 0 d) := by
  rw [val_main_v25_apply, val_main_v24_apply, show (val_main_cst_3 (F := Ideal)) (Shape.Idx.first h_S_) = (0 : EReal) from zero_f32, zero_add]
  unfold resultG
  refine Finset.sum_congr rfl fun r _ => ?_
  have hi : idx_main_v24 (idx_main_v25 (ix2 0 d)) r = ix2 r d := funext fun a => Fin.ext (by
    match a with | ⟨0, _⟩ => rfl | ⟨1, _⟩ => show 0 * 1024 + d.val = d.val; omega)
  rw [hi, val_main_v23_apply, xhat_at, dxn_at]
  exact mul_comm _ _

/-- The gradient that enters the norm. -/
theorem gd_at (r : Fin 4096) (d : Fin 1024) : val_main_v27 (F := Ideal) u w g (ix2 r d) = dxn u w r d * g (ix2 0 d) := by
  have hi : idx_main_v26 (ix2 r d) = ix2 0 d := funext fun a => by match a with | ⟨0, _⟩ => rfl | ⟨1, _⟩ => rfl
  rw [val_main_v27_apply, val_main_v26_apply, hi, dxn_at]; rfl

/-- The weight the mean square's derivative puts on a row. -/
theorem pull_at (r : Fin 4096) (d : Fin 1024) : val_main_v38 (F := Ideal) u w h g (ix2 r d) = pull (row h r) fun k => dxn u w r k * g (ix2 0 k) := by
  rw [val_main_v38_apply, val_main_v37_apply, show (val_main_cst_6 (F := Ideal)) (Shape.Idx.first h_S_) = (0 : EReal) from zero_f32, zero_add, Fin.sum_univ_one]
  have hi : idx_main_v37 (idx_main_v38 (ix2 r d)) 0 = ix2 r 0 := funext fun a => by match a with | ⟨0, _⟩ => rfl | ⟨1, _⟩ => rfl
  have h30 : val_main_v30 (F := Ideal) u w h g (ix2 r 0) = ∑ k, row h r k * (dxn u w r k * g (ix2 0 k)) := by
    rw [val_main_v30_apply, val_main_v29_apply, show (val_main_cst_4 (F := Ideal)) (Shape.Idx.first h_S_) = (0 : EReal) from zero_f32, zero_add]
    refine Finset.sum_congr rfl fun k _ => ?_
    have hk : idx_main_v29 (idx_main_v30 (ix2 r 0)) k = ix2 r k := funext fun a => Fin.ext (by
      match a with | ⟨0, _⟩ => show r.val * 1 + 0 = r.val; omega | ⟨1, _⟩ => rfl)
    rw [hk, val_main_v28_apply, gd_at]; rfl
  rw [hi, val_main_v36_apply, val_main_v34_apply, val_main_v13_apply, val_main_v11_apply, h30, root_at, ms_at]
  rfl

/-- The input's gradient. -/
theorem input_at (r : Fin 4096) (d : Fin 1024) : val_main_v42 (F := Ideal) u w h g dh (ix2 r d) = resultX (dxn u w) h g dh (ix2 r d) := by
  refine Eq.trans ?_ (grad_eq (row h r) (fun k => dxn u w r k * g (ix2 0 k)) (dh (ix2 r d)) d).symm
  have hi : idx_main_v31 (ix2 r d) = ix2 r 0 := funext fun a => by match a with | ⟨0, _⟩ => rfl | ⟨1, _⟩ => rfl
  rw [val_main_v42_apply, val_main_v40_apply, val_main_v33_apply, val_main_v32_apply, val_main_v39_apply, val_main_v41_apply,
    val_main_v31_apply, hi, root_at, gd_at, pull_at]
  rfl

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => (h c).2.2, sem_eq_zero_of_no_sems rfl r.2⟩) (Value.run (F := Ideal) m g)

/-- The reference's run: its results hold the same two gradients. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v42) = resultX (dxn (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
      ∧ r.2.mem ((c.tc : Thread nD τ).loc main_v25) = resultG (dxn (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ⟨(h c).1.trans ((val_main_v42_eq m c).trans (funext fun y => ?_)),
    (h c).2.1.trans ((val_main_v25_eq _ _ _).trans (funext fun y => ?_)), (h c).2.2⟩) (Value.run (F := Ideal) m g)
  · obtain ⟨a, b, rfl⟩ : ∃ (a : Fin 4096) (b : Fin 1024), y = ix2 a b := ⟨y 0, y 1, eq_ix2 y⟩
    exact input_at _ _ _ _ _ a b
  · obtain ⟨a, b, rfl⟩ : ∃ (a : Fin 1) (b : Fin 1024), y = ix2 a b := ⟨y 0, y 1, eq_ix2 y⟩
    obtain rfl : a = 0 := Subsingleton.elim _ _
    exact gain_at _ _ _ b

end Cert.Reference9Ideal.HgDxn

end
-- ==== Proof.FfnDact.lean ====
module

public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.Value
public import Idealize.ShloMosaic.Lib.Pipeline.ValueKit
public import proofs.«01_k».proof.Proof.Products
public import Idealize.ShloMosaic.Lib.Tactic

@[expose] public section

set_option maxRecDepth 16384

noncomputable section

/-! # The gradient of the activations: rows times rows of the down weights -/

namespace Cert.Kernel5Ideal.Dact

open Cert.Kernel5Ideal Cert.Kernel5Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products
open Idealize.ShloMosaic.Pipeline (Dat Cfg Window)

/-- One entry of the block. -/
theorem pay_apply (x : Vec Ideal S1024x1024 .f32) (w : Vec Ideal S1x1408x1024 .bf16) (r : Fin 1024) (f : Fin 1408) :
    k0_pay3 (k0_pay2 (k0_pay1 (F := Ideal)) x w) (ix2 r f) = ∑ k : Fin 1024, x (ix2 r k) * w (ix3 (0 : Fin 1) f k) := by
  unfold k0_pay3 k0_pay2 k0_pay1
  dsimp only
  rw [truncf_apply, shapeCast_self, addf_apply]
  rw [show matmul dot_S1024x1024_S1408x1024_S1024x1408_1_1_0_0_n_n none (truncf .bf16 x bitsLt_bf16_f32) (shapeCast S1408x1024 w shapeCasts_S1x1408x1024_S1408x1024)
    (constant (F := Ideal) S1024x1408 .f32 0x00000000#32) (ix2 r f) = _ from Cert.Products.rows_rows none _ _ r f]
  rw [shapeCast_self, show broadcast S1024x1408 (Scalar.ofBits (F := Ideal) .f32 0x00000000#32) (ix2 r f) = (0 : EReal) from Cert.Products.zero_f32, zero_add]
  refine Finset.sum_congr rfl fun k _ => congrArg (x (ix2 r k) * ·) ?_
  exact shapeCast_apply w shapeCasts_S1x1408x1024_S1408x1024 (ix2 f k) (ix3 0 f k) (by
    rw [Shape.rowMajor_val_three, Shape.rowMajor_val_two]; show (0 * 1408 + f.val) * 1024 + k.val = f.val * 1024 + k.val; omega)

variable (m : (ℓ : Loc nD τ sig) → Buf (Elt Ideal) ℓ)

theorem e0 : ∀ t : Fin cfg0.N, win0_0.index t = ![t.val / 2, 0] := (by decide +kernel : ∀ t : Fin grid0.N, _)
theorem e1 : ∀ t : Fin cfg0.N, win0_1.index t = ![0, t.val % 2, 0] := (by decide +kernel : ∀ t : Fin grid0.N, _)
theorem e2 : ∀ t : Fin cfg0.N, win0_2.index t = ![t.val / 2, t.val % 2] := (by decide +kernel : ∀ t : Fin grid0.N, _)

/-- The result array: rows of the gradient times rows of the weights. -/
def result (x : FVec Ideal S4096x1024 .f32) (w : FVec Ideal S1x2816x1024 .bf16) : FVec Ideal S4096x2816 .bf16 :=
  fun i => ∑ k : Fin 1024, x (ix2 (i 0) k) * w (ix3 (0 : Fin 1) (i 1) k)

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨r, f, rfl⟩ : ∃ (r : Fin 1024) (f : Fin 1408), y = ix2 r f := ⟨y 0, y 1, eq_ix2 y⟩
  refine (pay_apply _ _ r f).trans (Fin.sum_fin_congr fun k => ?_)
  congr 1
  · blk_simp [iblk, V]
    refine congrArg (m ((c : Thread nD τ).loc main_arg0)) ?_
    blk_ext [e0, e2]
    show t.val / 2 * 1024 + r.val = ((win0_2.blk t).view.emb (ix2 r f) 0).val
    blk_simp [e2]
    rfl
  · blk_simp [iblk, V]
    refine congrArg (m ((c : Thread nD τ).loc main_arg1)) ?_
    blk_ext [e1, e2]
    show t.val % 2 * 1408 + f.val = ((win0_2.blk t).view.emb (ix2 r f) 1).val
    blk_simp [e2]
    rfl

/-- The kernel's run: its result holds the products, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel5Ideal.Dact

namespace Cert.Reference5Ideal.Dact

open Cert.Reference5Ideal Cert.Reference5Ideal.Gen Cert.Reference5Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Kernel5Ideal.Dact (result)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Value.run (F := Ideal) m g)

/-- The reference's run: its result holds the same products. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨(h c).1.trans ((val_main_v5_eq _ _).trans (funext fun y => ?_)), (h c).2⟩) (Value.run (F := Ideal) m g)
  rw [val_main_v5_apply]
  refine (val_main_v4_apply _ _ y).trans (Finset.sum_congr rfl fun k _ => congrArg₂ (· * ·) (congrArg _ ?_) ?_)
  · funext a; match a with | ⟨0, _⟩ => rfl | ⟨1, _⟩ => rfl
  · rw [val_main_v1_apply, val_main_v0_apply]
    refine congrArg (m ((c.tc : Thread nD τ).loc main_arg1)) (funext fun a => Fin.ext ?_)
    have h1 : (y 1).val < 2816 := (y 1).isLt
    have hk := k.isLt
    match a with
    | ⟨0, _⟩ => rfl
    | ⟨1, _⟩ => show ((y 1).val * 1024 + k.val) / 1024 % 2816 = (y 1).val; omega
    | ⟨2, _⟩ => show ((y 1).val * 1024 + k.val) % 1024 = k.val; omega

end Cert.Reference5Ideal.Dact

end
-- ==== Proof.FfnDwdown.lean ====
module

public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.Value
public import Idealize.ShloMosaic.Lib.Pipeline.ValueKit
public import proofs.«01_k».proof.Proof.Products
public import Idealize.ShloMosaic.Lib.Tactic

@[expose] public section

set_option maxRecDepth 16384

noncomputable section

/-! # The gradient of the down weights: columns of the activations times columns of the row gradients -/

namespace Cert.Kernel4Ideal.Dwdown

open Cert.Kernel4Ideal Cert.Kernel4Ideal.Gen
open Idealize.ShloMosaic hiding ix1 ix2 ix3 eq_ix2 eq_ix3 truncf_apply extf_apply addf_apply mulf_apply subf_apply
open Idealize.ShloMosaic.TcCoe Idealize.ShloMosaic.ValueIdx
open Idealize.SL.Sem
open Cert.Products
open Idealize.ShloMosaic.Pipeline (Dat Cfg Window)

/-- One entry of a step: the accumulator and one row block's products. -/
theorem step_apply (x : Vec Ideal S1024x1408 .bf16) (acc : Vec Ideal S1408x1024 .f32) (d : Vec Ideal S1024x1024 .f32) (f : Fin 1408) (k : Fin 1024) :
    k0_pay2 x acc d (ix2 f k) = acc (ix2 f k) + ∑ r : Fin 1024, x (ix2 r f) * d (ix2 r k) := by
  unfold k0_pay2
  rw [shapeCast_self, addf_apply]
  exact congrArg (acc (ix2 f k) + ·) (cols_cols none _ _ f k)

theorem zero_apply (i : S1408x1024.Idx) : k0_pay1 (F := Ideal) i = (0 : EReal) := by
  unfold k0_pay1
  rw [shapeCast_self]
  exact zero_f32

theorem lift_apply (x : Vec Ideal S1408x1024 .f32) (f : Fin 1408) (k : Fin 1024) : k0_pay3 x (ix3 (0 : Fin 1) f k) = x (ix2 f k) := by
  unfold k0_pay3
  exact shapeCast_apply x shapeCasts_S1408x1024_S1x1408x1024 (ix3 0 f k) (ix2 f k) (by
    rw [Shape.rowMajor_val_three, Shape.rowMajor_val_two]; show f.val * 1024 + k.val = (0 * 1408 + f.val) * 1024 + k.val; omega)

variable (m : (ℓ : Loc nD τ sig) → Buf (Elt Ideal) ℓ)

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, t.val / 4, 0] := (by decide +kernel : ∀ t : Fin grid0.N, _)

/-- One row block's products. -/
def prod (x : Vec Ideal S1024x1408 .bf16) (d : Vec Ideal S1024x1024 .f32) (i : S1408x1024.Idx) : EReal :=
  ∑ r : Fin 1024, x (ix2 r (i 0)) * d (ix2 r (i 1))
def part (c : Dev nD) (t : Fin cfg0.N) : S1408x1024.Idx → EReal := prod (iblk m c 0 t) (iblk m c 1 t)

/-- The accumulator at the last row block of a column tile. -/
theorem acc_eq (c : Dev nD) (t : Fin cfg0.N) (ht : t.val % 4 = 3) (f : Fin 1408) (k : Fin 1024) :
    (outsAt0 m c t.val t.isLt).2 (ix2 f k) = ∑ s : Fin 4, part m c ⟨4 * (t.val / 4) + s.val, Pipeline.run_point_lt_of_flush t ht s⟩ (ix2 f k) := by
  have h := Pipeline.eq_sum_fin_of_reset_step_apply_of_flush (M := EReal) (fun n h => ((outsAt0 m c n h).2 : S1408x1024.Idx → EReal)) 4 (fun _ => 0) (part m c)
    (fun t h i => by
      obtain ⟨f, k, rfl⟩ : ∃ (f : Fin 1408) (k : Fin 1024), i = ix2 f k := ⟨i 0, i 1, eq_ix2 i⟩
      show (outsAt0 m c t.val t.isLt).2 (ix2 f k) = _
      rw [outsAt0_A m c t h (by omega)]; frame_out
      exact (step_apply _ _ _ f k).trans (congrArg (· + part m c t (ix2 f k)) (zero_apply _)))
    (fun t h i => by
      obtain ⟨f, k, rfl⟩ : ∃ (f : Fin 1408) (k : Fin 1024), i = ix2 f k := ⟨i 0, i 1, eq_ix2 i⟩
      show (outsAt0 m c t.val t.isLt).2 (ix2 f k) = _
      by_cases h3 : t.val % 4 = 3
      · rw [outsAt0_C m c t h h3]; frame_out
        exact (step_apply _ _ _ f k).trans (congrArg (· + part m c t (ix2 f k)) (congrFun ((Memref.isWhole_whole cc0_scratch0).read_unread _) _))
      · rw [outsAt0_B m c t h h3]; frame_out
        exact (step_apply _ _ _ f k).trans (congrArg (· + part m c t (ix2 f k)) (congrFun ((Memref.isWhole_whole cc0_scratch0).read_unread _) _)))
    t ht (ix2 f k)
  exact h.trans (zero_add _)

/-- The result block at the last row block is the accumulator. -/
theorem out_eq (c : Dev nD) (t : Fin cfg0.N) (ht : t.val % 4 = 3) :
    (outsAt0 m c t.val t.isLt).1 = k0_pay3 (outsAt0 m c t.val t.isLt).2 := by
  rw [outsAt0_C m c t (by omega) ht]
  frame_out

/-- The result array. -/
def result (x : FVec Ideal S4096x2816 .bf16) (d : FVec Ideal S4096x1024 .f32) : FVec Ideal S1x2816x1024 .f32 :=
  fun i => ∑ r : Fin 4096, x (ix2 r (i 1)) * d (ix2 r (i 2))

theorem final (c : Dev nD) : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have ht := (flush0_2 t).mp hf
  blk_simp
  rw [after0_2, out_eq m c t ht]
  obtain ⟨a, f, k, rfl⟩ : ∃ (a : Fin 1) (f : Fin 1408) (k : Fin 1024), y = ix3 a f k := ⟨y 0, y 1, y 2, eq_ix3 y⟩
  obtain rfl : a = 0 := Subsingleton.elim _ _
  refine (lift_apply _ f k).trans ((acc_eq m c t ht f k).trans ?_)
  unfold result part prod
  refine Eq.trans ?_ (sum_blocks 4 1024 fun r : Fin 4096 => _).symm
  refine Finset.sum_congr rfl fun s _ => Finset.sum_congr rfl fun r _ => ?_
  have hs := s.isLt
  congr 1
  · blk_simp [iblk, V]
    refine congrArg (m ((c : Thread nD τ).loc main_arg0)) ?_
    blk_ext [e0, e2]
    · show (4 * (t.val / 4) + s.val) % 4 * 1024 + r.val = _; omega
    · show (4 * (t.val / 4) + s.val) / 4 * 1408 + f.val = ((win0_2.blk t).view.emb (ix3 0 f k) 1).val
      blk_simp [e2]
      show _ = t.val / 4 * 1408 + f.val; omega
  · blk_simp [iblk, V]
    refine congrArg (m ((c : Thread nD τ).loc main_arg1)) ?_
    blk_ext [e1, e2]
    · show (4 * (t.val / 4) + s.val) % 4 * 1024 + r.val = _; omega
    · show k.val = ((win0_2.blk t).view.emb (ix3 0 f k) 2).val
      blk_simp [e2]
      rfl

/-- The kernel's run: its result holds the products, its arguments end unchanged. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v0) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (Value.run_blocks m g)

end Cert.Kernel4Ideal.Dwdown

namespace Cert.Reference4Ideal.Dwdown

open Cert.Reference4Ideal Cert.Reference4Ideal.Gen Cert.Reference4Ideal.Read
open Idealize.ShloMosaic hiding ix1 ix2 ix3 eq_ix2 eq_ix3 truncf_apply extf_apply addf_apply mulf_apply subf_apply
open Idealize.ShloMosaic.TcCoe Idealize.ShloMosaic.ValueIdx Idealize.ShloMosaic.StableHlo
open Idealize.SL.Sem
open Cert.Kernel4Ideal.Dwdown (result)

variable (m : (ℓ : Loc nD τ sig) → Buf (Elt Ideal) ℓ)

/-- The reference's frame: it runs, its arguments end unchanged and every counter ends at zero. -/
theorem frame (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems rfl r.2⟩) (Value.run (F := Ideal) m g)

/-- The reference's run: its result holds the same products. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨(h c).1.trans ((val_main_v5_eq _ _).trans (funext fun y => ?_)), (h c).2⟩) (Value.run (F := Ideal) m g)
  refine (val_main_v5_apply _ _ y).trans ((val_main_v4_apply _ _ _).trans ((val_main_v3_apply _ _ _).trans ?_))
  unfold result
  refine Finset.sum_congr rfl fun r _ => (mul_comm _ _).trans (congrArg₂ (· * ·) ?_ ?_)
  · rw [val_main_v0_apply]
    refine congrArg (m ((c.tc : Thread nD τ).loc main_arg0)) (funext fun a => Fin.ext ?_)
    have h0 : (y 0).val < 1 := (y 0).isLt
    have h2 : (y 2).val < 1024 := (y 2).isLt
    match a with
    | ⟨0, _⟩ => rfl
    | ⟨1, _⟩ => show (((y 0).val * 2816 + (y 1).val) * 1024 + (y 2).val) / 1024 = (y 1).val; omega
  · refine congrArg (m ((c.tc : Thread nD τ).loc main_arg1)) (funext fun a => Fin.ext ?_)
    have h0 : (y 0).val < 1 := (y 0).isLt
    have h2 : (y 2).val < 1024 := (y 2).isLt
    match a with
    | ⟨0, _⟩ => rfl
    | ⟨1, _⟩ => show (((y 0).val * 2816 + (y 1).val) * 1024 + (y 2).val) % 1024 = (y 2).val; omega

end Cert.Reference4Ideal.Dwdown

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.ReferenceIdeal.Read
public import proofs.«01_k».proof.Proof.AttnFrame
public import proofs.«01_k».proof.Proof.FiniteArgs
public import proofs.«01_k».proof.Proof.WordFrame
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Kernel2
public import proofs.«01_k».proof.Proof.Gen.Kernel2Ideal
public import proofs.«01_k».proof.Proof.Gen.Reference2Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Read
public import proofs.«01_k».proof.Proof.Gen.Reference7Ideal.Run
public import proofs.«01_k».proof.Proof.FfnUp
public import proofs.«01_k».proof.Proof.FfnDown
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Read
public import proofs.«01_k».proof.Proof.Gen.Reference9Ideal.Run
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal.Read
public import proofs.«01_k».proof.Proof.Gen.Reference10Ideal.Run
public import proofs.«01_k».proof.Proof.Gen.Kernel10
public import proofs.«01_k».proof.Proof.Gen.Kernel10Ideal
public import proofs.«01_k».proof.Proof.Gen.Reference10Ideal
public import proofs.«01_k».proof.Proof.HgDwin
public import proofs.«01_k».proof.Proof.HgIn
public import proofs.«01_k».proof.Proof.HgDxn
public import proofs.«01_k».proof.Proof.FfnDwup
public import proofs.«01_k».proof.Proof.RefDwup
public import proofs.«01_k».proof.Proof.FfnDact
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Read
public import proofs.«01_k».proof.Proof.Gen.Reference3Ideal.Run
public import proofs.«01_k».proof.Proof.Gen.Kernel3
public import proofs.«01_k».proof.Proof.Gen.Kernel3Ideal
public import proofs.«01_k».proof.Proof.Gen.Reference3Ideal
public import proofs.«01_k».proof.Proof.FfnDwdown
public import proofs.«01_k».proof.Proof.FfnDxn
public import proofs.«01_k».proof.Proof.RefDxn
public import Idealize.ShloMosaic.Lib.Quiescent
public import Idealize.ShloMosaic.Adequacy
public import Idealize.ShloMosaic.Init

@[expose] public section

noncomputable section

namespace Cert.Proof

open Idealize.ShloMosaic Idealize.SL.Sem

/-- The reference's frame: it runs, its arguments end unchanged and every counter ends at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => ⟨(h c).2.2.2.1, (h c).2.2.2.2.1, (h c).2.2.2.2.2.1, (h c).2.2.2.2.2.2⟩, sem_eq_zero_of_no_sems rfl r.2⟩)
    (Cert.ReferenceIdeal.Value.run (F := Ideal) m g)

section Kernel
open Cert.KernelIdeal Cert.KernelIdeal.Gen Cert.KernelIdeal.Attn Idealize.ShloMosaic.TcCoe

/-- The kernel's run from arguments that hold the reals `A`: its three results hold the gradients of `A`. -/
theorem kernel_run (m : (ℓ : Loc nD τ sig) → Buf (Elt Ideal) ℓ) (g : Dev nD → PrngReg) (A : Dev nD → RA) (H : ∀ c, Holds m c (A c)) :
    θ_run (defs (F := Ideal)) (onTc (τ := τ) (main (F := Ideal))) ⟨m, fun _ => 0, g⟩ (fun r => ∀ c : Dev nD,
      r.2.mem ((c.tc : Thread nD τ).loc main_v0_0) = (fun y => ((A c).dq (y 0) (y 1) : EReal))
      ∧ r.2.mem ((c.tc : Thread nD τ).loc main_v0_1) = (fun y => ((A c).dkv (y 0) (y 1) : EReal))
      ∧ r.2.mem ((c.tc : Thread nD τ).loc main_v0_2) = (fun y => ((A c).dz (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final5 m c (A c) (H c)), ((h c).1 6).trans (final6 m c (A c) (H c)), ((h c).1 7).trans (final7 m c (A c) (H c)),
    ((h c).1 1).trans (((dats m 0 c).arrAt_in 1 rfl _).trans ((A_eq m c 1).trans (V_main_arg0 m c))),
    ((h c).1 3).trans (((dats m 0 c).arrAt_in 3 rfl _).trans ((A_eq m c 3).trans (V_main_arg1 m c))),
    ((h c).1 0).trans (((dats m 0 c).arrAt_in 0 rfl _).trans ((A_eq m c 0).trans (V_main_arg2 m c))),
    ((h c).1 4).trans (((dats m 0 c).arrAt_in 4 rfl _).trans ((A_eq m c 4).trans (V_main_arg3 m c)))⟩)
    (run_main m g)

end Kernel

section Reference
open Cert.ReferenceIdeal Cert.ReferenceIdeal.Gen Cert.ReferenceIdeal.Read Cert.ReferenceIdeal.Attn Idealize.ShloMosaic.StableHlo Idealize.ShloMosaic.ValueIdx
open Cert.KernelIdeal.Attn (RA)

/-- The reference's run from arguments that hold the reals `A`: its three results hold the gradients of `A`. -/
theorem reference_run (m : (ℓ : Loc nD τ sig) → Buf (Elt Ideal) ℓ) (g : Dev nD → PrngReg) (A : Dev nD → RA)
    (H : ∀ c : Dev nD, In (m ((c.tc : Thread nD τ).loc main_arg0)) (m ((c.tc : Thread nD τ).loc main_arg1)) (m ((c.tc : Thread nD τ).loc main_arg2)) (m ((c.tc : Thread nD τ).loc main_arg3)) (A c)) :
    θ_run (defs (F := Ideal)) (onTc (τ := τ) (main (F := Ideal))) ⟨m, fun _ => 0, g⟩ (fun r => ∀ c : Dev nD,
      r.2.mem ((c.tc : Thread nD τ).loc main_v192) = (fun y => ((A c).dq (y 0) (y 1) : EReal))
      ∧ r.2.mem ((c.tc : Thread nD τ).loc main_v193) = (fun y => ((A c).dkv (y 0) (y 1) : EReal))
      ∧ r.2.mem ((c.tc : Thread nD τ).loc main_v191) = (fun y => ((A c).dz (y 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c).1.trans ((val_main_v192_eq (launchContents m c)).trans (funext fun y => ?_)),
    (h c).2.1.trans ((val_main_v193_eq (launchContents m c)).trans (funext fun y => ?_)),
    (h c).2.2.1.trans ((val_main_v191_eq (launchContents m c)).trans (funext fun y => ?_)), (h c).2.2.2⟩) (Cert.ReferenceIdeal.Value.run (F := Ideal) m g)
  · obtain ⟨a, b, rfl⟩ : ∃ (a : Fin 4096) (b : Fin 1024), y = ValueIdx.ix2 a b := ⟨y 0, y 1, ValueIdx.eq_ix2 y⟩
    exact final192 (H c) a b
  · obtain ⟨a, b, rfl⟩ : ∃ (a : Fin 4096) (b : Fin 256), y = ValueIdx.ix2 a b := ⟨y 0, y 1, ValueIdx.eq_ix2 y⟩
    exact final193 (H c) a b
  · obtain ⟨a, b, rfl⟩ : ∃ (a : Fin 1) (b : Fin 128), y = ValueIdx.ix2 a b := ⟨y 0, y 1, ValueIdx.eq_ix2 y⟩
    obtain rfl : a = 0 := Subsingleton.elim _ _
    exact final191 (H c) b

end Reference

/-- Kernel and reference end with the same three gradients, from arguments that are real numbers. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hm
  let A : Dev Cert.KernelIdeal.nD → Cert.KernelIdeal.Attn.RA := fun c => Cert.FiniteArgs.reals
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
  have H : ∀ c, Cert.KernelIdeal.Attn.Holds m c (A c) := fun c =>
    have b := Cert.FiniteArgs.bits (hp c)
    ⟨fun r k => b.1 _, fun r k => b.2.1 _, fun k => b.2.2.1 _, fun r k => b.2.2.2 _⟩
  have H' : ∀ c : Dev Cert.ReferenceIdeal.nD, Cert.ReferenceIdeal.Attn.In
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (A c) := fun c =>
    ⟨fun r k => (congrFun (hm c).1 _).trans ((H c).q r k), fun r k => (congrFun (hm c).2.1 _).trans ((H c).kv r k),
      fun k => (congrFun (hm c).2.2.1 _).trans ((H c).z k), fun r k => (congrFun (hm c).2.2.2 _).trans ((H c).d r k)⟩
  exact ⟨_, _, _, kernel_run m g A H, reference_run m' g' A H'⟩

/-- The gradient through the feed-forward's first product and the norm before it: kernel and reference end with the same two arrays. -/
theorem value2 : Cert.algebraic_Kernel2Ideal_Reference2Ideal (hKernel2Ideal := Cert.Kernel2Ideal.Gen.facts) (hReference2Ideal := Cert.Reference2Ideal.Gen.facts) := by
  intro m g m' g' _ hm
  refine ⟨_, _, Cert.Kernel2Ideal.Dxn.kernel_run m g, (θ_run _ _ _).mono (fun r h c => ?_) (Cert.Reference2Ideal.Dxn.run m' g')⟩
  have e := h c
  rw [(hm c).1, (hm c).2.1, (hm c).2.2.1, (hm c).2.2.2.1, (hm c).2.2.2.2] at e ⊢
  exact e

/-- The gradient of the second product's weight: kernel and reference end with the same array. -/
theorem value4 : Cert.algebraic_Kernel4Ideal_Reference4Ideal (hKernel4Ideal := Cert.Kernel4Ideal.Gen.facts) (hReference4Ideal := Cert.Reference4Ideal.Gen.facts) := by
  intro m g m' g' _ hm
  refine ⟨_, Cert.Kernel4Ideal.Dwdown.kernel_run m g, (θ_run _ _ _).mono (fun r h c => ?_) (Cert.Reference4Ideal.Dwdown.run m' g')⟩
  have e := h c
  rw [(hm c).1, (hm c).2] at e ⊢
  exact e

/-- The gradient at the second product's input: kernel and reference end with the same array. -/
theorem value5 : Cert.algebraic_Kernel5Ideal_Reference5Ideal (hKernel5Ideal := Cert.Kernel5Ideal.Gen.facts) (hReference5Ideal := Cert.Reference5Ideal.Gen.facts) := by
  intro m g m' g' _ hm
  refine ⟨_, Cert.Kernel5Ideal.Dact.kernel_run m g, (θ_run _ _ _).mono (fun r h c => ?_) (Cert.Reference5Ideal.Dact.run m' g')⟩
  have e := h c
  rw [(hm c).1, (hm c).2] at e ⊢
  exact e

/-- The first product of the feed-forward block. -/
theorem value6 : Cert.algebraic_Kernel6Ideal_Reference6Ideal (hKernel6Ideal := Cert.Kernel6Ideal.Gen.facts) (hReference6Ideal := Cert.Reference6Ideal.Gen.facts) := by
  intro m g m' g' _ hm
  refine ⟨_, Cert.Kernel6Ideal.Up.kernel_run m g, (θ_run _ _ _).mono (fun r h c => ?_) (Cert.Reference6Ideal.Up.run m' g')⟩
  have e := h c
  rw [(hm c).1, (hm c).2.1, (hm c).2.2] at e ⊢
  exact e

/-- Its second product, onto the residual stream. -/
theorem value7 : Cert.algebraic_Kernel7Ideal_Reference7Ideal (hKernel7Ideal := Cert.Kernel7Ideal.Gen.facts) (hReference7Ideal := Cert.Reference7Ideal.Gen.facts) := by
  intro m g m' g' _ hm
  refine ⟨_, Cert.Kernel7Ideal.Down.kernel_run m g, (θ_run _ _ _).mono (fun r h c => ?_) (Cert.Reference7Ideal.Down.run m' g')⟩
  have e := h c
  rw [(hm c).1, (hm c).2.1, (hm c).2.2] at e ⊢
  exact e

/-- The gradient of the first weight. -/
theorem value3 : Cert.algebraic_Kernel3Ideal_Reference3Ideal (hKernel3Ideal := Cert.Kernel3Ideal.Gen.facts) (hReference3Ideal := Cert.Reference3Ideal.Gen.facts) := by
  intro m g m' g' _ hm
  refine ⟨_, Cert.Kernel3Ideal.Dwup.kernel_run m g, (θ_run _ _ _).mono (fun r h c => ?_) (Cert.Reference3Ideal.Dwup.run m' g')⟩
  have e := h c
  rw [(hm c).1, (hm c).2.1, (hm c).2.2] at e ⊢
  exact e

/-- The gradient through the mixer's input product and the norm before it: kernel and reference end with the same two arrays. -/
theorem value9 : Cert.algebraic_Kernel9Ideal_Reference9Ideal (hKernel9Ideal := Cert.Kernel9Ideal.Gen.facts) (hReference9Ideal := Cert.Reference9Ideal.Gen.facts) := by
  intro m g m' g' _ hm
  refine ⟨_, _, Cert.Kernel9Ideal.HgDxn.kernel_run m g, (θ_run _ _ _).mono (fun r h c => ?_) (Cert.Reference9Ideal.HgDxn.run m' g')⟩
  have e := h c
  rw [(hm c).1, (hm c).2.1, (hm c).2.2.1, (hm c).2.2.2.1, (hm c).2.2.2.2] at e ⊢
  exact e

/-- The mixer's input product: kernel and reference end with the same array. -/
theorem value8 : Cert.algebraic_Kernel8Ideal_Reference8Ideal (hKernel8Ideal := Cert.Kernel8Ideal.Gen.facts) (hReference8Ideal := Cert.Reference8Ideal.Gen.facts) := by
  intro m g m' g' _ hm
  refine ⟨_, Cert.Kernel8Ideal.HgIn.kernel_run m g, (θ_run _ _ _).mono (fun r h c => ?_) (Cert.Reference8Ideal.HgIn.run m' g')⟩
  have e := h c
  rw [(hm c).1, (hm c).2.1, (hm c).2.2] at e ⊢
  exact e

/-- The gradient of the mixer's input weight: kernel and reference end with the same array. -/
theorem value10 : Cert.algebraic_Kernel10Ideal_Reference10Ideal (hKernel10Ideal := Cert.Kernel10Ideal.Gen.facts) (hReference10Ideal := Cert.Reference10Ideal.Gen.facts) := by
  intro m g m' g' _ hm
  refine ⟨_, Cert.Kernel10Ideal.HgDwin.kernel_run m g, (θ_run _ _ _).mono (fun r h c => ?_) (Cert.Reference10Ideal.HgDwin.run m' g')⟩
  have e := h c
  rw [(hm c).1, (hm c).2.1, (hm c).2.2] at e ⊢
  exact e

/-! The products' frames over float words: their text is the ideal programs', so the ideal programs' runs serve both. -/

/-- The two programs of the first product's gradient run the same bodies. -/
theorem body2 : Cert.Kernel2.defs₀ (F := Bits) = Cert.Kernel2Ideal.defs₀ (F := Bits) :=
  congrArg Defs.onTc (funext fun l => funext fun p => match l, p with | 0, (_, _) => rfl)

theorem frame2 : Cert.quiescent_Kernel2 := fun m ρ _ => by
  rw [show Cert.Kernel2.defs (F := Bits) = Cert.Kernel2Ideal.defs (F := Bits) from congrArg (Pipeline.defs Cert.Kernel2.pcfgs) body2]
  exact Cert.Kernel2Ideal.Gen.frame (F := Bits) m ρ

/-- The two programs of the second weight's gradient run the same bodies. -/
theorem body4 : Cert.Kernel4.defs₀ (F := Bits) = Cert.Kernel4Ideal.defs₀ (F := Bits) :=
  congrArg Defs.onTc (funext fun l => funext fun p => match l, p with | 0, (_, _) => rfl)

theorem frame4 : Cert.quiescent_Kernel4 := fun m ρ _ => by
  rw [show Cert.Kernel4.defs (F := Bits) = Cert.Kernel4Ideal.defs (F := Bits) from congrArg (Pipeline.defs Cert.Kernel4.pcfgs) body4]
  exact Cert.Kernel4Ideal.Gen.frame (F := Bits) m ρ

/-- The two programs of the gradient at the second product's input run the same bodies. -/
theorem body5 : Cert.Kernel5.defs₀ (F := Bits) = Cert.Kernel5Ideal.defs₀ (F := Bits) :=
  congrArg Defs.onTc (funext fun l => funext fun p => match l, p with | 0, (_, _) => rfl)

theorem frame5 : Cert.quiescent_Kernel5 := fun m ρ _ => by
  rw [show Cert.Kernel5.defs (F := Bits) = Cert.Kernel5Ideal.defs (F := Bits) from congrArg (Pipeline.defs Cert.Kernel5.pcfgs) body5]
  exact Cert.Kernel5Ideal.Gen.frame (F := Bits) m ρ

/-- The two programs of the first product run the same bodies. -/
theorem body6 : Cert.Kernel6.defs₀ (F := Bits) = Cert.Kernel6Ideal.defs₀ (F := Bits) :=
  congrArg Defs.onTc (funext fun l => funext fun p => match l, p with | 0, (_, _) => rfl)

theorem frame6 : Cert.quiescent_Kernel6 := fun m ρ _ => by
  rw [show Cert.Kernel6.defs (F := Bits) = Cert.Kernel6Ideal.defs (F := Bits) from congrArg (Pipeline.defs Cert.Kernel6.pcfgs) body6]
  exact Cert.Kernel6Ideal.Gen.frame (F := Bits) m ρ

/-- The two programs of the second product run the same bodies. -/
theorem body7 : Cert.Kernel7.defs₀ (F := Bits) = Cert.Kernel7Ideal.defs₀ (F := Bits) :=
  congrArg Defs.onTc (funext fun l => funext fun p => match l, p with | 0, (_, _) => rfl)

theorem frame7 : Cert.quiescent_Kernel7 := fun m ρ _ => by
  rw [show Cert.Kernel7.defs (F := Bits) = Cert.Kernel7Ideal.defs (F := Bits) from congrArg (Pipeline.defs Cert.Kernel7.pcfgs) body7]
  exact Cert.Kernel7Ideal.Gen.frame (F := Bits) m ρ

/-- The two programs of the first weight's gradient run the same bodies. -/
theorem body3 : Cert.Kernel3.defs₀ (F := Bits) = Cert.Kernel3Ideal.defs₀ (F := Bits) :=
  congrArg Defs.onTc (funext fun l => funext fun p => match l, p with | 0, (_, _) => rfl)

theorem frame3 : Cert.quiescent_Kernel3 := fun m ρ _ => by
  rw [show Cert.Kernel3.defs (F := Bits) = Cert.Kernel3Ideal.defs (F := Bits) from congrArg (Pipeline.defs Cert.Kernel3.pcfgs) body3]
  exact Cert.Kernel3Ideal.Dwup.frame (F := Bits) m ρ

/-- The two programs of the mixer's input product run the same bodies. -/
theorem body8 : Cert.Kernel8.defs₀ (F := Bits) = Cert.Kernel8Ideal.defs₀ (F := Bits) :=
  congrArg Defs.onTc (funext fun l => funext fun p => match l, p with | 0, (_, _) => rfl)

theorem frame8 : Cert.quiescent_Kernel8 := fun m ρ _ => by
  rw [show Cert.Kernel8.defs (F := Bits) = Cert.Kernel8Ideal.defs (F := Bits) from congrArg (Pipeline.defs Cert.Kernel8.pcfgs) body8]
  exact Cert.Kernel8Ideal.Gen.frame (F := Bits) m ρ

/-- The two programs of its gradient run the same bodies. -/
theorem body9 : Cert.Kernel9.defs₀ (F := Bits) = Cert.Kernel9Ideal.defs₀ (F := Bits) :=
  congrArg Defs.onTc (funext fun l => funext fun p => match l, p with | 0, (_, _) => rfl)

theorem frame9 : Cert.quiescent_Kernel9 := fun m ρ _ => by
  rw [show Cert.Kernel9.defs (F := Bits) = Cert.Kernel9Ideal.defs (F := Bits) from congrArg (Pipeline.defs Cert.Kernel9.pcfgs) body9]
  exact Cert.Kernel9Ideal.Gen.frame (F := Bits) m ρ

/-- The two programs of that gradient run the same bodies. -/
theorem body10 : Cert.Kernel10.defs₀ (F := Bits) = Cert.Kernel10Ideal.defs₀ (F := Bits) :=
  congrArg Defs.onTc (funext fun l => funext fun p => match l, p with | 0, (_, _) => rfl)

theorem frame10 : Cert.quiescent_Kernel10 := fun m ρ _ => by
  rw [show Cert.Kernel10.defs (F := Bits) = Cert.Kernel10Ideal.defs (F := Bits) from congrArg (Pipeline.defs Cert.Kernel10.pcfgs) body10]
  exact Cert.Kernel10Ideal.HgDwin.frame (F := Bits) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.Gen.facts,
  fun m ρ _ => Cert.Kernel.Attn.frame m ρ,
  fun m ρ _ => Cert.KernelIdeal.Attn.frame m ρ,
  fun m ρ _ => Cert.KernelIdeal.Attn.frame m ρ,
  fun m ρ _ => reference_frame m ρ,
  fun m ρ _ => reference_frame m ρ,
  frame2, fun m ρ _ => Cert.Kernel2Ideal.Gen.frame m ρ, fun m ρ _ => Cert.Reference2Ideal.Dxn.frame m ρ,
  frame3, fun m ρ _ => Cert.Kernel3Ideal.Dwup.frame m ρ, fun m ρ _ => Cert.Reference3Ideal.Dwup.frame m ρ,
  frame4, fun m ρ _ => Cert.Kernel4Ideal.Gen.frame m ρ, fun m ρ _ => Cert.Reference4Ideal.Dwdown.frame m ρ,
  frame5, fun m ρ _ => Cert.Kernel5Ideal.Gen.frame m ρ, fun m ρ _ => Cert.Reference5Ideal.Dact.frame m ρ,
  frame6, fun m ρ _ => Cert.Kernel6Ideal.Gen.frame m ρ, fun m ρ _ => Cert.Reference6Ideal.Up.frame m ρ,
  frame7, fun m ρ _ => Cert.Kernel7Ideal.Gen.frame m ρ, fun m ρ _ => Cert.Reference7Ideal.Down.frame m ρ,
  frame8, fun m ρ _ => Cert.Kernel8Ideal.Gen.frame m ρ, fun m ρ _ => Cert.Reference8Ideal.HgIn.frame m ρ,
  frame9, fun m ρ _ => Cert.Kernel9Ideal.Gen.frame m ρ, fun m ρ _ => Cert.Reference9Ideal.HgDxn.frame m ρ,
  frame10, fun m ρ _ => Cert.Kernel10Ideal.HgDwin.frame m ρ, fun m ρ _ => Cert.Reference10Ideal.HgDwin.frame m ρ,
  IdealRules.named_const.statement Cert.KernelIdeal.κ "mask" .f32 0xF149F2CA#32 ⊥ rfl,
  value, trivial, value2, trivial, value3, trivial, value4, trivial, value5, trivial, value6, trivial, value7, trivial, value8, trivial, value9, trivial, value10⟩

end Cert.Proof

end
